-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_hw" .f32 0x37A72F05#32 ((1 / 50176 : ℝ) : EReal)
  ∧ IdealRules.named_const.Statement Cert.KernelIdeal.κ "ainv_00" .f32 0x3CD9C314#32 ((21 / 790 : ℝ) : EReal)
  ∧ IdealRules.named_const.Statement Cert.KernelIdeal.κ "ainv_01" .f32 0xBBCF6475#32 ((-1 / 158 : ℝ) : EReal)
  ∧ IdealRules.named_const.Statement Cert.KernelIdeal.κ "ainv_11" .f32 0x3CCF6475#32 ((2 / 79 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2x32x3x224x224 : Shape := ⟨6, ![1, 2, 32, 3, 224, 224]⟩
abbrev S1x1x768 : Shape := ⟨3, ![1, 1, 768]⟩
abbrev S768x768 : Shape := ⟨2, ![768, 768]⟩
abbrev S768 : Shape := ⟨1, ![768]⟩
abbrev S3x768 : Shape := ⟨2, ![3, 768]⟩
abbrev S_ : Shape := ⟨0, ![]⟩

class Facts : Prop where
  bcast_S_S1x2x32x3x224x224 : S_.BroadcastsInDim S1x2x32x3x224x224 (![] : Fin 0 → Fin S1x2x32x3x224x224.rank)
  reducesTo_S1x2x32x3x224x224_S_d0_1_2_3_4_5 : S1x2x32x3x224x224.ReducesTo [0, 1, 2, 3, 4, 5] S_
  h_S_ : 0 < S_.numel
  bcast_S_S1x1x768 : S_.BroadcastsInDim S1x1x768 (![] : Fin 0 → Fin S1x1x768.rank)
  reducesTo_S1x1x768_S_d0_1_2 : S1x1x768.ReducesTo [0, 1, 2] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S3x768 : S_.BroadcastsInDim S3x768 (![] : Fin 0 → Fin S3x768.rank)
  reducesTo_S3x768_S_d0_1 : S3x768.ReducesTo [0, 1] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S768x768 .f32) (main_arg5 : FVec F S768 .f32) (main_arg6 : FVec F S3x768 .f32) (main_arg7 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S3x768 .f32 := Host.absf main_arg6
  let main_cst_10 : FVec F S_ .f32 := constant S_ .f32 0x7F800000#32
  let main_v30 : FVec F S3x768 .f32 := broadcastInDim S3x768 ![] bcast_S_S3x768 main_cst_10
  let main_v31 : IVec S3x768 1 := cmpf .olt main_v29 main_v30
  let main_c_11 : IVec S_ 1 := constantI S_ 1 1#1
  let main_v32 : IVec S_ 1 := (fun x v => Host.reduce IntOp.andi x v reducesTo_S3x768_S_d0_1 h_S_) main_v31 main_c_11
  let main_v33 : IVec S_ 1 := andi main_v28 main_v32
  fn_part2 (F := F) main_arg7 main_v33

def fn {F : FTy → Type} [FloatOps F] (main_arg0 : FVec F S1x2x32x3x224x224 .f32) (main_arg1 : FVec F S1x1x768 .f32) (main_arg2 : FVec F S768x768 .f32) (main_arg3 : FVec F S768 .f32) (main_arg4 : FVec F S768x768 .f32) (main_arg5 : FVec F S768 .f32) (main_arg6 : FVec F S3x768 .f32) (main_arg7 : FVec F S768 .f32) : IVec S_ 1 :=
  let main_v0 : FVec F S1x2x32x3x224x224 .f32 := Host.absf main_arg0
  let main_cst : FVec F S_ .f32 := constant S_ .f32 0x7F800000#32
  let main_v1 : FVec F S1x2x32x3x224x224 .f32 := broadcastInDim S1x2x32x3x224x224 ![] bcast_S_S1x2x32x3x224x224 main_cst
  let main_v2 : IVec S1x2x32x3x224x224 1 := cmpf .olt main_v0 main_v1
  let main_c : IVec S_ 1 := constantI S_ 1 1#1
  let main_v3 : IVec S_ 1 := (fun x v => Host.reduce IntOp.andi x v reducesTo_S1x2x32x3x224x224_S_d0_1_2_3_4_5 h_S_) main_v2 main_c
  let main_v4 : FVec F S1x1x768 .f32 := Host.absf main_arg1
  let main_cst_0 : FVec F S_ .f32 := constant S_ .f32 0x7F800000#32
  let main_v5 : FVec F S1x1x768 .f32 := broadcastInDim S1x1x768 ![] bcast_S_S1x1x768 main_cst_0
  let main_v6 : IVec S1x1x768 1 := cmpf .olt main_v4 main_v5
  let main_c_1 : IVec S_ 1 := constantI S_ 1 1#1
  let main_v7 : IVec S_ 1 := (fun x v => Host.reduce IntOp.andi x v reducesTo_S1x1x768_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S1x2x32x3x224x224 : Shape := ⟨6, ![1, 2, 32, 3, 224, 224]⟩
abbrev S1x1x768 : Shape := ⟨3, ![1, 1, 768]⟩
abbrev S768x768 : Shape := ⟨2, ![768, 768]⟩
abbrev S768 : Shape := ⟨1, ![768]⟩
abbrev S3x768 : Shape := ⟨2, ![3, 768]⟩
abbrev S8 : Shape := ⟨1, ![8]⟩
abbrev S64x3x224x224 : Shape := ⟨4, ![64, 3, 224, 224]⟩
abbrev S1x768 : Shape := ⟨2, ![1, 768]⟩
abbrev S2x32 : Shape := ⟨2, ![2, 32]⟩
abbrev S2x8 : Shape := ⟨2, ![2, 8]⟩
abbrev S1x3x224x224 : Shape := ⟨4, ![1, 3, 224, 224]⟩
abbrev S1 : Shape := ⟨1, ![1]⟩
abbrev S8x3 : Shape := ⟨2, ![8, 3]⟩
abbrev S1x3 : Shape := ⟨2, ![1, 3]⟩
abbrev S8x768 : Shape := ⟨2, ![8, 768]⟩
abbrev S8x1 : Shape := ⟨2, ![8, 1]⟩
abbrev S2x4 : Shape := ⟨2, ![2, 4]⟩
abbrev S2 : Shape := ⟨1, ![2]⟩
abbrev S2x1 : Shape := ⟨2, ![2, 1]⟩
abbrev S_ : Shape := ⟨0, ![]⟩
abbrev S16x3x224x224 : Shape := ⟨4, ![16, 3, 224, 224]⟩
abbrev S1x1x224x224 : Shape := ⟨4, ![1, 1, 224, 224]⟩
abbrev S1x1 : Shape := ⟨2, ![1, 1]⟩
abbrev S1x2x8x3x224x224 : Shape := ⟨6, ![1, 2, 8, 3, 224, 224]⟩
abbrev S1x2x32 : Shape := ⟨3, ![1, 2, 32]⟩

abbrev nBuf : Space → Nat
  | .hbm => 20
  | .vmem => 16
  | .smem => 2
  | _ => 0

abbrev bufTy : (tb : Table) → Fin (tcTables nBuf tb) → BufTy
  | .hbm, ⟨0, _⟩ => ⟨S1x2x32x3x224x224, .f32⟩
  | .hbm, ⟨1, _⟩ => ⟨S1x1x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S3x768, .f32⟩
  | .hbm, ⟨7, _⟩ => ⟨S768, .f32⟩
  | .hbm, ⟨8, _⟩ => ⟨S64x3x224x224, .f32⟩
  | .hbm, ⟨9, _⟩ => ⟨S1x768, .f32⟩
  | .hbm, ⟨10, _⟩ => ⟨S1x768, .f32⟩
  | .hbm, ⟨11, _⟩ => ⟨S1x768, .f32⟩
  | .hbm, ⟨12, _⟩ => ⟨S1x768, .f32⟩
  | .hbm, ⟨13, _⟩ => ⟨S2x32, .f32⟩
  | .hbm, ⟨14, _⟩ => ⟨S2x8, .i32⟩
  | .hbm, ⟨15, _⟩ => ⟨S_, .i32⟩
  | .hbm, ⟨16, _⟩ => ⟨S2x8, .i32⟩
  | .hbm, ⟨17, _⟩ => ⟨S16x3x224x224, .f32⟩
  | .hbm, ⟨18, _⟩ => ⟨S1x2x8x3x224x224, .f32⟩
  | .hbm, ⟨19, _⟩ => ⟨S1x2x32, .f32⟩
  | .local _ .vmem, ⟨0, _⟩ => ⟨S1x3x224x224, .f32⟩
  | .local _ .vmem, ⟨1, _⟩ => ⟨S1x3x224x224, .f32⟩
  | .local _ .vmem, ⟨2, _⟩ => ⟨S3x768, .f32⟩
  | .local _ .vmem, ⟨3, _⟩ => ⟨S1x768, .f32⟩
  | .local _ .vmem, ⟨4, _⟩ => ⟨S1x768, .f32⟩
  | .local _ .vmem, ⟨5, _⟩ => ⟨S768x768, .f32⟩
  | .local _ .vmem, ⟨6, _⟩ => ⟨S1x768, .f32⟩
  | .local _ .vmem, ⟨7, _⟩ => ⟨S768x768, .f32⟩
  | .local _ .vmem, ⟨8, _⟩ => ⟨S1x768, .f32⟩
  | .local _ .vmem, ⟨9, _⟩ => ⟨S2x32, .f32⟩
  | .local _ .vmem, ⟨10, _⟩ => ⟨S2x8, .i32⟩
  | .local _ .vmem, ⟨11, _⟩ => ⟨S8x3, .f32⟩
  | .local _ .vmem, ⟨12, _⟩ => ⟨S1x1x224x224, .f32⟩
  | .local _ .vmem, ⟨13, _⟩ => ⟨S1x1x224x224, .f32⟩
  | .local _ .vmem, ⟨14, _⟩ => ⟨S1x1x224x224, .f32⟩
  | .local _ .vmem, ⟨15, _⟩ => ⟨S1x1x224x224, .f32⟩
  | .local _ .smem, ⟨0, _⟩ => ⟨S8, .i32⟩
  | .local _ .smem, ⟨1, _⟩ => ⟨S2x8, .i32⟩
  | _, _ => ⟨S1x2x32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_c_0 : Ref sig .tc := ⟨.hbm, 15, rfl⟩
abbrev main_v6 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc1_sem0_0 : DmaSem sig := 11
abbrev cc1_sem0_1 : DmaSem sig := 12
abbrev cc1_sem1_0 : DmaSem sig := 13
abbrev cc1_sem1_1 : DmaSem sig := 14

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v5 : Index := Scalar.indexCast arg0
  let c0_4 : Index := 0#32
  ![v5.toNat, 0]
def k0_cond1 (i : grid0.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32 : BitVec 32 := 0#32
  let v11 : BitVec 1 := Scalar.cmpi .ne v10 c0_i32
  v11

def cc0_transform_0 (k0_off1_inb : ∀ i : grid0.Coords, ∀ a, (k0_off1 i) a + S1.size a ≤ S8.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x8 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![16, 3], ![false, false]⟩

abbrev pre1 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v27 : Index := Scalar.indexCast v16
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v28 : Index := Scalar.indexCast v26
  ![v27.toNat, v28.toNat]
def cc1_transform_0 (k1_off1_inb : ∀ i : grid1.Coords, ∀ a, (k1_off1 i) a + S1x1.size a ≤ S2x8.size a) (numel1_S1x1 : S1x1.numel = 1) (pf : pre1.Contents (Elt F)) (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let v27 : Index := Scalar.indexCast v16
  let v28 : Index := Scalar.indexCast v26
  let v29 : BitVec 32 := pf.at 0 (Rect.unit (s := S2x8) ![v27.toNat, v28.toNat] S1x1.size (k1_off1_inb i)) numel1_S1x1
  let c8_i32_10 : BitVec 32 := 8#32
  let v30 : BitVec 32 := Scalar.divsi arg0 c8_i32_10
  let c0_i32_11 : BitVec 32 := 0#32
  let v31 : BitVec 1 := Scalar.cmpi .sgt arg0 c0_i32_11
  let v32 : BitVec 32 := Scalar.extui v31
  let c0_i32_12 : BitVec 32 := 0#32
  let v33 : BitVec 1 := Scalar.cmpi .slt arg0 c0_i32_12
  let v34 : BitVec 32 := Scalar.extui v33
  let v35 : BitVec 32 := Scalar.subi v32 v34
  let c0_i32_13 : BitVec 32 := 0#32
  let v36 : BitVec 1 := Scalar.cmpi .sgt c8_i32_10 c0_i32_13
  let v37 : BitVec 32 := Scalar.extui v36
  let c0_i32_14 : BitVec 32 := 0#32
  let v38 : BitVec 1 := Scalar.cmpi .slt c8_i32_10 c0_i32_14
  let v39 : BitVec 32 := Scalar.extui v38
  let v40 : BitVec 32 := Scalar.subi v37 v39
  let v41 : BitVec 1 := Scalar.cmpi .ne v35 v40
  let v42 : BitVec 32 := Scalar.remsi arg0 c8_i32_10
  let c0_i32_15 : BitVec 32 := 0#32
  let v43 : BitVec 1 := Scalar.cmpi .ne v42 c0_i32_15
  let v44 : BitVec 1 := Scalar.andi v41 v43
  let c1_i32_16 : BitVec 32 := 1#32
  let v45 : BitVec 32 := Scalar.subi v30 c1_i32_16
  let v46 : BitVec 32 := Scalar.select v44 v45 v30
  let c32_i32 : BitVec 32 := 32#32
  let v47 : BitVec 32 := Scalar.muli v46 c32_i32
  let v48 : BitVec 32 := Scalar.addi v29 v47
  let c0_i32_17 : BitVec 32 := 0#32
  let c0_i32_18 : BitVec 32 := 0#32
  let c0_i32_19 : BitVec 32 := 0#32
  ![v48.toNat, arg1.toNat, c0_i32_17.toNat, c0_i32_18.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x224x224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x224x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== KernelIdeal.lean ====
variable {F : FTy → Type} [FloatOps F] [Named F]
def κ : String → Option EReal := fun
  | "ainv_00" => some ((21 / 790 : ℝ) : EReal)
  | "ainv_01" => some ((-1 / 158 : ℝ) : EReal)
  | "ainv_11" => some ((2 / 79 : ℝ) : EReal)
  | "inv_hw" => some ((1 / 50176 : ℝ) : EReal)
  | _ => none
-- ==== ReferenceIdeal.lean ====
abbrev S1x2x32x3x224x224 : Shape := ⟨6, ![1, 2, 32, 3, 224, 224]⟩
abbrev S1x1x768 : Shape := ⟨3, ![1, 1, 768]⟩
abbrev S768x768 : Shape := ⟨2, ![768, 768]⟩
abbrev S768 : Shape := ⟨1, ![768]⟩
abbrev S3x768 : Shape := ⟨2, ![3, 768]⟩
abbrev S4 : Shape := ⟨1, ![4]⟩
abbrev S3 : Shape := ⟨1, ![3]⟩
abbrev S2x2 : Shape := ⟨2, ![2, 2]⟩
abbrev S32 : Shape := ⟨1, ![32]⟩
abbrev S_ : Shape := ⟨0, ![]⟩
abbrev S4x1 : Shape := ⟨2, ![4, 1]⟩
abbrev S1x2x4x3x224x224 : Shape := ⟨6, ![1, 2, 4, 3, 224, 224]⟩
abbrev S8x3x224x224 : Shape := ⟨4, ![8, 3, 224, 224]⟩
abbrev S8x3 : Shape := ⟨2, ![8, 3]⟩
abbrev S8x768 : Shape := ⟨2, ![8, 768]⟩
abbrev S1x768 : Shape := ⟨2, ![1, 768]⟩
abbrev S2x4x768 : Shape := ⟨3, ![2, 4, 768]⟩
abbrev S2x4x1 : Shape := ⟨3, ![2, 4, 1]⟩
abbrev S2x1x4 : Shape := ⟨3, ![2, 1, 4]⟩
abbrev S2x1 : Shape := ⟨2, ![2, 1]⟩
abbrev S2x1x1 : Shape := ⟨3, ![2, 1, 1]⟩
abbrev S2x4 : Shape := ⟨2, ![2, 4]⟩
abbrev S1x2x4 : Shape := ⟨3, ![1, 2, 4]⟩
abbrev S1x2x3 : Shape := ⟨3, ![1, 2, 3]⟩
abbrev S1x1x3 : Shape := ⟨3, ![1, 1, 3]⟩
abbrev S1x2x2 : Shape := ⟨3, ![1, 2, 2]⟩
abbrev S1x2x1 : Shape := ⟨3, ![1, 2, 1]⟩
abbrev S32x1 : Shape := ⟨2, ![32, 1]⟩
abbrev S1x2x32 : Shape := ⟨3, ![1, 2, 32]⟩
abbrev S1x1x32 : Shape := ⟨3, ![1, 1, 32]⟩
abbrev S2x32 : Shape := ⟨2, ![2, 32]⟩
abbrev S2x8 : Shape := ⟨2, ![2, 8]⟩
abbrev S2x8x1 : Shape := ⟨3, ![2, 8, 1]⟩
abbrev S2x8x32 : Shape := ⟨3, ![2, 8, 32]⟩
abbrev S2x32x8 : Shape := ⟨3, ![2, 32, 8]⟩
abbrev S1x2x32x8 : Shape := ⟨4, ![1, 2, 32, 8]⟩
abbrev S1x2x32x1 : Shape := ⟨4, ![1, 2, 32, 1]⟩
abbrev S1x2x8x32 : Shape := ⟨4, ![1, 2, 8, 32]⟩
abbrev S1x2x8x3x224x224 : Shape := ⟨6, ![1, 2, 8, 3, 224, 224]⟩
abbrev S1x2x8 : Shape := ⟨3, ![1, 2, 8]⟩
abbrev S1x2x8x1x1x1 : Shape := ⟨6, ![1, 2, 8, 1, 1, 1]⟩
abbrev S2x8x3x224x224x1 : Shape := ⟨6, ![2, 8, 3, 224, 224, 1]⟩
abbrev S1 : Shape := ⟨1, ![1]⟩
abbrev S1x1x1x1x1x1 : Shape := ⟨6, ![1, 1, 1, 1, 1, 1]⟩
abbrev S2x8x3x224x224 : Shape := ⟨5, ![2, 8, 3, 224, 224]⟩

abbrev nBuf : Space → Nat
  | .hbm => 228
  | .vmem => 0
  | .smem => 0
  | _ => 0

abbrev hbmTy0_0 (i : Nat) : BufTy := match i % 128 with
  | 0 => ⟨S1x2x32x3x224x224, .f32⟩
  | 1 => ⟨S1x1x768, .f32⟩
  | 2 => ⟨S768x768, .f32⟩
  | 3 => ⟨S768, .f32⟩
  | 4 => ⟨S768x768, .f32⟩
  | 5 => ⟨S768, .f32⟩
  | 6 => ⟨S3x768, .f32⟩
  | 7 => ⟨S768, .f32⟩
  | 8 => ⟨S4, .i32⟩
  | 9 => ⟨S4, .i1⟩
  | 10 => ⟨S3, .i32⟩
  | 11 => ⟨S2x2, .i32⟩
  | 12 => ⟨S32, .i32⟩
  | 13 => ⟨S32, .i32⟩
  | 14 => ⟨S32, .i32⟩
  | 15 => ⟨S32, .i1⟩
  | 16 => ⟨S32, .i1⟩
  | 17 => ⟨S32, .i1⟩
  | 18 => ⟨S32, .i32⟩
  | 19 => ⟨S32, .i1⟩
  | 20 => ⟨S32, .i1⟩
  | 21 => ⟨S32, .i32⟩
  | 22 => ⟨S32, .i1⟩
  | 23 => ⟨S32, .i1⟩
  | 24 => ⟨S_, .i32⟩
  | 25 => ⟨S4, .i32⟩
  | 26 => ⟨S4, .i32⟩
  | 27 => ⟨S4, .i32⟩
  | 28 => ⟨S4x1, .i32⟩
  | 29 => ⟨S1x2x4x3x224x224, .f32⟩
  | 30 => ⟨S8x3x224x224, .f32⟩
  | 31 => ⟨S_, .f32⟩
  | 32 => ⟨S8x3, .f32⟩
  | 33 => ⟨S_, .f32⟩
  | 34 => ⟨S8x3, .f32⟩
  | 35 => ⟨S8x3, .f32⟩
  | 36 => ⟨S8x768, .f32⟩
  | 37 => ⟨S1x768, .f32⟩
  | 38 => ⟨S8x768, .f32⟩
  | 39 => ⟨S8x768, .f32⟩
  | 40 => ⟨S2x4x768, .f32⟩
  | 41 => ⟨S1x1x768, .f32⟩
  | 42 => ⟨S1x1x768, .f32⟩
  | 43 => ⟨S1x1x768, .f32⟩
  | 44 => ⟨S2x4x768, .f32⟩
  | 45 => ⟨S1x1x768, .f32⟩
  | 46 => ⟨S2x4x768, .f32⟩
  | 47 => ⟨S2x4x768, .f32⟩
  | 48 => ⟨S_, .f32⟩
  | 49 => ⟨S1x768, .f32⟩
  | 50 => ⟨S2x4x1, .f32⟩
  | 51 => ⟨S2x1x4, .f32⟩
  | 52 => ⟨S_, .f32⟩
  | 53 => ⟨S2x1x4, .f32⟩
  | 54 => ⟨S2x1x4, .f32⟩
  | 55 => ⟨S_, .f32⟩
  | 56 => ⟨S2x1, .f32⟩
  | 57 => ⟨S_, .f32⟩
  | 58 => ⟨S2x1, .f32⟩
  | 59 => ⟨S2x1, .f32⟩
  | 60 => ⟨S2x1x1, .f32⟩
  | 61 => ⟨S2x1x4, .f32⟩
  | 62 => ⟨S2x1x4, .f32⟩
  | 63 => ⟨S2x1x4, .f32⟩
  | 64 => ⟨S_, .f32⟩
  | 65 => ⟨S2x1, .f32⟩
  | 66 => ⟨S2x1x1, .f32⟩
  | 67 => ⟨S2x1x4, .f32⟩
  | 68 => ⟨S2x1x4, .f32⟩
  | 69 => ⟨S_, .f32⟩
  | 70 => ⟨S2x4, .f32⟩
  | 71 => ⟨S1x2x4, .f32⟩
  | 72 => ⟨S3, .f32⟩
  | 73 => ⟨S1x2x3, .f32⟩
  | 74 => ⟨S1x2x3, .f32⟩
  | 75 => ⟨S1x2x3, .f32⟩
  | 76 => ⟨S1x1x3, .f32⟩
  | 77 => ⟨S1x2x3, .f32⟩
  | 78 => ⟨S1x2x3, .f32⟩
  | 79 => ⟨S1x2x2, .f32⟩
  | 80 => ⟨S1x2x2, .f32⟩
  | 81 => ⟨S1x2x2, .f32⟩
  | 82 => ⟨S_, .f32⟩
  | 83 => ⟨S1x2x2, .f32⟩
  | 84 => ⟨S1x2x2, .f32⟩
  | 85 => ⟨S2x2, .f32⟩
  | 86 => ⟨S_, .f32⟩
  | 87 => ⟨S2x2, .f32⟩
  | 88 => ⟨S2x2, .f32⟩
  | 89 => ⟨S2x2, .f32⟩
  | 90 => ⟨S1x2x2, .f32⟩
  | 91 => ⟨S_, .f32⟩
  | 92 => ⟨S1x2x1, .f32⟩
  | 93 => ⟨S1x2x4, .f32⟩
  | 94 => ⟨S32, .f32⟩
  | 95 => ⟨S32, .f32⟩
  | 96 => ⟨S_, .i32⟩
  | 97 => ⟨S32, .i32⟩
  | 98 => ⟨S32, .i32⟩
  | 99 => ⟨S32, .i32⟩
  | 100 => ⟨S32x1, .i32⟩
  | 101 => ⟨S1x2x32, .f32⟩
  | 102 => ⟨S_, .i32⟩
  | 103 => ⟨S32, .i32⟩
  | 104 => ⟨S32, .i32⟩
  | 105 => ⟨S32, .i32⟩
  | 106 => ⟨S32x1, .i32⟩
  | 107 => ⟨S1x2x32, .f32⟩
  | 108 => ⟨S_, .i32⟩
  | 109 => ⟨S32, .i32⟩
  | 110 => ⟨S32, .i32⟩
  | 111 => ⟨S32, .i32⟩
  | 112 => ⟨S32x1, .i32⟩
  | 113 => ⟨S1x2x32, .f32⟩
  | 114 => ⟨S_, .f32⟩
  | 115 => ⟨S1x2x32, .f32⟩
  | 116 => ⟨S1x2x32, .f32⟩
  | 117 => ⟨S_, .i32⟩
  | 118 => ⟨S32, .i32⟩
  | 119 => ⟨S32, .i32⟩
  | 120 => ⟨S32, .i32⟩
  | 121 => ⟨S32x1, .i32⟩
  | 122 => ⟨S1x2x32, .f32⟩
  | 123 => ⟨S1x2x32, .f32⟩
  | 124 => ⟨S1x1x32, .f32⟩
  | 125 => ⟨S1x2x32, .f32⟩
  | 126 => ⟨S1x2x32, .f32⟩
  | 127 => ⟨S_, .f32⟩
  | _ => ⟨S1x2x32x3x224x224, .f32⟩

abbrev hbmTy0_1 (i : Nat) : BufTy := match i % 128 with
  | 0 => ⟨S1x2x32, .f32⟩
  | 1 => ⟨S1x2x32, .f32⟩
  | 2 => ⟨S1x2x32, .f32⟩
  | 3 => ⟨S_, .i32⟩
  | 4 => ⟨S32, .i32⟩
  | 5 => ⟨S32, .i32⟩
  | 6 => ⟨S32, .i32⟩
  | 7 => ⟨S32x1, .i32⟩
  | 8 => ⟨S1x2x32, .f32⟩
  | 9 => ⟨S_, .f32⟩
  | 10 => ⟨S1x2x32, .f32⟩
  | 11 => ⟨S1x2x32, .f32⟩
  | 12 => ⟨S_, .i32⟩
  | 13 => ⟨S32, .i32⟩
  | 14 => ⟨S32, .i32⟩
  | 15 => ⟨S32, .i32⟩
  | 16 => ⟨S32x1, .i32⟩
  | 17 => ⟨S1x2x32, .f32⟩
  | 18 => ⟨S_, .i32⟩
  | 19 => ⟨S32, .i32⟩
  | 20 => ⟨S32, .i32⟩
  | 21 => ⟨S32, .i32⟩
  | 22 => ⟨S32x1, .i32⟩
  | 23 => ⟨S1x2x32, .f32⟩
  | 24 => ⟨S1x2x32, .f32⟩
  | 25 => ⟨S_, .f32⟩
  | 26 => ⟨S32, .f32⟩
  | 27 => ⟨S32, .f32⟩
  | 28 => ⟨S1x1x32, .f32⟩
  | 29 => ⟨S1x2x32, .f32⟩
  | 30 => ⟨S1x2x32, .f32⟩
  | 31 => ⟨S1x1x32, .f32⟩
  | 32 => ⟨S1x2x32, .f32⟩
  | 33 => ⟨S1x2x32, .f32⟩
  | 34 => ⟨S1x2x32, .f32⟩
  | 35 => ⟨S32, .f32⟩
  | 36 => ⟨S1x1x32, .f32⟩
  | 37 => ⟨S1x2x32, .f32⟩
  | 38 => ⟨S1x2x32, .f32⟩
  | 39 => ⟨S1x2x32, .f32⟩
  | 40 => ⟨S32, .f32⟩
  | 41 => ⟨S32, .f32⟩
  | 42 => ⟨S1x1x32, .f32⟩
  | 43 => ⟨S1x2x32, .f32⟩
  | 44 => ⟨S1x2x32, .f32⟩
  | 45 => ⟨S1x2x32, .f32⟩
  | 46 => ⟨S2x32, .f32⟩
  | 47 => ⟨S2x8, .f32⟩
  | 48 => ⟨S2x8, .i32⟩
  | 49 => ⟨S2x8x1, .i32⟩
  | 50 => ⟨S1x1x32, .i32⟩
  | 51 => ⟨S2x8x32, .i32⟩
  | 52 => ⟨S2x8x32, .i32⟩
  | 53 => ⟨S2x8x32, .i1⟩
  | 54 => ⟨S2x8x32, .f32⟩
  | 55 => ⟨S2x32x8, .f32⟩
  | 56 => ⟨S1x2x32x8, .f32⟩
  | 57 => ⟨S1x2x32x8, .f32⟩
  | 58 => ⟨S_, .f32⟩
  | 59 => ⟨S1x2x32, .f32⟩
  | 60 => ⟨S1x2x32x1, .f32⟩
  | 61 => ⟨S_, .f32⟩
  | 62 => ⟨S1x2x32x1, .f32⟩
  | 63 => ⟨S1x2x32x1, .f32⟩
  | 64 => ⟨S1x2x32x8, .f32⟩
  | 65 => ⟨S1x2x32x8, .f32⟩
  | 66 => ⟨S1x2x8x32, .f32⟩
  | 67 => ⟨S1x2x8x3x224x224, .f32⟩
  | 68 => ⟨S1x2x8x32, .i32⟩
  | 69 => ⟨S_, .f32⟩
  | 70 => ⟨S_, .i32⟩
  | 71 => ⟨S1x2x8, .f32⟩
  | 72 => ⟨S1x2x8, .i32⟩
  | 73 => ⟨S1x2x8x1x1x1, .i32⟩
  | 74 => ⟨S1x2x8x3x224x224, .i32⟩
  | 75 => ⟨S_, .i32⟩
  | 76 => ⟨S1x2x8x3x224x224, .i32⟩
  | 77 => ⟨S1x2x8x3x224x224, .i1⟩
  | 78 => ⟨S_, .i32⟩
  | 79 => ⟨S1x2x8x3x224x224, .i32⟩
  | 80 => ⟨S1x2x8x3x224x224, .i32⟩
  | 81 => ⟨S1x2x8x3x224x224, .i32⟩
  | 82 => ⟨S2x8x3x224x224x1, .i32⟩
  | 83 => ⟨S1, .i32⟩
  | 84 => ⟨S_, .i32⟩
  | 85 => ⟨S2x8x3x224x224x1, .i32⟩
  | 86 => ⟨S2x8x3x224x224x1, .i1⟩
  | 87 => ⟨S1x1x1x1x1x1, .i32⟩
  | 88 => ⟨S2x8x3x224x224x1, .i32⟩
  | 89 => ⟨S2x8x3x224x224x1, .i1⟩
  | 90 => ⟨S2x8x3x224x224x1, .i1⟩
  | 91 => ⟨S_, .i1⟩
  | 92 => ⟨S2x8x3x224x224, .i1⟩
  | 93 => ⟨S1x2x8x3x224x224, .f32⟩
  | 94 => ⟨S1x2x8x3x224x224, .i1⟩
  | 95 => ⟨S_, .f32⟩
  | 96 => ⟨S1x2x8x3x224x224, .f32⟩
  | 97 => ⟨S1x2x8x3x224x224, .f32⟩
  | 98 => ⟨S1x2x8x3x224x224, .f32⟩
  | 99 => ⟨S1x2x8x3x224x224, .f32⟩
  | _ => ⟨S1x2x32x3x224x224, .f32⟩

abbrev hbmTy (i : Nat) : BufTy := match i / 128 with
  | 0 => hbmTy0_0 i
  | 1 => hbmTy0_1 i
  | _ => ⟨S1x2x32x3x224x224, .f32⟩

abbrev bufTy : (tb : Table) → Fin (tcTables nBuf tb) → BufTy
  | .hbm, ⟨i, _⟩ => hbmTy i
  | _, _ => ⟨S1x2x32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_c_5 : Ref sig .tc := ⟨.hbm, 14, rfl⟩
abbrev main_c_6 : Ref sig .tc := ⟨.hbm, 15, rfl⟩
abbrev main_c_7 : Ref sig .tc := ⟨.hbm, 16, rfl⟩
abbrev main_c_8 : Ref sig .tc := ⟨.hbm, 17, rfl⟩
abbrev main_c_9 : Ref sig .tc := ⟨.hbm, 18, rfl⟩
abbrev main_c_10 : Ref sig .tc := ⟨.hbm, 19, rfl⟩
abbrev main_c_11 : Ref sig .tc := ⟨.hbm, 20, rfl⟩
abbrev main_c_12 : Ref sig .tc := ⟨.hbm, 21, rfl⟩
abbrev main_c_13 : Ref sig .tc := ⟨.hbm, 22, rfl⟩
abbrev main_c_14 : Ref sig .tc := ⟨.hbm, 23, rfl⟩
abbrev main_c_15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_cst_16 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_17 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_18 : Ref sig .tc := ⟨.hbm, 52, rfl⟩
abbrev main_v24 : Ref sig .tc := ⟨.hbm, 53, rfl⟩
abbrev main_v25 : Ref sig .tc := ⟨.hbm, 54, rfl⟩
abbrev main_cst_19 : Ref sig .tc := ⟨.hbm, 55, rfl⟩
abbrev main_v26 : Ref sig .tc := ⟨.hbm, 56, rfl⟩
abbrev main_cst_20 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_21 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_22 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_23 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_24 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_25 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_26 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_27 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_28 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_29 : Ref sig .tc := ⟨.hbm, 114, rfl⟩
abbrev main_v75 : Ref sig .tc := ⟨.hbm, 115, rfl⟩
abbrev main_v76 : Ref sig .tc := ⟨.hbm, 116, rfl⟩
abbrev main_c_30 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_31 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_32 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_33 : Ref sig .tc := ⟨.hbm, 137, rfl⟩
abbrev main_v94 : Ref sig .tc := ⟨.hbm, 138, rfl⟩
abbrev main_v95 : Ref sig .tc := ⟨.hbm, 139, rfl⟩
abbrev main_c_34 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_c_35 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_36 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_values : Ref sig .tc := ⟨.hbm, 175, rfl⟩
abbrev main_indices : Ref sig .tc := ⟨.hbm, 176, rfl⟩
abbrev main_call0_v0 : Ref sig .tc := ⟨.hbm, 177, rfl⟩
abbrev main_call0_v1 : Ref sig .tc := ⟨.hbm, 178, rfl⟩
abbrev main_call0_v2 : Ref sig .tc := ⟨.hbm, 179, rfl⟩
abbrev main_call0_v3 : Ref sig .tc := ⟨.hbm, 180, rfl⟩
abbrev main_call0_v4 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_37 : Ref sig .tc := ⟨.hbm, 186, rfl⟩
abbrev main_v132 : Ref sig .tc := ⟨.hbm, 187, rfl⟩
abbrev main_v133 : Ref sig .tc := ⟨.hbm, 188, rfl⟩
abbrev main_cst_38 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_call1_v0 : Ref sig .tc := ⟨.hbm, 196, rfl⟩
abbrev main_call1_cst : Ref sig .tc := ⟨.hbm, 197, rfl⟩
abbrev main_call1_c : Ref sig .tc := ⟨.hbm, 198, rfl⟩
abbrev main_call1_v1_0 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_call2_c : Ref sig .tc := ⟨.hbm, 203, rfl⟩
abbrev main_call2_v0 : Ref sig .tc := ⟨.hbm, 204, rfl⟩
abbrev main_call2_v1 : Ref sig .tc := ⟨.hbm, 205, rfl⟩
abbrev main_call2_c_0 : Ref sig .tc := ⟨.hbm, 206, rfl⟩
abbrev main_call2_v2 : Ref sig .tc := ⟨.hbm, 207, rfl⟩
abbrev main_call2_v3 : Ref sig .tc := ⟨.hbm, 208, rfl⟩
abbrev main_call2_v4 : Ref sig .tc := ⟨.hbm, 209, rfl⟩
abbrev main_call2_v5 : Ref sig .tc := ⟨.hbm, 210, rfl⟩
abbrev main_call2_c_1 : Ref sig .tc := ⟨.hbm, 211, rfl⟩
abbrev main_call2_c_2 : Ref sig .tc := ⟨.hbm, 212, rfl⟩
abbrev main_call2_v6 : Ref sig .tc := ⟨.hbm, 213, rfl⟩
abbrev main_call2_v7 : Ref sig .tc := ⟨.hbm, 214, rfl⟩
abbrev main_call2_v8 : Ref sig .tc := ⟨.hbm, 215, rfl⟩
abbrev main_call2_v9 : Ref sig .tc := ⟨.hbm, 216, rfl⟩
abbrev main_call2_v10 : Ref sig .tc := ⟨.hbm, 217, rfl⟩
abbrev main_call2_v11 : Ref sig .tc := ⟨.hbm, 218, rfl⟩
abbrev main_call2_c_3 : Ref sig .tc := ⟨.hbm, 219, rfl⟩
abbrev main_call2_v12 : Ref sig .tc := ⟨.hbm, 220, rfl⟩
abbrev main_call2_v13 : Ref sig .tc := ⟨.hbm, 221, rfl⟩
abbrev main_call2_v14 : Ref sig .tc := ⟨.hbm, 222, rfl⟩
abbrev main_call2_cst : Ref sig .tc := ⟨.hbm, 223, rfl⟩
abbrev main_call2_v15 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩

abbrev nD : Nat := 1
abbrev τ : Topo := Topo.v7x

variable {F : FTy → Type} [FloatOps F]
-- ==== Proof.K.Arr.lean ====
/-
  What the first call leaves in its two output arrays: each is written back once, whole, at the last point.
-/
module

public import proofs.«01_k».proof.Proof.K.Region0
public import proofs.«01_k».proof.Proof.K.Select
public import proofs.«01_k».proof.Proof.K.Tables
public import Idealize.ShloMosaic.Lib.Pipeline.ValueKit

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation cellOf)

variable {F : FTy → Type} [FloatOps F]

variable (a : (pcfg0 (F := F)).Adm) (V : (c : Dev nD) → Valuation τ sig (Elt F))

/-- The last point of the first call's grid. -/
abbrev lastPt : Fin (cfg0 a).N := rowPt a 7

theorem whole0_8 : ((cfg0 a).win 8).WholeAt (lastPt a) := by
  refine ⟨(flush0_8 a _).mpr rfl, fun t h => Fin.ext ?_, fun b => ⟨?_, ?_⟩⟩
  · have h1 := (flush0_8 a t).mp h
    have h2 : t.val < 8 := lt_of_lt_of_eq t.isLt (show (cfg0 a).N = 8 from N_0)
    show t.val = 7
    omega
  · have : ∀ b : Fin 2, ((cfg0 a).win 8).index (lastPt a) b = 0 := by intro b; match b with | ⟨0, _⟩ => rfl | ⟨1, _⟩ => rfl
    exact this b
  · have : ∀ b : Fin 2, ((cfg0 a).win 8).xsize ((cfg0 a).grid.coords (lastPt a)) b = ((cfg0 a).win 8).shape.size b := by
      intro b; match b with | ⟨0, _⟩ => rfl | ⟨1, _⟩ => rfl
    exact this b

theorem whole0_9 : ((cfg0 a).win 9).WholeAt (lastPt a) := by
  refine ⟨(flush0_9 a _).mpr rfl, fun t h => Fin.ext ?_, fun b => ⟨?_, ?_⟩⟩
  · have h1 := (flush0_9 a t).mp h
    have h2 : t.val < 8 := lt_of_lt_of_eq t.isLt (show (cfg0 a).N = 8 from N_0)
    show t.val = 7
    omega
  · have : ∀ b : Fin 2, ((cfg0 a).win 9).index (lastPt a) b = 0 := by intro b; match b with | ⟨0, _⟩ => rfl | ⟨1, _⟩ => rfl
    exact this b
  · have : ∀ b : Fin 2, ((cfg0 a).win 9).xsize ((cfg0 a).grid.coords (lastPt a)) b = ((cfg0 a).win 9).shape.size b := by
      intro b; match b with | ⟨0, _⟩ => rfl | ⟨1, _⟩ => rfl
    exact this b

/-- The scores' array. -/
theorem arr0_8 (c : Dev nD) : (dat0 a V c).arrAt 8 (cfg0 a).N = outI a V c (lastPt a) := by
  refine (dat0 a V c).arrAt_eq_of_after_last 8 (lastPt a) (whole0_8 a) _ (fun j => ?_)
  rw [after0_8]
  rfl

/-- The selection's array. -/
theorem arr0_9 (c : Dev nD) : (dat0 a V c).arrAt 9 (cfg0 a).N = outT a V c (lastPt a) := by
  refine (dat0 a V c).arrAt_eq_of_after_last 9 (lastPt a) (whole0_9 a) _ (fun j => ?_)
  rw [after0_9]
  rfl

/-- The selection's entries are nonnegative words. -/
theorem outT_nonneg (c : Dev nD) (t : Fin (cfg0 a).N) (j : S2x8.Idx) : 0 ≤ (outT a V c t j : BitVec 32).toInt := by
  exact (congrArg (fun w : BitVec 32 => 0 ≤ w.toInt) (congrFun (topK_eq (poolAll a V c) (blk0 a V c 1 t) (blk0 a V c 2 t)
    (blk0 a V c 3 t) (blk0 a V c 4 t) (blk0 a V c 5 t) (blk0 a V c 6 t) (blk0 a V c 7 t)) j)).mpr (picks_nonneg _ _)

end Cert.Kernel.Hand
-- ==== Proof.KI.ScoreRun.lean ====
/-
  The first call of the kernel: at point t of its grid of 8 it pools one frame into row t of a scratch block; at the last
  point it computes both outputs, the interpolated scores and the eight best frames, from the whole scratch. Its body
  run, the values it leaves, its proof data and the body obligation. The invariant says which rows the scratch has.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.RegionArraysTS
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The row at the point's offset replaced. -/
def rowPut (d : Vec F S8x3 .f32) (i : grid0.Coords) (w : FVec F S1x3 .f32) : Vec F S8x3 .f32 :=
  VecWindow.put d (k0_off2 i) S1x3.size w

section
variable (p : Vec F S8x3 .f32) (x1 : Vec F S3x768 .f32) (x2 : Vec F S1x768 .f32) (x3 : Vec F S1x768 .f32) (x4 : Vec F S768x768 .f32)
  (x5 : Vec F S1x768 .f32) (x6 : Vec F S768x768 .f32) (x7 : Vec F S1x768 .f32)

/-- The shifted scores exponentiated, and their sums. -/
def w47 : FVec F S2x4 .f32 := k0_pay3 p x1 x2 x3 x4 x5 x6 x7
def w48 : FVec F S2 .f32 := k0_pay4 p x1 x2 x3 x4 x5 x6 x7

section
variable (v47 : FVec F S2x4 .f32) (v48 : FVec F S2 .f32)
/-- The values the interpolation passes between its parts. -/
def w51 : FVec F S2x4 .f32 := k0_pay5 v47 v48
def w99 : FVec F S2x1 .f32 := k0_pay16 (k0_pay10 v47 v48) (k0_pay11 (F := F)) (k0_pay14 v47 v48) (k0_pay15 (F := F))
def w169 : FVec F S2x32 .f32 :=
  k0_pay23 (k0_pay7 v47 v48) (k0_pay13 v47 v48) (w99 v47 v48) (k0_pay17 (F := F))
    (k0_pay18 (w51 v47 v48) (k0_pay6 v47 v48) (k0_pay12 (F := F)) (k0_pay13 v47 v48)) k0_pay19 (k0_pay20 (w51 v47 v48))
    (k0_pay21 (k0_pay10 v47 v48) (k0_pay11 (F := F)) (k0_pay13 v47 v48) (k0_pay14 v47 v48) (k0_pay15 (F := F))) (k0_pay22 (F := F))
def w171 : IVec S2x32 1 := k0_pay24 (iota .tc S2x32 32 [1] iota_S2x32_d1_w32)
def w185 : FVec F S2x1 .f32 := k0_pay25 (k0_pay12 (F := F)) (w99 v47 v48)
def w187 : FVec F S2x32 .f32 := k0_pay26 (k0_pay17 (F := F))
def w191 : FVec F S2x32 .f32 := k0_pay27 (w51 v47 v48) (k0_pay8 v47 v48) (k0_pay12 (F := F)) (w99 v47 v48) (k0_pay17 (F := F))
def w192 : FVec F S2x32 .f32 := k0_pay28 (k0_pay17 (F := F))
def w193 : FVec F S2x32 .f32 := k0_pay29 (w99 v47 v48)
/-- The interpolated scores. -/
def interp₀ : FVec F S2x32 .f32 :=
  k0_pay30 (w169 v47 v48) w171 (w185 v47 v48) (w187 (F := F)) (w191 v47 v48) (w192 (F := F)) (w193 v47 v48)
end

section
variable (v169 : FVec F S2x32 .f32) (v171 : IVec S2x32 1) (v185 : FVec F S2x1 .f32) (v187 v191 v192 v193 : FVec F S2x32 .f32)
/-- The eight rounds of the selection, from the interpolation's last values. -/
def top₀ : IVec S2x8 32 :=
  let v203 : IVec S2x32 32 := iota .tc S2x32 32 [1] iota_S2x32_d1_w32
  let v227 := k0_pay34 v169 v171 v185 v187 v191 v192 v193
  let v237 := k0_pay36 v169 v171 v185 v187 v191 v192 v193
  let v238 : FVec F S2x32 .f32 := k0_pay37 (F := F)
  k0_pay2 v203 (k0_pay31 v169 v171 v185 v187 v191 v192 v193) (k0_pay33 v169 v171 v185 v187 v191 v192 v193)
    (k0_pay35 v169 v171 v185 v187 v191 v192 v193) (k0_pay39 v203 v227 v237 v238) (k0_pay41 v203 v227 v237 v238)
    (k0_pay43 v203 v227 v237 v238) (k0_pay44 v203 v227 v237 v238) (k0_pay45 v203 v227 v237 v238)
end

/-- What the last point leaves in the two outputs, from the scratch and the staged arrays. -/
def interpK : FVec F S2x32 .f32 := interp₀ (w47 p x1 x2 x3 x4 x5 x6 x7) (w48 p x1 x2 x3 x4 x5 x6 x7)
def topK : IVec S2x8 32 :=
  top₀ (w169 (w47 p x1 x2 x3 x4 x5 x6 x7) (w48 p x1 x2 x3 x4 x5 x6 x7)) w171 (w185 (w47 p x1 x2 x3 x4 x5 x6 x7) (w48 p x1 x2 x3 x4 x5 x6 x7))
    (w187 (F := F)) (w191 (w47 p x1 x2 x3 x4 x5 x6 x7) (w48 p x1 x2 x3 x4 x5 x6 x7)) (w192 (F := F)) (w193 (w47 p x1 x2 x3 x4 x5 x6 x7) (w48 p x1 x2 x3 x4 x5 x6 x7))
end

set_option maxHeartbeats 1600000 in
/-- The body at a point before the last: it stores the pooled row and nothing else. -/
theorem scoreRunA (c : Dev nD) (i : grid0.Coords) (arg1 : Memref sig .tc .smem S8 .i32) (harg1 : arg1.IsWhole) (arg2 : Memref sig .tc .vmem S1x3x224x224 .f32) (harg2 : arg2.IsWhole) (arg3 : Memref sig .tc .vmem S3x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S2x32 .f32) (harg10 : arg10.IsWhole) (arg11 : Memref sig .tc .vmem S2x8 .i32) (harg11 : arg11.IsWhole) (arg12 : Memref sig .tc .vmem S8x3 .f32) (harg12 : arg12.IsWhole) (hc : ¬ k0_cond1 i = 1#1)
    (x0 : Vec F S1x3x224x224 .f32) (x1 : Vec F S3x768 .f32) (x2 : Vec F S1x768 .f32) (x3 : Vec F S1x768 .f32) (x4 : Vec F S768x768 .f32) (x5 : Vec F S1x768 .f32) (x6 : Vec F S768x768 .f32) (x7 : Vec F S1x768 .f32) (d : Vec F S8x3 .f32) (d8 : Vec F S2x32 .f32) (d9 : Vec F S2x8 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare (rowPut d i (k0_pay1 x0))) -∗ K ⟨⟩))
      ⊢ wp frame (wpE (defs₀ (F := F)) Variants.none c none) E (cc0__score_body i arg1 harg1 arg2 harg2 arg3 harg3 arg4 harg4 arg5 harg5 arg6 harg6 arg7 harg7 arg8 harg8 arg9 harg9 arg10 harg10 arg11 harg11 arg12 harg12) K := by
  simp only [cc0__score_body_eq_skeleton]; unfold cc0__score_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs
  have e0 : View.readAt (Elt F) arg2.view (Rect.unit (s := S1x3x224x224) ![0, 0, 0, 0] ![1, 3, 224, 224] inb_S1x3x224x224_S1x3x224x224_0_0_0_0).toLoadRect (harg2.unread x0) = x0 := (View.readAt_full _ _ _).trans (harg2.read_unread _)
  have e1 : View.readAt (Elt F) arg3.view (Rect.unit (s := S3x768) ![0, 0] ![3, 768] inb_S3x768_S3x768_0_0).toLoadRect (harg3.unread x1) = x1 := (View.readAt_full _ _ _).trans (harg3.read_unread _)
  have e2 : View.readAt (Elt F) arg4.view (Rect.unit (s := S1x768) ![0, 0] ![1, 768] inb_S1x768_S1x768_0_0).toLoadRect (harg4.unread x2) = x2 := (View.readAt_full _ _ _).trans (harg4.read_unread _)
  have e3 : View.readAt (Elt F) arg5.view (Rect.unit (s := S1x768) ![0, 0] ![1, 768] inb_S1x768_S1x768_0_0).toLoadRect (harg5.unread x3) = x3 := (View.readAt_full _ _ _).trans (harg5.read_unread _)
  have e4 : View.readAt (Elt F) arg6.view (Rect.unit (s := S768x768) ![0, 0] ![768, 768] inb_S768x768_S768x768_0_0).toLoadRect (harg6.unread x4) = x4 := (View.readAt_full _ _ _).trans (harg6.read_unread _)
  have e5 : View.readAt (Elt F) arg7.view (Rect.unit (s := S1x768) ![0, 0] ![1, 768] inb_S1x768_S1x768_0_0).toLoadRect (harg7.unread x5) = x5 := (View.readAt_full _ _ _).trans (harg7.read_unread _)
  have e6 : View.readAt (Elt F) arg8.view (Rect.unit (s := S768x768) ![0, 0] ![768, 768] inb_S768x768_S768x768_0_0).toLoadRect (harg8.unread x6) = x6 := (View.readAt_full _ _ _).trans (harg8.read_unread _)
  have e7 : View.readAt (Elt F) arg9.view (Rect.unit (s := S1x768) ![0, 0] ![1, 768] inb_S1x768_S1x768_0_0).toLoadRect (harg9.unread x7) = x7 := (View.readAt_full _ _ _).trans (harg9.read_unread _)
  have e12 : View.read (Elt F) arg12.view (arg12.view.writes (Elt F) (harg12.unread d)
      [⟨Rect.unit (s := S8x3) (k0_off2 i) ![1, 3] (k0_off2_inb i), k0_pay1 x0⟩]) = rowPut d i (k0_pay1 x0) := by
    refine (View.read_writes_cons_put arg12.view _ _ _ _ rfl).trans ?_
    rw [View.writes_nil, harg12.read_unread]
    rfl
  have e13 : View.readAt (Elt F) arg12.view (Rect.unit (s := S8x3) ![0, 0] ![8, 3] inb_S8x3_S8x3_0_0).toLoadRect (arg12.view.writes (Elt F) (harg12.unread d)
      [⟨Rect.unit (s := S8x3) (k0_off2 i) ![1, 3] (k0_off2_inb i), k0_pay1 x0⟩]) = rowPut d i (k0_pay1 x0) :=
    (View.readAt_full _ _ _).trans e12
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  iexists _; isplitr; swap; · iexact HS
  ipureintro
  sl_unfold_run_names
  exact e12

set_option maxHeartbeats 4000000 in
/-- The body at the last point: the scratch's row stored, then both outputs computed from the whole scratch. -/
theorem scoreRunB (c : Dev nD) (i : grid0.Coords) (arg1 : Memref sig .tc .smem S8 .i32) (harg1 : arg1.IsWhole) (arg2 : Memref sig .tc .vmem S1x3x224x224 .f32) (harg2 : arg2.IsWhole) (arg3 : Memref sig .tc .vmem S3x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S2x32 .f32) (harg10 : arg10.IsWhole) (arg11 : Memref sig .tc .vmem S2x8 .i32) (harg11 : arg11.IsWhole) (arg12 : Memref sig .tc .vmem S8x3 .f32) (harg12 : arg12.IsWhole) (hc : k0_cond1 i = 1#1)
    (x0 : Vec F S1x3x224x224 .f32) (x1 : Vec F S3x768 .f32) (x2 : Vec F S1x768 .f32) (x3 : Vec F S1x768 .f32) (x4 : Vec F S768x768 .f32) (x5 : Vec F S1x768 .f32) (x6 : Vec F S768x768 .f32) (x7 : Vec F S1x768 .f32) (d : Vec F S8x3 .f32) (d8 : Vec F S2x32 .f32) (d9 : Vec F S2x8 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (interpK (rowPut d i (k0_pay1 x0)) x1 x2 x3 x4 x5 x6 x7) ∗ owns (c : Thread nD τ) arg11 fullShare (topK (rowPut d i (k0_pay1 x0)) x1 x2 x3 x4 x5 x6 x7) ∗ owns (c : Thread nD τ) arg12 fullShare (rowPut d i (k0_pay1 x0))) -∗ K ⟨⟩))
      ⊢ wp frame (wpE (defs₀ (F := F)) Variants.none c none) E (cc0__score_body i arg1 harg1 arg2 harg2 arg3 harg3 arg4 harg4 arg5 harg5 arg6 harg6 arg7 harg7 arg8 harg8 arg9 harg9 arg10 harg10 arg11 harg11 arg12 harg12) K := by
  simp only [cc0__score_body_eq_skeleton]; unfold cc0__score_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs
  have e0 : View.readAt (Elt F) arg2.view (Rect.unit (s := S1x3x224x224) ![0, 0, 0, 0] ![1, 3, 224, 224] inb_S1x3x224x224_S1x3x224x224_0_0_0_0).toLoadRect (harg2.unread x0) = x0 := (View.readAt_full _ _ _).trans (harg2.read_unread _)
  have e1 : View.readAt (Elt F) arg3.view (Rect.unit (s := S3x768) ![0, 0] ![3, 768] inb_S3x768_S3x768_0_0).toLoadRect (harg3.unread x1) = x1 := (View.readAt_full _ _ _).trans (harg3.read_unread _)
  have e2 : View.readAt (Elt F) arg4.view (Rect.unit (s := S1x768) ![0, 0] ![1, 768] inb_S1x768_S1x768_0_0).toLoadRect (harg4.unread x2) = x2 := (View.readAt_full _ _ _).trans (harg4.read_unread _)
  have e3 : View.readAt (Elt F) arg5.view (Rect.unit (s := S1x768) ![0, 0] ![1, 768] inb_S1x768_S1x768_0_0).toLoadRect (harg5.unread x3) = x3 := (View.readAt_full _ _ _).trans (harg5.read_unread _)
  have e4 : View.readAt (Elt F) arg6.view (Rect.unit (s := S768x768) ![0, 0] ![768, 768] inb_S768x768_S768x768_0_0).toLoadRect (harg6.unread x4) = x4 := (View.readAt_full _ _ _).trans (harg6.read_unread _)
  have e5 : View.readAt (Elt F) arg7.view (Rect.unit (s := S1x768) ![0, 0] ![1, 768] inb_S1x768_S1x768_0_0).toLoadRect (harg7.unread x5) = x5 := (View.readAt_full _ _ _).trans (harg7.read_unread _)
  have e6 : View.readAt (Elt F) arg8.view (Rect.unit (s := S768x768) ![0, 0] ![768, 768] inb_S768x768_S768x768_0_0).toLoadRect (harg8.unread x6) = x6 := (View.readAt_full _ _ _).trans (harg8.read_unread _)
  have e7 : View.readAt (Elt F) arg9.view (Rect.unit (s := S1x768) ![0, 0] ![1, 768] inb_S1x768_S1x768_0_0).toLoadRect (harg9.unread x7) = x7 := (View.readAt_full _ _ _).trans (harg9.read_unread _)
  have e12 : View.read (Elt F) arg12.view (arg12.view.writes (Elt F) (harg12.unread d)
      [⟨Rect.unit (s := S8x3) (k0_off2 i) ![1, 3] (k0_off2_inb i), k0_pay1 x0⟩]) = rowPut d i (k0_pay1 x0) := by
    refine (View.read_writes_cons_put arg12.view _ _ _ _ rfl).trans ?_
    rw [View.writes_nil, harg12.read_unread]
    rfl
  have e13 : View.readAt (Elt F) arg12.view (Rect.unit (s := S8x3) ![0, 0] ![8, 3] inb_S8x3_S8x3_0_0).toLoadRect (arg12.view.writes (Elt F) (harg12.unread d)
      [⟨Rect.unit (s := S8x3) (k0_off2 i) ![1, 3] (k0_off2_inb i), k0_pay1 x0⟩]) = rowPut d i (k0_pay1 x0) :=
    (View.readAt_full _ _ _).trans e12
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_run_names
    refine (View.read_writes_full _ _ _ _ _).trans ?_
    simp only [e13, e1, e2, e3, e4, e5, e6, e7]
    rfl
  isplitl [H9]
  · iexists _; isplitr; swap; · iexact H9
    ipureintro
    sl_unfold_run_names
    refine (View.read_writes_full _ _ _ _ _).trans ?_
    simp only [e13, e1, e2, e3, e4, e5, e6, e7]
    rfl
  iexists _; isplitr; swap; · iexact HS
  ipureintro
  sl_unfold_run_names
  exact e12

end Cert.KernelIdeal.Hand

end
-- ==== Proof.KI.Region0.lean ====
/-
  The first call of the kernel, its proof data and its body obligation. The invariant says which rows of the scratch hold
  their frames' pooled sums; at the last point all do, and the outputs are those of the whole scratch.
-/
module

public import proofs.«01_k».proof.Proof.Gen.KernelIdeal.Launch
public import proofs.«01_k».proof.Proof.Gen.KernelIdeal.Skeleton
public import proofs.«01_k».proof.Proof.KI.ScoreRun
public import Idealize.ShloMosaic.Lib.Pipeline.FrameBody
public import Idealize.ShloMosaic.Lib.ValueIdxCore
public import Idealize.ShloMosaic.Lib.Pipeline.RegionArraysTS
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (a : (pcfg0 (F := F)).Adm) (V : (c : Dev nD) → Valuation τ sig (Elt F))

/-- Window `w`'s block at point `t`, read off its array at the entry contents. -/
def blk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Proc.devRef .tc (Pipeline.arrRef spec0 w)))

/-- The point of a scratch row. -/
def rowPt (r : Fin 8) : Fin (cfg0 a).N := ⟨r.val, lt_of_lt_of_eq r.isLt (show 8 = (cfg0 a).N from N_0.symm)⟩

/-- The whole scratch: every row its frame's pooled sums. -/
def poolAll (c : Dev nD) : Vec F S8x3 .f32 := fun y => k0_pay1 (blk0 a V c 0 (rowPt a (y 0))) (ix2 (n0 := 1) (n1 := 3) 0 (y 1))

/-- The two outputs at a point that stores them. -/
def outI (c : Dev nD) (t : Fin (cfg0 a).N) : Vec F S2x32 .f32 :=
  interpK (poolAll a V c) (blk0 a V c 1 t) (blk0 a V c 2 t) (blk0 a V c 3 t) (blk0 a V c 4 t) (blk0 a V c 5 t) (blk0 a V c 6 t) (blk0 a V c 7 t)
def outT (c : Dev nD) (t : Fin (cfg0 a).N) : Vec F S2x8 .i32 :=
  topK (poolAll a V c) (blk0 a V c 1 t) (blk0 a V c 2 t) (blk0 a V c 3 t) (blk0 a V c 4 t) (blk0 a V c 5 t) (blk0 a V c 6 t) (blk0 a V c 7 t)

/-- The rows below `n` are stored. -/
def Stored (c : Dev nD) (n : ℕ) (d : Vec F S8x3 .f32) : Prop := ∀ y : S8x3.Idx, (y 0).val < n → d y = poolAll a V c y

/-- The scratch with its first `n` rows stored. -/
def scr0 (c : Dev nD) (n : ℕ) : sProp 𝕄 :=
  iprop(∃ d, ⌜Stored a V c n d⌝ ∗ owns (c : Thread nD τ) (Memref.whole cc0_scratch0) fullShare d)

/-- The other buffers the call does not stage. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ Pipeline.prefHeld (Ix := Unit) (Name := ℕ) (U := UR sig nD τ) (Lvl := ℕ) pre0 c (fun _ => fullShare) a.1)

/-- The invariant before point `n`. -/
def Φ0 (c : Dev nD) (n : ℕ) : sProp 𝕄 := iprop(scr0 a V c n ∗ rest0 a c)

/-- The proof data. -/
def dat0 (c : Dev nD) : Dat τ (Elt F) Unit ℕ (UR sig nD τ) ℕ (cfg0 a) c where
  A w := V c (Proc.devRef .tc (Pipeline.arrRef spec0 w))
  after w t := match w with
    | ⟨0, _⟩ => blk0 a V c 0 t
    | ⟨1, _⟩ => blk0 a V c 1 t
    | ⟨2, _⟩ => blk0 a V c 2 t
    | ⟨3, _⟩ => blk0 a V c 3 t
    | ⟨4, _⟩ => blk0 a V c 4 t
    | ⟨5, _⟩ => blk0 a V c 5 t
    | ⟨6, _⟩ => blk0 a V c 6 t
    | ⟨7, _⟩ => blk0 a V c 7 t
    | ⟨8, _⟩ => outI a V c t
    | ⟨9, _⟩ => outT a V c t
  Φ t := Φ0 a V c t.val
  q _ := fullShare
  owed _ := 0

theorem dat0_A (c : Dev nD) (w : Fin (cfg0 a).W) : (dat0 a V c).A w = V c (Proc.devRef .tc (Pipeline.arrRef spec0 w)) := by
  dsimp only [dat0]

theorem after0_0 (c : Dev nD) (t : Fin (cfg0 a).N) : (dat0 a V c).after 0 t = blk0 a V c 0 t := by dsimp only [dat0]; try rfl
theorem after0_1 (c : Dev nD) (t : Fin (cfg0 a).N) : (dat0 a V c).after 1 t = blk0 a V c 1 t := by dsimp only [dat0]; try rfl
theorem after0_2 (c : Dev nD) (t : Fin (cfg0 a).N) : (dat0 a V c).after 2 t = blk0 a V c 2 t := by dsimp only [dat0]; try rfl
theorem after0_3 (c : Dev nD) (t : Fin (cfg0 a).N) : (dat0 a V c).after 3 t = blk0 a V c 3 t := by dsimp only [dat0]; try rfl
theorem after0_4 (c : Dev nD) (t : Fin (cfg0 a).N) : (dat0 a V c).after 4 t = blk0 a V c 4 t := by dsimp only [dat0]; try rfl
theorem after0_5 (c : Dev nD) (t : Fin (cfg0 a).N) : (dat0 a V c).after 5 t = blk0 a V c 5 t := by dsimp only [dat0]; try rfl
theorem after0_6 (c : Dev nD) (t : Fin (cfg0 a).N) : (dat0 a V c).after 6 t = blk0 a V c 6 t := by dsimp only [dat0]; try rfl
theorem after0_7 (c : Dev nD) (t : Fin (cfg0 a).N) : (dat0 a V c).after 7 t = blk0 a V c 7 t := by dsimp only [dat0]; try rfl
theorem after0_8 (c : Dev nD) (t : Fin (cfg0 a).N) : (dat0 a V c).after 8 t = outI a V c t := by dsimp only [dat0]; try rfl
theorem after0_9 (c : Dev nD) (t : Fin (cfg0 a).N) : (dat0 a V c).after 9 t = outT a V c t := by dsimp only [dat0]; try rfl

theorem before0_0 (c : Dev nD) (t : Fin (cfg0 a).N) (d) : (dat0 a V c).before 0 t d = blk0 a V c 0 t :=
  ((dat0 a V c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem before0_1 (c : Dev nD) (t : Fin (cfg0 a).N) (d) : (dat0 a V c).before 1 t d = blk0 a V c 1 t :=
  ((dat0 a V c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
theorem before0_2 (c : Dev nD) (t : Fin (cfg0 a).N) (d) : (dat0 a V c).before 2 t d = blk0 a V c 2 t :=
  ((dat0 a V c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)
theorem before0_3 (c : Dev nD) (t : Fin (cfg0 a).N) (d) : (dat0 a V c).before 3 t d = blk0 a V c 3 t :=
  ((dat0 a V c).before_in_eq_fetched 3 rfl (fun _ => rfl) (fun _ _ _ => rfl)
    (fun t => by rw [after0_3]; unfold Dat.blockOf blk0; rw [dat0_A]; try rfl) t d).trans
    (by unfold Dat.fetched Dat.blockOf blk0; rw [dat0_A]; try rfl)
theorem before0_4 (c : Dev nD) (t : Fin (cfg0 a).N) (d) : (dat0 a V c).before 4 t d = blk0 a V c 4 t :=
  ((dat0 a V c).before_in_eq_fetched 4 rfl (fun _ => rfl) (fun _ _ _ => rfl)
    (fun t => by rw [after0_4]; unfold Dat.blockOf blk0; rw [dat0_A]; try rfl) t d).trans
    (by unfold Dat.fetched Dat.blockOf blk0; rw [dat0_A]; try rfl)
theorem before0_5 (c : Dev nD) (t : Fin (cfg0 a).N) (d) : (dat0 a V c).before 5 t d = blk0 a V c 5 t :=
  ((dat0 a V c).before_in_eq_fetched 5 rfl (fun _ => rfl) (fun _ _ _ => rfl)
    (fun t => by rw [after0_5]; unfold Dat.blockOf blk0; rw [dat0_A]; try rfl) t d).trans
    (by unfold Dat.fetched Dat.blockOf blk0; rw [dat0_A]; try rfl)
theorem before0_6 (c : Dev nD) (t : Fin (cfg0 a).N) (d) : (dat0 a V c).before 6 t d = blk0 a V c 6 t :=
  ((dat0 a V c).before_in_eq_fetched 6 rfl (fun _ => rfl) (fun _ _ _ => rfl)
    (fun t => by rw [after0_6]; unfold Dat.blockOf blk0; rw [dat0_A]; try rfl) t d).trans
    (by unfold Dat.fetched Dat.blockOf blk0; rw [dat0_A]; try rfl)
theorem before0_7 (c : Dev nD) (t : Fin (cfg0 a).N) (d) : (dat0 a V c).before 7 t d = blk0 a V c 7 t :=
  ((dat0 a V c).before_in_eq_fetched 7 rfl (fun _ => rfl) (fun _ _ _ => rfl)
    (fun t => by rw [after0_7]; unfold Dat.blockOf blk0; rw [dat0_A]; try rfl) t d).trans
    (by unfold Dat.fetched Dat.blockOf blk0; rw [dat0_A]; try rfl)

/-- The body at point `t`, as the body table spells it. -/
abbrev body0 (t : Fin (cfg0 a).N) : Prog (TpuEff nD τ sig (Elt F) Λ₀ .tc) PUnit :=
  cc0__score_body (grid0.coords t) (Memref.whole main_c) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7))
    (spec0_8.stage ((cfg0 a).slots t 8)) (hstage0_8 (((cfg0 a).slots t 8).cast nbuf0_8))
    (spec0_9.stage ((cfg0 a).slots t 9)) (hstage0_9 (((cfg0 a).slots t 9).cast nbuf0_9))
    (Memref.whole cc0_scratch0) (Memref.isWhole_whole _)

theorem defs₀_row0 (t : Fin (cfg0 a).N) :
    defs₀ (F := F) .tc (cfg0 a).body ((cfg0 a).bodyArgs t ((cfg0 a).slots t)) = body0 a t := by
  unfold defs₀; rw [Defs.onTc_tc]

/-- The branch is taken at the last point alone. -/
theorem cond_iff : ∀ t : Fin grid0.N, k0_cond1 (grid0.coords t) = 1#1 ↔ t.val % 8 = 7 := fun t => by
  have ht : t.val < 8 := Nat.lt_of_lt_of_eq t.isLt N_0
  have e0 : (grid0.coords t 0).val = t.val / 1 % 8 := Pipeline.Grid.coords_val t 0 (by decide) rfl
  simp only [k0_cond1, e0]; word_cmp

theorem off_eq (t : Fin grid0.N) : k0_off2 (grid0.coords t) = ![t.val, 0] := by
  have ht : t.val < 8 := Nat.lt_of_lt_of_eq t.isLt N_0
  have e0 : (grid0.coords t 0).val = t.val := by
    have e : (grid0.coords t 0).val = t.val / 1 % 8 := Pipeline.Grid.coords_val t 0 (by decide) rfl
    omega
  have e1 : (Scalar.indexCast (BitVec.ofNat 32 (grid0.coords t 0).val)).toNat = t.val := by
    rw [e0]; show (BitVec.ofNat 32 t.val).toNat = t.val
    rw [BitVec.toNat_ofNat]; omega
  unfold k0_off2; dsimp only; rw [e1]

/-- Storing row `t` onto stored rows below `t` stores the rows up to it. -/
theorem stored_succ (c : Dev nD) (t : Fin (cfg0 a).N) (d : Vec F S8x3 .f32) (h : Stored a V c t.val d) :
    Stored a V c (t.val + 1) (rowPut d (grid0.coords t) (k0_pay1 (blk0 a V c 0 t))) := fun y hy => by
  unfold rowPut VecWindow.put
  have ho := off_eq t
  by_cases he : (y 0).val = t.val
  · have hm : ∀ b, k0_off2 (grid0.coords t) b ≤ (y b).val ∧ (y b).val < k0_off2 (grid0.coords t) b + S1x3.size b := by
      intro b
      rw [ho]
      match b with
      | ⟨0, _⟩ => exact ⟨he.ge, by show (y 0).val < t.val + 1; omega⟩
      | ⟨1, _⟩ => exact ⟨Nat.zero_le _, by have := (y 1).isLt; show (y 1).val < 0 + 3; simpa using this⟩
    rw [dif_pos hm]
    have hr : rowPt a (y 0) = t := Fin.ext he
    unfold poolAll
    rw [hr]
    congr 1
    funext b
    apply Fin.ext
    rw [Rect.unitLocal_val, ho]
    match b with
    | ⟨0, _⟩ => show (y 0).val - t.val = 0; omega
    | ⟨1, _⟩ => rfl
  · rw [dif_neg]
    · exact h y (by omega)
    · intro hm
      have h0 := hm 0
      rw [ho] at h0
      have h1 : t.val ≤ (y 0).val := h0.1
      omega

theorem stored_all (c : Dev nD) (d : Vec F S8x3 .f32) (h : Stored a V c 8 d) : d = poolAll a V c :=
  funext fun y => h y (y 0).isLt

def pre0At (c : Dev nD) (t : Fin (cfg0 a).N) : sProp 𝕄 :=
  iprop((dat0 a V c).Φ t.castSucc ∗ (dat0 a V c).owesAt () t.castSucc
    ∗ (∃ d, owns (c : Thread nD τ) (spec0_0.stage ((cfg0 a).slots t 0)) fullShare ((dat0 a V c).before 0 t d))
    ∗ (∃ d, owns (c : Thread nD τ) (spec0_1.stage ((cfg0 a).slots t 1)) fullShare ((dat0 a V c).before 1 t d))
    ∗ (∃ d, owns (c : Thread nD τ) (spec0_2.stage ((cfg0 a).slots t 2)) fullShare ((dat0 a V c).before 2 t d))
    ∗ (∃ d, owns (c : Thread nD τ) (spec0_3.stage ((cfg0 a).slots t 3)) fullShare ((dat0 a V c).before 3 t d))
    ∗ (∃ d, owns (c : Thread nD τ) (spec0_4.stage ((cfg0 a).slots t 4)) fullShare ((dat0 a V c).before 4 t d))
    ∗ (∃ d, owns (c : Thread nD τ) (spec0_5.stage ((cfg0 a).slots t 5)) fullShare ((dat0 a V c).before 5 t d))
    ∗ (∃ d, owns (c : Thread nD τ) (spec0_6.stage ((cfg0 a).slots t 6)) fullShare ((dat0 a V c).before 6 t d))
    ∗ (∃ d, owns (c : Thread nD τ) (spec0_7.stage ((cfg0 a).slots t 7)) fullShare ((dat0 a V c).before 7 t d))
    ∗ (∃ d, owns (c : Thread nD τ) (spec0_8.stage ((cfg0 a).slots t 8)) fullShare ((dat0 a V c).before 8 t d))
    ∗ (∃ d, owns (c : Thread nD τ) (spec0_9.stage ((cfg0 a).slots t 9)) fullShare ((dat0 a V c).before 9 t d)))

def post0At (c : Dev nD) (t : Fin (cfg0 a).N) : sProp 𝕄 :=
  iprop((dat0 a V c).Φ t.succ ∗ (dat0 a V c).owesAt () t.succ
    ∗ (dat0 a V c).leavesExact 0 t
    ∗ (dat0 a V c).leavesExact 1 t
    ∗ (dat0 a V c).leavesExact 2 t
    ∗ (dat0 a V c).leavesExact 3 t
    ∗ (dat0 a V c).leavesExact 4 t
    ∗ (dat0 a V c).leavesExact 5 t
    ∗ (dat0 a V c).leavesExact 6 t
    ∗ (dat0 a V c).leavesExact 7 t
    ∗ (dat0 a V c).leavesExact 8 t
    ∗ (dat0 a V c).leavesExact 9 t)

theorem leaves0_0 (c : Dev nD) (t : Fin (cfg0 a).N) : (dat0 a V c).leavesExact 0 t = owns (c : Thread nD τ) (spec0_0.stage ((cfg0 a).slots t 0)) fullShare (blk0 a V c 0 t) := by
  unfold Dat.leavesExact
  rw [show (cfg0 a).idle 0 ((cfg0 a).grid.coords t) = false from rfl, after0_0]
  rfl
theorem leaves0_1 (c : Dev nD) (t : Fin (cfg0 a).N) : (dat0 a V c).leavesExact 1 t = owns (c : Thread nD τ) (spec0_1.stage ((cfg0 a).slots t 1)) fullShare (blk0 a V c 1 t) := by
  unfold Dat.leavesExact
  rw [show (cfg0 a).idle 1 ((cfg0 a).grid.coords t) = false from rfl, after0_1]
  rfl
theorem leaves0_2 (c : Dev nD) (t : Fin (cfg0 a).N) : (dat0 a V c).leavesExact 2 t = owns (c : Thread nD τ) (spec0_2.stage ((cfg0 a).slots t 2)) fullShare (blk0 a V c 2 t) := by
  unfold Dat.leavesExact
  rw [show (cfg0 a).idle 2 ((cfg0 a).grid.coords t) = false from rfl, after0_2]
  rfl
theorem leaves0_3 (c : Dev nD) (t : Fin (cfg0 a).N) : (dat0 a V c).leavesExact 3 t = owns (c : Thread nD τ) (spec0_3.stage ((cfg0 a).slots t 3)) fullShare (blk0 a V c 3 t) := by
  unfold Dat.leavesExact
  rw [show (cfg0 a).idle 3 ((cfg0 a).grid.coords t) = false from rfl, after0_3]
  rfl
theorem leaves0_4 (c : Dev nD) (t : Fin (cfg0 a).N) : (dat0 a V c).leavesExact 4 t = owns (c : Thread nD τ) (spec0_4.stage ((cfg0 a).slots t 4)) fullShare (blk0 a V c 4 t) := by
  unfold Dat.leavesExact
  rw [show (cfg0 a).idle 4 ((cfg0 a).grid.coords t) = false from rfl, after0_4]
  rfl
theorem leaves0_5 (c : Dev nD) (t : Fin (cfg0 a).N) : (dat0 a V c).leavesExact 5 t = owns (c : Thread nD τ) (spec0_5.stage ((cfg0 a).slots t 5)) fullShare (blk0 a V c 5 t) := by
  unfold Dat.leavesExact
  rw [show (cfg0 a).idle 5 ((cfg0 a).grid.coords t) = false from rfl, after0_5]
  rfl
theorem leaves0_6 (c : Dev nD) (t : Fin (cfg0 a).N) : (dat0 a V c).leavesExact 6 t = owns (c : Thread nD τ) (spec0_6.stage ((cfg0 a).slots t 6)) fullShare (blk0 a V c 6 t) := by
  unfold Dat.leavesExact
  rw [show (cfg0 a).idle 6 ((cfg0 a).grid.coords t) = false from rfl, after0_6]
  rfl
theorem leaves0_7 (c : Dev nD) (t : Fin (cfg0 a).N) : (dat0 a V c).leavesExact 7 t = owns (c : Thread nD τ) (spec0_7.stage ((cfg0 a).slots t 7)) fullShare (blk0 a V c 7 t) := by
  unfold Dat.leavesExact
  rw [show (cfg0 a).idle 7 ((cfg0 a).grid.coords t) = false from rfl, after0_7]
  rfl

theorem flush0_8 (t : Fin (cfg0 a).N) : ((cfg0 a).win 8).flush t = true ↔ t.val % 8 = 7 := by
  rw [Window.flush_eq_flushOf]
  exact Window.flushOf_const _ (fun _ _ => rfl) N_0 rfl t

theorem leaves0_8_last (c : Dev nD) (t : Fin (cfg0 a).N) (h : t.val % 8 = 7) :
    (dat0 a V c).leavesExact 8 t = owns (c : Thread nD τ) (spec0_8.stage ((cfg0 a).slots t 8)) fullShare (outI a V c t) := by
  unfold Dat.leavesExact
  have hi : (cfg0 a).idle 8 ((cfg0 a).grid.coords t) = false := by
    show (!(k0_cond1 (grid0.coords t) == 1#1)) = false
    rw [(cond_iff t).mpr h]; rfl
  rw [hi, after0_8]
  rfl

theorem leaves0_8_idle (c : Dev nD) (t : Fin (cfg0 a).N) (h : ¬ t.val % 8 = 7) :
    (dat0 a V c).leavesExact 8 t = iprop(∃ d, owns (c : Thread nD τ) (spec0_8.stage ((cfg0 a).slots t 8)) fullShare ((dat0 a V c).before 8 t d)) := by
  unfold Dat.leavesExact
  have hi : (cfg0 a).idle 8 ((cfg0 a).grid.coords t) = true := by
    show (!(k0_cond1 (grid0.coords t) == 1#1)) = true
    rw [Bool.not_eq_true', beq_eq_false_iff_ne]
    exact fun e => h ((cond_iff t).mp e)
  have hf : ((cfg0 a).win 8).flush t = false := by
    rw [← Bool.not_eq_true]; exact fun e => h ((flush0_8 a t).mp e)
  rw [hi, hf]
  rfl

theorem flush0_9 (t : Fin (cfg0 a).N) : ((cfg0 a).win 9).flush t = true ↔ t.val % 8 = 7 := by
  rw [Window.flush_eq_flushOf]
  exact Window.flushOf_const _ (fun _ _ => rfl) N_0 rfl t

theorem leaves0_9_last (c : Dev nD) (t : Fin (cfg0 a).N) (h : t.val % 8 = 7) :
    (dat0 a V c).leavesExact 9 t = owns (c : Thread nD τ) (spec0_9.stage ((cfg0 a).slots t 9)) fullShare (outT a V c t) := by
  unfold Dat.leavesExact
  have hi : (cfg0 a).idle 9 ((cfg0 a).grid.coords t) = false := by
    show (!(k0_cond1 (grid0.coords t) == 1#1)) = false
    rw [(cond_iff t).mpr h]; rfl
  rw [hi, after0_9]
  rfl

theorem leaves0_9_idle (c : Dev nD) (t : Fin (cfg0 a).N) (h : ¬ t.val % 8 = 7) :
    (dat0 a V c).leavesExact 9 t = iprop(∃ d, owns (c : Thread nD τ) (spec0_9.stage ((cfg0 a).slots t 9)) fullShare ((dat0 a V c).before 9 t d)) := by
  unfold Dat.leavesExact
  have hi : (cfg0 a).idle 9 ((cfg0 a).grid.coords t) = true := by
    show (!(k0_cond1 (grid0.coords t) == 1#1)) = true
    rw [Bool.not_eq_true', beq_eq_false_iff_ne]
    exact fun e => h ((cond_iff t).mp e)
  have hf : ((cfg0 a).win 9).flush t = false := by
    rw [← Bool.not_eq_true]; exact fun e => h ((flush0_9 a t).mp e)
  rw [hi, hf]
  rfl

set_option maxHeartbeats 1600000 in
/-- The body at any point. -/
theorem sound0 (c : Dev nD) (t : Fin (cfg0 a).N) :
    pre0At a V c t ⊢ wp frame (wpE (defs₀ (F := F)) Variants.none c none) Set.univ (body0 a t) (fun _ => post0At a V c t) := by
  unfold pre0At post0At body0
  simp only [before0_0, before0_1, before0_2, before0_3, before0_4, before0_5, before0_6, before0_7]
  rw [show (dat0 a V c).Φ t.succ = Φ0 a V c (t.val + 1) from rfl, show (dat0 a V c).Φ t.castSucc = Φ0 a V c t.val from rfl,
    show (dat0 a V c).owesAt () t.succ = (dat0 a V c).owesAt () t.castSucc from rfl, leaves0_0, leaves0_1, leaves0_2, leaves0_3, leaves0_4, leaves0_5, leaves0_6, leaves0_7]
  have hN : t.val < 8 := lt_of_lt_of_eq t.isLt (show (cfg0 a).N = 8 from N_0)
  by_cases h0 : t.val % 8 = 7
  · skip
    rw [leaves0_8_last a V c t h0, leaves0_9_last a V c t h0]
    unfold Φ0 scr0
    iintro ⟨⟨⟨%d, %hd, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (scoreRunB c (grid0.coords t) _ _ _ _ _ _ _ _ _ _ _ _ _ _ _ _ _ _ _ _ _ _ _ _  ((cond_iff t).mpr h0) (blk0 a V c 0 t) (blk0 a V c 1 t) (blk0 a V c 2 t) (blk0 a V c 3 t) (blk0 a V c 4 t) (blk0 a V c 5 t) (blk0 a V c 6 t) (blk0 a V c 7 t) d _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    have hall : rowPut d (grid0.coords t) (k0_pay1 (blk0 a V c 0 t)) = poolAll a V c :=
      stored_all a V c _ (by have := stored_succ a V c t d hd; rwa [show t.val + 1 = 8 by omega] at this)
    isplitl [HS HR]
    · isplitl [HS]
      · iexists _; isplitr
        swap; · iexact HS
        ipureintro; exact stored_succ a V c t d hd
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · rw [hall]; unfold outI; iexact H8
    rw [hall]; unfold outT; iexact H9
  · skip
    rw [leaves0_8_idle a V c t h0, leaves0_9_idle a V c t h0]
    unfold Φ0 scr0
    iintro ⟨⟨⟨%d, %hd, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (scoreRunA c (grid0.coords t) _ _ _ _ _ _ _ _ _ _ _ _ _ _ _ _ _ _ _ _ _ _ _ _  (fun e => h0 ((cond_iff t).mp e)) (blk0 a V c 0 t) (blk0 a V c 1 t) (blk0 a V c 2 t) (blk0 a V c 3 t) (blk0 a V c 4 t) (blk0 a V c 5 t) (blk0 a V c 6 t) (blk0 a V c 7 t) d _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS HR]
    · isplitl [HS]
      · iexists _; isplitr
        swap; · iexact HS
        ipureintro; exact stored_succ a V c t d hd
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

theorem body_obligation0 (c : Dev nD) : BodyObligation (dat0 (F := F) a V c) (defs₀ (F := F)) Variants.none () Set.univ := fun t => by
  rw [bigSep_W0, bigSep_W0, defs₀_row0]
  exact triple_restated (sound0 a V c t) rfl .rfl fun _ => .rfl

end

end Cert.KernelIdeal.Hand

end
-- ==== Proof.KI.Select.lean ====
/-
  The selection's eight rounds: each round names the first column of the row's maximum and masks it. Every entry of the
  selection is a nonnegative word.
-/
module

public import proofs.«01_k».proof.Proof.KI.ScoreRun
public import Idealize.ShloMosaic.PureOps.Reduce
public import Idealize.ShloMosaic.Lib.Pointwise

@[expose] public section

set_option maxRecDepth 16384

noncomputable section

namespace Cert.KernelIdeal.Hand

open Cert.KernelIdeal.Gen
open Idealize.ShloMosaic Idealize.ShloMosaic.TcCoe

variable {F : FTy → Type} [FloatOps F] [Named F]

/-- The columns' numbers. -/
def cols : IVec S2x32 32 := iota .tc S2x32 32 [1] iota_S2x32_d1_w32

/-- A round's masked candidates: the column's number where the score is the row's maximum, 32 elsewhere. -/
def cand (d : FVec F S2x32 .f32) : IVec S2x32 32 :=
  select (cmpf .oeq d (broadcastTo S2x32 (shapeCast S2x1
    (multiReduction .maximumf [1] S2 d 0xFF800000#32 reduces_S2x32_S2 (.inl rfl) rfl) shapeCasts_S2_S2x1) broadcasts_S2x1_S2x32))
    cols (broadcast S2x32 32#32)

/-- A round's pick: the least candidate of each row. -/
def pick (d : FVec F S2x32 .f32) : IVec S2x1 32 :=
  shapeCast S2x1 (multiReductionI .minsi [1] S2 (cand d) 2147483647#32 reduces_S2x32_S2 rfl) shapeCasts_S2_S2x1

/-- The scores with the picked column masked by -∞. -/
def maskOut (d : FVec F S2x32 .f32) : FVec F S2x32 .f32 :=
  select (cmpi .eq cols (broadcastTo S2x32 (pick d) broadcasts_S2x1_S2x32)) (broadcast S2x32 (Scalar.ofBits .f32 0xFF800000#32)) d

/-- The eight picks, side by side. -/
def picks (d : FVec F S2x32 .f32) : IVec S2x8 32 :=
  concatenate S2x8 1 [⟨S2x1, pick d⟩, ⟨S2x1, pick (maskOut d)⟩, ⟨S2x1, pick (maskOut (maskOut d))⟩,
    ⟨S2x1, pick (maskOut (maskOut (maskOut d)))⟩, ⟨S2x1, pick (maskOut (maskOut (maskOut (maskOut d))))⟩,
    ⟨S2x1, pick (maskOut (maskOut (maskOut (maskOut (maskOut d)))))⟩,
    ⟨S2x1, pick (maskOut (maskOut (maskOut (maskOut (maskOut (maskOut d))))))⟩,
    ⟨S2x1, pick (maskOut (maskOut (maskOut (maskOut (maskOut (maskOut (maskOut d)))))))⟩]
    concatenates_S2x1_S2x1_S2x1_S2x1_S2x1_S2x1_S2x1_S2x1_S2x8_d1

section
variable (v169 : FVec F S2x32 .f32) (v171 : IVec S2x32 1) (v185 : FVec F S2x1 .f32) (v187 v191 v192 v193 : FVec F S2x32 .f32)

theorem pick0_eq : k0_pay31 v169 v171 v185 v187 v191 v192 v193 = pick (k0_pay30 v169 v171 v185 v187 v191 v192 v193) := rfl
theorem mask0_eq : k0_pay32 v169 v171 v185 v187 v191 v192 v193 = maskOut (k0_pay30 v169 v171 v185 v187 v191 v192 v193) := by
  unfold k0_pay32; rw [pick0_eq]; rfl
theorem pick1_eq : k0_pay33 v169 v171 v185 v187 v191 v192 v193 = pick (maskOut (k0_pay30 v169 v171 v185 v187 v191 v192 v193)) := by
  unfold k0_pay33; rw [mask0_eq]; rfl
theorem mask1_eq : k0_pay34 v169 v171 v185 v187 v191 v192 v193 = maskOut (maskOut (k0_pay30 v169 v171 v185 v187 v191 v192 v193)) := by
  unfold k0_pay34; rw [pick1_eq, mask0_eq]; rfl
theorem pick2_eq : k0_pay35 v169 v171 v185 v187 v191 v192 v193
    = pick (maskOut (maskOut (k0_pay30 v169 v171 v185 v187 v191 v192 v193))) := by
  unfold k0_pay35; rw [mask1_eq]; rfl
end

section
variable (d : FVec F S2x32 .f32)
theorem mask2_eq : k0_pay38 d (cmpi .eq cols (broadcastTo S2x32 (pick d) broadcasts_S2x1_S2x32)) (k0_pay37 (F := F)) = maskOut d := rfl
variable (q : IVec S2x32 1) (b : FVec F S2x32 .f32)
theorem pick3_eq : k0_pay39 cols d q b = pick (k0_pay38 d q b) := rfl
theorem mask3_eq : k0_pay40 cols d q b = maskOut (k0_pay38 d q b) := by unfold k0_pay40; rw [pick3_eq]; rfl
theorem pick4_eq : k0_pay41 cols d q b = pick (maskOut (k0_pay38 d q b)) := by unfold k0_pay41; rw [mask3_eq]; rfl
theorem mask4_eq : k0_pay42 cols d q b = maskOut (maskOut (k0_pay38 d q b)) := by
  unfold k0_pay42; rw [pick4_eq, mask3_eq]; rfl
theorem pick5_eq : k0_pay43 cols d q b = pick (maskOut (maskOut (k0_pay38 d q b))) := by unfold k0_pay43; rw [mask4_eq]; rfl
theorem mask5_eq : k0_pay44 cols d q b = maskOut (maskOut (maskOut (k0_pay38 d q b))) := by
  unfold k0_pay44; rw [pick5_eq, mask4_eq]; rfl
theorem pick6_eq : k0_pay45 cols d q b = pick (maskOut (maskOut (maskOut (k0_pay38 d q b)))) := by
  unfold k0_pay45; rw [mask5_eq]; rfl
end

theorem picks_last (a0 a1 a2 a3 a4 a5 : IVec S2x1 32) (d : FVec F S2x32 .f32) :
    k0_pay2 cols a0 a1 a2 a3 a4 a5 d (pick d)
      = concatenate S2x8 1 [⟨S2x1, a0⟩, ⟨S2x1, a1⟩, ⟨S2x1, a2⟩, ⟨S2x1, a3⟩, ⟨S2x1, a4⟩, ⟨S2x1, a5⟩, ⟨S2x1, pick d⟩,
          ⟨S2x1, pick (maskOut d)⟩] concatenates_S2x1_S2x1_S2x1_S2x1_S2x1_S2x1_S2x1_S2x1_S2x8_d1 := rfl

/-- The kernel's selection is the eight picks of the interpolated scores. -/
theorem top₀_eq (v169 : FVec F S2x32 .f32) (v171 : IVec S2x32 1) (v185 : FVec F S2x1 .f32) (v187 v191 v192 v193 : FVec F S2x32 .f32) :
    top₀ v169 v171 v185 v187 v191 v192 v193 = picks (k0_pay30 v169 v171 v185 v187 v191 v192 v193) := by
  unfold top₀
  dsimp only
  have e36 : k0_pay36 v169 v171 v185 v187 v191 v192 v193
      = cmpi .eq cols (broadcastTo S2x32 (pick (maskOut (maskOut (k0_pay30 v169 v171 v185 v187 v191 v192 v193)))) broadcasts_S2x1_S2x32) := by
    unfold k0_pay36; rw [pick2_eq]; rfl
  rw [show iota .tc S2x32 32 [1] iota_S2x32_d1_w32 = cols from rfl, e36, pick0_eq, pick1_eq, pick2_eq, mask1_eq, pick3_eq, pick4_eq,
    pick5_eq, mask5_eq, pick6_eq, mask2_eq, picks_last]
  rfl

theorem topK_eq (p : Vec F S8x3 .f32) (x1 x2 x3 x4 x5 x6 x7) :
    topK p x1 x2 x3 x4 x5 x6 x7 = picks (interpK p x1 x2 x3 x4 x5 x6 x7) := top₀_eq _ _ _ _ _ _ _

theorem cand_nonneg (d : FVec F S2x32 .f32) (j) : 0 ≤ (cand d j).toInt := by
  unfold cand
  show 0 ≤ (Scalar.select _ (cols j) (32#32)).toInt
  unfold Scalar.select
  split
  · have : cols j = BitVec.ofNat 32 (j 1).val := by
      idx_vars j
      simp only [cols, pointwise]
      congr 1
      show List.foldl _ 0 [1] = _
      simp
    rw [this]
    have h := (j 1).isLt
    have h2 : (j 1).val < 32 := h
    revert h2
    generalize (j 1).val = n
    intro h2
    interval_cases n <;> decide
  · decide

theorem fold_minsi_nonneg {ι : Type} [DecidableEq ι] (s : Finset ι) (f : ι → BitVec 32) (z : BitVec 32) (hz : 0 ≤ z.toInt)
    (hf : ∀ i, 0 ≤ (f i).toInt) : 0 ≤ (s.fold IntOp.minsi z f).toInt := by
  induction s using Finset.induction_on with
  | empty => simpa using hz
  | insert a s ha ih =>
    rw [Finset.fold_insert ha]
    unfold IntOp.minsi
    split_ifs
    · exact hf a
    · exact ih

theorem pick_nonneg (d : FVec F S2x32 .f32) (j) : 0 ≤ (pick d j).toInt := by
  unfold pick
  show 0 ≤ (multiReductionI .minsi [1] S2 (cand d) 2147483647#32 reduces_S2x32_S2 rfl _).toInt
  refine (congrArg (fun w : BitVec 32 => 0 ≤ w.toInt) (multiReductionI_eq_fold .minsi (cand d) 2147483647#32 reduces_S2x32_S2 rfl _)).mpr ?_
  exact fold_minsi_nonneg _ _ _ (by decide) (cand_nonneg d)

theorem picks_nonneg (d : FVec F S2x32 .f32) (j) : 0 ≤ (picks d j).toInt := by
  unfold picks
  refine concatenate_forall (P := fun w : BitVec 32 => 0 ≤ w.toInt) S2x8 1 _ _ ?_ j
  intro p hp
  simp only [List.mem_cons, List.not_mem_nil, or_false] at hp
  rcases hp with h | h | h | h | h | h | h | h <;> subst h <;> exact fun i => pick_nonneg _ i

end Cert.KernelIdeal.Hand
-- ==== Proof.KI.Tables.lean ====
/-
  The two prefetched tables: the rows the first call reads are a literal list; the frames the second call reads are a
  clamped selection. Each table's index map in closed form, and its side condition.
-/
module

public import proofs.«01_k».proof.Proof.Gen.KernelIdeal.Launch
public import Idealize.ShloMosaic.Lib.ValueIdxCore
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.ValueIdx

variable {F : FTy → Type} [FloatOps F] [Named F]

/-- A rank-1 index. -/
abbrev at1 {n0 : ℕ} (a : Fin n0) : (⟨1, ![n0]⟩ : Shape).Idx := fun d => match d with | ⟨0, _⟩ => a

/-- A read of one element of the first table at an offset that is known. -/
theorem at0_eq (pf : pre0.Contents (Elt F)) (off : Fin 1 → ℕ) (h) (n : Fin 8) (e : off = ![n.val]) :
    pf.at 0 (Rect.unit (s := S8) off S1.size h) numel1_S1 = pf 0 (at1 n) := by
  subst e
  refine congrArg (pf 0) ?_
  funext b
  apply Fin.ext
  match b with
  | ⟨0, _⟩ =>
    have hlt := Fin.isLt ((Shape.Idx.first (s := S1) (numel1_S1.symm ▸ Nat.one_pos)) 0)
    have h1 : S1.size 0 = 1 := rfl
    show n.val + 1 * ((Shape.Idx.first (s := S1) (numel1_S1.symm ▸ Nat.one_pos)) 0).val = n.val
    omega

/-- A read of one element of the second table at an offset that is known. -/
theorem at1_eq (pf : pre1.Contents (Elt F)) (off : Fin 2 → ℕ) (h) (n : Fin 2) (k : Fin 8) (e : off = ![n.val, k.val]) :
    pf.at 0 (Rect.unit (s := S2x8) off S1x1.size h) numel1_S1x1 = pf 0 (ix2 n k) := by
  subst e
  refine congrArg (pf 0) ?_
  funext b
  apply Fin.ext
  match b with
  | ⟨0, _⟩ =>
    have hlt := Fin.isLt ((Shape.Idx.first (s := S1x1) (numel1_S1x1.symm ▸ Nat.one_pos)) 0)
    have h1 : S1x1.size 0 = 1 := rfl
    show n.val + 1 * ((Shape.Idx.first (s := S1x1) (numel1_S1x1.symm ▸ Nat.one_pos)) 0).val = n.val
    omega
  | ⟨1, _⟩ =>
    have hlt := Fin.isLt ((Shape.Idx.first (s := S1x1) (numel1_S1x1.symm ▸ Nat.one_pos)) 1)
    have h1 : S1x1.size 1 = 1 := rfl
    show k.val + 1 * ((Shape.Idx.first (s := S1x1) (numel1_S1x1.symm ▸ Nat.one_pos)) 1).val = k.val
    omega

/-- The first call's table: the probed rows. -/
def tbl0 : pre0.Contents (Elt F) := fun
  | ⟨0, _⟩ => fun i : S8.Idx => lit0 (S8.rowMajor i)
  | ⟨_ + 1, h⟩ => absurd h (Nat.not_lt.2 (Nat.le_add_left _ _))

/-- The block the first call reads at a point, from its table. -/
theorem transform0_eq (pf : pre0.Contents (Elt F)) (i : grid0.Coords) (n : Fin 8) (hn : (i 0).val = n.val) :
    cc0_transform_0 k0_off1_inb numel1_S1 pf i = ![(pf 0 (at1 n)).toNat, 0, 0, 0] := by
  have e : ![(Scalar.indexCast (BitVec.ofNat 32 (i 0).val)).toNat] = ![n.val] := by
    rw [hn]
    have : ∀ n : Fin 8, (Scalar.indexCast (BitVec.ofNat 32 n.val)).toNat = n.val := by decide
    rw [this n]
  show ![(pf.at 0 (Rect.unit (s := S8) (k0_off1 i) S1.size (k0_off1_inb i)) numel1_S1).toNat, 0, 0, 0] = _
  rw [at0_eq pf (k0_off1 i) _ n e]

theorem lit0_lt (n : Fin 8) : (lit0 n).toNat ≤ 63 := by revert n; decide

theorem rowMajor_at1 : ∀ n : Fin 8, (S8.rowMajor (at1 n)).val = n.val := by decide

theorem ok0_tbl0 : ok0 (tbl0 (F := F)) := by
  intro i
  have hn : (i 0).val < 8 := (i 0).isLt
  refine ⟨?_, .inl rfl⟩
  rw [transform0_eq _ i ⟨(i 0).val, hn⟩ rfl]
  intro a
  have h := lit0_lt (S8.rowMajor (at1 ⟨(i 0).val, hn⟩))
  match a with
  | ⟨0, _⟩ => show ((lit0 (S8.rowMajor (at1 ⟨(i 0).val, hn⟩))).toNat + 1) * 1 ≤ 64; omega
  | ⟨1, _⟩ => show (0 + 1) * 3 ≤ 3; omega
  | ⟨2, _⟩ => show (0 + 1) * 224 ≤ 224; omega
  | ⟨3, _⟩ => show (0 + 1) * 224 ≤ 224; omega

/-- The video a point of the second call copies from, as its index map computes it. -/
def vidWord (arg0 : BitVec 32) : BitVec 32 :=
  let c8_i32_10 : BitVec 32 := 8#32
  let v30 : BitVec 32 := Scalar.divsi arg0 c8_i32_10
  let c0_i32_11 : BitVec 32 := 0#32
  let v31 : BitVec 1 := Scalar.cmpi .sgt arg0 c0_i32_11
  let v32 : BitVec 32 := Scalar.extui v31
  let c0_i32_12 : BitVec 32 := 0#32
  let v33 : BitVec 1 := Scalar.cmpi .slt arg0 c0_i32_12
  let v34 : BitVec 32 := Scalar.extui v33
  let v35 : BitVec 32 := Scalar.subi v32 v34
  let c0_i32_13 : BitVec 32 := 0#32
  let v36 : BitVec 1 := Scalar.cmpi .sgt c8_i32_10 c0_i32_13
  let v37 : BitVec 32 := Scalar.extui v36
  let c0_i32_14 : BitVec 32 := 0#32
  let v38 : BitVec 1 := Scalar.cmpi .slt c8_i32_10 c0_i32_14
  let v39 : BitVec 32 := Scalar.extui v38
  let v40 : BitVec 32 := Scalar.subi v37 v39
  let v41 : BitVec 1 := Scalar.cmpi .ne v35 v40
  let v42 : BitVec 32 := Scalar.remsi arg0 c8_i32_10
  let c0_i32_15 : BitVec 32 := 0#32
  let v43 : BitVec 1 := Scalar.cmpi .ne v42 c0_i32_15
  let v44 : BitVec 1 := Scalar.andi v41 v43
  let c1_i32_16 : BitVec 32 := 1#32
  let v45 : BitVec 32 := Scalar.subi v30 c1_i32_16
  let v46 : BitVec 32 := Scalar.select v44 v45 v30
  v46

theorem vidWord_eq : ∀ n : Fin 16, vidWord (BitVec.ofNat 32 n.val) = BitVec.ofNat 32 (n.val / 8) := by decide

/-- The block the second call reads at a point, from its table. -/
theorem transform1_eq (pf : pre1.Contents (Elt F)) (i : grid1.Coords) (n : Fin 16) (k : Fin 3) (hn : (i 0).val = n.val) (hk : (i 1).val = k.val)
    (hb : (pf 0 (ix2 (n0 := 2) (n1 := 8) ⟨n.val / 8, by omega⟩ ⟨n.val % 8, by omega⟩)).toNat ≤ 31) :
    cc1_transform_0 k1_off1_inb numel1_S1x1 pf i
      = ![(pf 0 (ix2 (n0 := 2) (n1 := 8) ⟨n.val / 8, by omega⟩ ⟨n.val % 8, by omega⟩)).toNat + n.val / 8 * 32, k.val, 0, 0] := by
  have e : k1_off1 i = ![n.val / 8, n.val % 8] := by
    unfold k1_off1
    rw [hn]
    clear hn hb
    revert n
    decide
  show ![(IntOp.addi (pf.at 0 (Rect.unit (s := S2x8) (k1_off1 i) S1x1.size (k1_off1_inb i)) numel1_S1x1)
    (IntOp.muli (vidWord (BitVec.ofNat 32 (i 0).val)) 32#32)).toNat, (BitVec.ofNat 32 (i 1).val).toNat, 0, 0] = _
  rw [at1_eq pf (k1_off1 i) _ ⟨n.val / 8, by omega⟩ ⟨n.val % 8, by omega⟩ e, hn, hk, vidWord_eq]
  have h0 : ∀ n : Fin 16, (IntOp.muli (BitVec.ofNat 32 (n.val / 8)) 32#32).toNat = n.val / 8 * 32 := by decide
  have h1 : ∀ k : Fin 3, (BitVec.ofNat 32 k.val).toNat = k.val := by decide
  rw [h1 k]
  have h2 : ∀ x y : BitVec 32, x.toNat ≤ 31 → y.toNat ≤ 64 → (IntOp.addi x y).toNat = x.toNat + y.toNat := by
    intro x y hx hy
    show (x + y).toNat = _
    rw [BitVec.toNat_add]
    omega
  rw [h2 _ _ hb (by rw [h0 n]; omega), h0 n]

/-- The second table's side condition: its entries are frames of a video. -/
theorem ok1_of (pf : pre1.Contents (Elt F)) (hb : ∀ n k, (pf 0 (ix2 (n0 := 2) (n1 := 8) n k)).toNat ≤ 31) : ok1 pf := by
  intro i
  have hn : (i 0).val < 16 := (i 0).isLt
  have hk : (i 1).val < 3 := (i 1).isLt
  refine ⟨?_, .inl rfl⟩
  have h := hb ⟨(i 0).val / 8, by omega⟩ ⟨(i 0).val % 8, by omega⟩
  rw [transform1_eq _ i ⟨(i 0).val, hn⟩ ⟨(i 1).val, hk⟩ rfl rfl h]
  intro a
  match a with
  | ⟨0, _⟩ =>
    show ((pf 0 (ix2 (n0 := 2) (n1 := 8) ⟨(i 0).val / 8, by omega⟩ ⟨(i 0).val % 8, by omega⟩)).toNat + (i 0).val / 8 * 32 + 1) * 1 ≤ 64
    omega
  | ⟨1, _⟩ => show ((i 1).val + 1) * 1 ≤ 3; omega
  | ⟨2, _⟩ => show (0 + 1) * 224 ≤ 224; omega
  | ⟨3, _⟩ => show (0 + 1) * 224 ≤ 224; omega

end Cert.KernelIdeal.Hand

end
-- ==== Proof.KI.Arr.lean ====
/-
  What the first call leaves in its two output arrays: each is written back once, whole, at the last point.
-/
module

public import proofs.«01_k».proof.Proof.KI.Region0
public import proofs.«01_k».proof.Proof.KI.Select
public import proofs.«01_k».proof.Proof.KI.Tables
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation cellOf)

variable {F : FTy → Type} [FloatOps F] [Named F]

variable (a : (pcfg0 (F := F)).Adm) (V : (c : Dev nD) → Valuation τ sig (Elt F))

/-- The last point of the first call's grid. -/
abbrev lastPt : Fin (cfg0 a).N := rowPt a 7

theorem whole0_8 : ((cfg0 a).win 8).WholeAt (lastPt a) := by
  refine ⟨(flush0_8 a _).mpr rfl, fun t h => Fin.ext ?_, fun b => ⟨?_, ?_⟩⟩
  · have h1 := (flush0_8 a t).mp h
    have h2 : t.val < 8 := lt_of_lt_of_eq t.isLt (show (cfg0 a).N = 8 from N_0)
    show t.val = 7
    omega
  · have : ∀ b : Fin 2, ((cfg0 a).win 8).index (lastPt a) b = 0 := by intro b; match b with | ⟨0, _⟩ => rfl | ⟨1, _⟩ => rfl
    exact this b
  · have : ∀ b : Fin 2, ((cfg0 a).win 8).xsize ((cfg0 a).grid.coords (lastPt a)) b = ((cfg0 a).win 8).shape.size b := by
      intro b; match b with | ⟨0, _⟩ => rfl | ⟨1, _⟩ => rfl
    exact this b

theorem whole0_9 : ((cfg0 a).win 9).WholeAt (lastPt a) := by
  refine ⟨(flush0_9 a _).mpr rfl, fun t h => Fin.ext ?_, fun b => ⟨?_, ?_⟩⟩
  · have h1 := (flush0_9 a t).mp h
    have h2 : t.val < 8 := lt_of_lt_of_eq t.isLt (show (cfg0 a).N = 8 from N_0)
    show t.val = 7
    omega
  · have : ∀ b : Fin 2, ((cfg0 a).win 9).index (lastPt a) b = 0 := by intro b; match b with | ⟨0, _⟩ => rfl | ⟨1, _⟩ => rfl
    exact this b
  · have : ∀ b : Fin 2, ((cfg0 a).win 9).xsize ((cfg0 a).grid.coords (lastPt a)) b = ((cfg0 a).win 9).shape.size b := by
      intro b; match b with | ⟨0, _⟩ => rfl | ⟨1, _⟩ => rfl
    exact this b

/-- The scores' array. -/
theorem arr0_8 (c : Dev nD) : (dat0 a V c).arrAt 8 (cfg0 a).N = outI a V c (lastPt a) := by
  refine (dat0 a V c).arrAt_eq_of_after_last 8 (lastPt a) (whole0_8 a) _ (fun j => ?_)
  rw [after0_8]
  rfl

/-- The selection's array. -/
theorem arr0_9 (c : Dev nD) : (dat0 a V c).arrAt 9 (cfg0 a).N = outT a V c (lastPt a) := by
  refine (dat0 a V c).arrAt_eq_of_after_last 9 (lastPt a) (whole0_9 a) _ (fun j => ?_)
  rw [after0_9]
  rfl

/-- The selection's entries are nonnegative words. -/
theorem outT_nonneg (c : Dev nD) (t : Fin (cfg0 a).N) (j : S2x8.Idx) : 0 ≤ (outT a V c t j : BitVec 32).toInt := by
  exact (congrArg (fun w : BitVec 32 => 0 ≤ w.toInt) (congrFun (topK_eq (poolAll a V c) (blk0 a V c 1 t) (blk0 a V c 2 t)
    (blk0 a V c 3 t) (blk0 a V c 4 t) (blk0 a V c 5 t) (blk0 a V c 6 t) (blk0 a V c 7 t)) j)).mpr (picks_nonneg _ _)

end Cert.KernelIdeal.Hand
-- ==== Proof.KI.Region1.lean ====
/-
  The second call of the kernel: at point (n, ch) of its 16 × 3 grid it copies one frame channel, picked by the table,
  to the output's block. Its body run, its proof data over the table's contents and the entry contents of the buffers,
  and the body obligation: after every point the output's staging buffer holds the input's block.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.RegionArraysTS
public import Idealize.ShloMosaic.Lib.VecWindow
public import Idealize.ShloMosaic.Lib.Tactic
public import Idealize.ShloMosaic.Lib.WordCmp
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The copy body on whole buffers: the output's buffer ends at the input's contents. -/
theorem copyRun (c : Dev nD) (i : grid1.Coords) (arg2 : Memref sig .tc .smem S2x8 .i32) (harg2 : arg2.IsWhole)
    (arg3 : Memref sig .tc .vmem S1x1x224x224 .f32) (harg3 : arg3.IsWhole) (arg4 : Memref sig .tc .vmem S1x1x224x224 .f32) (harg4 : arg4.IsWhole)
    (x0 : Vec F S1x1x224x224 .f32) (E : Set ℕ) (K : PUnit → sProp 𝕄) :
    iprop(owns (c : Thread nD τ) arg3 fullShare x0 ∗ (∃ d, owns (c : Thread nD τ) arg4 fullShare d)
        ∗ (iprop(owns (c : Thread nD τ) arg3 fullShare x0 ∗ owns (c : Thread nD τ) arg4 fullShare x0) -∗ K ⟨⟩))
      ⊢ wp frame (wpE (defs₀ (F := F)) Variants.none c none) E (cc1__gather_body i arg2 harg2 arg3 harg3 arg4 harg4) K := by
  simp only [cc1__gather_body_eq_skeleton]; unfold cc1__gather_body_skel
  unfold owns
  iintro ⟨⟨%f0, %hf0, H0⟩, ⟨%d1, %f1, -, H1⟩, Hk⟩
  obtain rfl := harg3.eq_unread hf0
  sl_exec
  sl_step
  iapply Hk
  isplitl [H0]
  · iexists _; isplitr; · ipureintro; exact harg3.read_unread _
    iexact H0
  iexists _; isplitr; swap; · iexact H1
  ipureintro
  rw [View.read_writes_full]
  unfold k1_pay1
  rw [View.readAt_full, harg3.read_unread]
  exact shapeCast_self _ _

section
variable (a : (pcfg1 (F := F)).Adm) (V : (c : Dev nD) → Valuation τ sig (Elt F))

/-- Window `w`'s block at point `t`, read off its array at the entry contents. -/
def blk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Proc.devRef .tc (Pipeline.arrRef spec1 w)))

/-- The invariant: the buffers the call does not stage, and its table. -/
abbrev Φ1 (c : Dev nD) : sProp 𝕄 :=
  iprop(Pipeline.scopedRest (Ix := Unit) (Name := ℕ) (U := UR sig nD τ) (Lvl := ℕ) (Val := Elt F) spec1 c
    ∗ Pipeline.prefHeld pre1 c (fun _ => fullShare) a.1)

/-- The proof data: both buffers hold the input's block after every point. -/
def dat1 (c : Dev nD) : Dat τ (Elt F) Unit ℕ (UR sig nD τ) ℕ (cfg1 a) c where
  A w := V c (Proc.devRef .tc (Pipeline.arrRef spec1 w))
  after w t := match w with
    | ⟨0, _⟩ => blk1 a V c 0 t
    | ⟨1, _⟩ => blk1 a V c 0 t
  Φ _ := Φ1 a c
  q _ := fullShare
  owed _ := 0

theorem dat1_A (c : Dev nD) (w : Fin (cfg1 a).W) : (dat1 a V c).A w = V c (Proc.devRef .tc (Pipeline.arrRef spec1 w)) := by
  dsimp only [dat1]

theorem after1_0 (c : Dev nD) (t : Fin (cfg1 a).N) : (dat1 a V c).after 0 t = blk1 a V c 0 t := by dsimp only [dat1]; try rfl
theorem after1_1 (c : Dev nD) (t : Fin (cfg1 a).N) : (dat1 a V c).after 1 t = blk1 a V c 0 t := by dsimp only [dat1]; try rfl

theorem before1_0 (c : Dev nD) (t : Fin (cfg1 a).N) (d) : (dat1 a V c).before 0 t d = blk1 a V c 0 t :=
  ((dat1 a V c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)

/-- The body at point `t`, as the body table spells it. -/
abbrev body1 (t : Fin (cfg1 a).N) : Prog (TpuEff nD τ sig (Elt F) Λ₀ .tc) PUnit :=
  cc1__gather_body (grid1.coords t) (Memref.whole main_v7) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))

theorem defs₀_row1 (t : Fin (cfg1 a).N) :
    defs₀ (F := F) .tc (cfg1 a).body ((cfg1 a).bodyArgs t ((cfg1 a).slots t)) = body1 a t := by
  unfold defs₀; rw [Defs.onTc_tc]

def pre1At (c : Dev nD) (t : Fin (cfg1 a).N) : sProp 𝕄 :=
  iprop((dat1 a V c).Φ t.castSucc ∗ (dat1 a V c).owesAt () t.castSucc
    ∗ (∃ d, owns (c : Thread nD τ) (spec1_0.stage ((cfg1 a).slots t 0)) fullShare ((dat1 a V c).before 0 t d))
    ∗ (∃ d, owns (c : Thread nD τ) (spec1_1.stage ((cfg1 a).slots t 1)) fullShare ((dat1 a V c).before 1 t d)))

def post1At (c : Dev nD) (t : Fin (cfg1 a).N) : sProp 𝕄 :=
  iprop((dat1 a V c).Φ t.succ ∗ (dat1 a V c).owesAt () t.succ
    ∗ owns (c : Thread nD τ) (spec1_0.stage ((cfg1 a).slots t 0)) fullShare ((dat1 a V c).after 0 t)
    ∗ owns (c : Thread nD τ) (spec1_1.stage ((cfg1 a).slots t 1)) fullShare ((dat1 a V c).after 1 t))

theorem sound1 (c : Dev nD) (t : Fin (cfg1 a).N) :
    pre1At a V c t ⊢ wp frame (wpE (defs₀ (F := F)) Variants.none c none) Set.univ (body1 a t) (fun _ => post1At a V c t) := by
  unfold pre1At post1At body1
  simp only [before1_0]
  rw [show (dat1 a V c).Φ t.succ = (dat1 a V c).Φ t.castSucc from rfl,
    show (dat1 a V c).owesAt () t.succ = (dat1 a V c).owesAt () t.castSucc from rfl, after1_0, after1_1]
  iintro ⟨HΦ, Ho, ⟨%d0, H0⟩, ⟨%d1, H1⟩⟩
  iapply (copyRun c (grid1.coords t) _ _ _ _ _ _ (blk1 a V c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) a V c) (defs₀ (F := F)) Variants.none () Set.univ := fun t => by
  rw [bigSep_W1, bigSep_W1, defs₀_row1]
  exact triple_restated (sound1 a V c t) rfl .rfl fun _ => .rfl

end

end Cert.KernelIdeal.Hand

end
-- ==== Proof.KI.Run.lean ====
/-
  The kernel's run: both calls as segments between the host's stretches, and every buffer at the end.
-/
module

public import proofs.«01_k».proof.Proof.KI.Arr
public import proofs.«01_k».proof.Proof.KI.Region1
public import proofs.«01_k».proof.Proof.Gen.KernelIdeal.Regions
public import Idealize.ShloMosaic.Lib.WordArith

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The first call's table, admitted. -/
def adm0 : (pcfg0 (F := F)).Adm := ⟨tbl0, ok0_tbl0⟩

/-- What the first call leaves. -/
def scoresOut (c : Dev nD) : Vec F S2x32 .f32 := outI adm0 (V1 m) c (lastPt adm0)
def topOut (c : Dev nD) : IVec S2x8 32 := outT adm0 (V1 m) c (lastPt adm0)

/-- The contents the first call leaves; elsewhere those at launch. -/
def outsA : Outs (F := F) := fun _ r c =>
  Function.update (Function.update (β := fun r => Buf (Elt F) ((c : Thread nD τ).loc r)) (fun r => m ((c : Thread nD τ).loc r))
    main_v5_0 (show Buf (Elt F) ((c : Thread nD τ).loc main_v5_0) from scoresOut m c))
    main_v5_1 (show Buf (Elt F) ((c : Thread nD τ).loc main_v5_1) from topOut m c) r

theorem outsA_0 (j c) : outsA m j main_v5_0 c = scoresOut m c := by
  unfold outsA
  rw [Function.update_of_ne (show (main_v5_0 : Ref sig .tc) ≠ main_v5_1 by decide), Function.update_self]

theorem outsA_1 (j c) : outsA m j main_v5_1 c = topOut m c := by
  unfold outsA
  rw [Function.update_self]

/-- The second call's table: the clamped selection. -/
def tbl1 : pre1.Contents (Elt F) := fun
  | ⟨0, _⟩ => fun i : S2x8.Idx => Scalar.minsi (topOut m 0 i) 31#32
  | ⟨_ + 1, h⟩ => absurd h (Nat.not_lt.2 (Nat.le_add_left _ _))

theorem clamp_le (x : BitVec 32) (h : 0 ≤ x.toInt) : (Scalar.minsi x 31#32).toNat ≤ 31 := by
  have hx : x.toNat < 2 ^ 31 := by
    rw [BitVec.toInt_eq_toNat_cond] at h
    split at h <;> have := x.isLt <;> omega
  rw [show Scalar.minsi x 31#32 = IntOp.minsi x 31#32 from rfl, WordArith.toNat_minsi_of_lt x 31#32 hx (by decide)]
  exact min_le_right _ _

theorem ok1_tbl1 : ok1 (tbl1 m) := ok1_of _ fun n k => clamp_le _ (outT_nonneg _ _ _ _ _)

def adm1 : (pcfg1 (F := F)).Adm := ⟨tbl1 m, ok1_tbl1 m⟩

/-- What the second call leaves. -/
def framesOut (c : Dev nD) : Vec F S16x3x224x224 .f32 := (dat1 (adm1 m) (V3 m (outsA m)) c).arrAt 1 (cfg1 (adm1 m)).N

/-- The contents both calls leave. -/
def outsB : Outs (F := F) := fun j r c =>
  Function.update (β := fun r => Buf (Elt F) ((c : Thread nD τ).loc r)) (fun r => outsA m j r c)
    main_v8 (show Buf (Elt F) ((c : Thread nD τ).loc main_v8) from framesOut m c) r

theorem outsB_0 (j c) : outsB m j main_v5_0 c = scoresOut m c := by
  unfold outsB
  rw [Function.update_of_ne (show (main_v5_0 : Ref sig .tc) ≠ main_v8 by decide), outsA_0]
theorem outsB_1 (j c) : outsB m j main_v5_1 c = topOut m c := by
  unfold outsB
  rw [Function.update_of_ne (show (main_v5_1 : Ref sig .tc) ≠ main_v8 by decide), outsA_1]
theorem outsB_2 (j c) : outsB m j main_v8 c = framesOut m c := by
  unfold outsB
  rw [Function.update_self]

theorem V2_outs (c : Dev nD) : V2 m (outsB m) c = V2 m (outsA m) c := by
  unfold V2
  rw [outsB_0, outsB_1, outsA_0, outsA_1]
theorem V3_outs (c : Dev nD) : V3 m (outsB m) c = V3 m (outsA m) c := by
  unfold V3
  rw [V2_outs]

theorem V1_main_c (c : Dev nD) : V1 m c main_c = fun i : S8.Idx => lit0 (S8.rowMajor i) := by
  unfold V1
  after_results
  rfl

theorem V3_main_v7 (c : Dev nD) : V3 m (outsA m) c main_v7 = fun i : S2x8.Idx => Scalar.minsi (topOut m c i) 31#32 := by
  have e : V2 m (outsA m) c main_v5_1 = topOut m c := by
    unfold V2
    rw [Function.update_self, outsA_1]
  unfold V3
  after_results
  rw [e]
  rfl

/-! ## The calls as segments -/

/-- Both tables. -/
def adms : (p : Fin 2) → (pcfgs (F := F) p).Adm := fun
  | ⟨0, _⟩ => adm0
  | ⟨1, _⟩ => adm1 m
  | ⟨_ + 2, h⟩ => absurd h (Nat.not_lt.2 (Nat.le_add_left _ _))

/-- Both calls' proof data. -/
def pdats : (p : Fin 2) → (c : Dev nD) → Dat τ (Elt F) Unit ℕ (UR sig nD τ) ℕ (Pipeline.pin (pcfgs (F := F)) (adms m) p) c := fun
  | ⟨0, _⟩ => fun c => dat0 adm0 (V1 m) c
  | ⟨1, _⟩ => fun c => dat1 (adm1 m) (V3 m (outsA m)) c
  | ⟨_ + 2, h⟩ => absurd h (Nat.not_lt.2 (Nat.le_add_left _ _))

/-- Every counter of a core's has the one level. -/
def lev : GSem nD τ sig → Finset Unit := fun g => if g.1.2 = .tc then {()} else ∅

theorem hin0 (c : Dev nD) : iprop(iprop(Pipeline.scopedRest (Ix := Unit) (Name := ℕ) (U := UR sig nD τ) (Lvl := ℕ) (Val := Elt F) spec0 c ∗ BI.emp)
      ∗ Pipeline.prefHeld pre0 c (fun _ => fullShare) (adm0 (F := F)).1) ⊢ (Φ0 adm0 (V1 m) c 0 : sProp 𝕄) := by
  rw [scopedRest0_eq c]
  unfold Φ0 scr0 rest0
  iintro ⟨⟨⟨Hs, H0, H1, H2, H3⟩, _⟩, Ht⟩
  icases Hs with ⟨%d, Hs⟩
  isplitl [Hs]
  · iexists d
    isplitr
    · ipureintro
      exact fun y h => absurd h (Nat.not_lt_zero _)
    · rw [owns_whole]
      iexact Hs
  isplitl [H0]; · iexact H0
  isplitl [H1]; · iexact H1
  isplitl [H2]; · iexact H2
  isplitl [H3]; · iexact H3
  iexact Ht

theorem hout0 (c : Dev nD) (n : ℕ) : (Φ0 adm0 (V1 m) c n : sProp 𝕄)
    ⊢ iprop(iprop(Pipeline.scopedRest (Ix := Unit) (Name := ℕ) (U := UR sig nD τ) (Lvl := ℕ) (Val := Elt F) spec0 c ∗ BI.emp)
      ∗ Pipeline.prefHeld pre0 c (fun _ => fullShare) (adm0 (F := F)).1) := by
  rw [scopedRest0_eq c]
  unfold Φ0 scr0 rest0
  iintro ⟨⟨%d, -, Hs⟩, H0, H1, H2, H3, Ht⟩
  isplitr [Ht]; swap; · iexact Ht
  isplitl; swap; · iempintro
  isplitl [Hs]
  · iexists d
    rw [owns_whole]
    exact BI.Entails.refl _
  isplitl [H0]; · iexact H0
  isplitl [H1]; · iexact H1
  isplitl [H2]; · iexact H2
  iexact H3

theorem hT0 (c : Dev nD) (k : Fin 1) : (adms m 0).1 k = V1 m c (Proc.devRef .tc (pre0.ref k)) := by
  match k with
  | ⟨0, _⟩ => exact (V1_main_c m c).symm

theorem hT1 (c : Dev nD) (k : Fin 1) : (adms m 1).1 k = V3 m (outsA m) c (Proc.devRef .tc (pre1.ref k)) := by
  match k, c with
  | ⟨0, _⟩, ⟨0, _⟩ => exact (V3_main_v7 m 0).symm

theorem hcut (p : Fin 2) :
    Pipeline.LevelCut (pcfgs (F := F)) (adms m) () lev (fun _ _ => 0) p (fun _ : Dev nD => (0 : CellTallies nD τ sig Unit)) (fun _ => (0 : ℕ)) where
  hι c w s := by
    unfold lev
    rw [if_pos rfl]
    exact Finset.mem_singleton_self _
  hιb c w s := le_refl _
  hD c g i h := absurd h (lt_irrefl _)

/-- The first call as a segment. -/
def R0 : RegionSeg (pcfgs (F := F)) (adms m) (pdats m) () defs₀ Variants.none lev (fun _ _ => 0) 0 :=
  Pipeline.RegionSeg.ofHeldInT (pcfgs (F := F)) (adms m) (pdats m) () defs₀ Variants.none lev (fun _ _ => 0) 0
    (fun _ => 0) (Pipeline.ucRefs τ sig) (fun _ => BI.emp) (fun _ => BI.emp) launch0
    (fun c => (body_obligation0 adm0 (V1 m) c).loose) (fun _ _ => rfl) (fun _ => rfl)
    (fun c => (dat0 adm0 (V1 m) c).share_full fun _ => rfl)
    (fun c => hin0 m c) (fun c => hout0 m c _) (fun _ => 0) (hcut m 0) (fun _ => BI.emp)
    (V1 m) (fun c w => rfl) (fun c k => hT0 m c k)

/-- The second call as a segment. -/
def R1 : RegionSeg (pcfgs (F := F)) (adms m) (pdats m) () defs₀ Variants.none lev (fun _ _ => 0) 1 :=
  Pipeline.RegionSeg.ofHeldInT (pcfgs (F := F)) (adms m) (pdats m) () defs₀ Variants.none lev (fun _ _ => 0) 1
    (fun _ => 0) (Pipeline.ucRefs τ sig) (fun _ => BI.emp) (fun _ => BI.emp) launch1
    (fun c => (body_obligation1 (adm1 m) (V3 m (outsA m)) c).loose) (fun _ _ => rfl) (fun _ => rfl)
    (fun c => (dat1 (adm1 m) (V3 m (outsA m)) c).share_full fun _ => rfl)
    (fun c => by
      show iprop(iprop(Pipeline.scopedRest spec1 c ∗ BI.emp) ∗ Pipeline.prefHeld pre1 c (fun _ => fullShare) (adm1 m).1) ⊢ (Φ1 (adm1 m) c : sProp 𝕄)
      iintro ⟨⟨H, _⟩, Ht⟩
      isplitl [H]; · iexact H
      iexact Ht)
    (fun c => by
      show (Φ1 (adm1 m) c : sProp 𝕄) ⊢ iprop(iprop(Pipeline.scopedRest spec1 c ∗ BI.emp) ∗ Pipeline.prefHeld pre1 c (fun _ => fullShare) (adm1 m).1)
      iintro ⟨H, Ht⟩
      isplitl [H]; swap; · iexact Ht
      isplitl; · iexact H
      iempintro)
    (fun _ => 0) (hcut m 1) (fun _ => BI.emp)
    (V3 m (outsA m)) (fun c w => rfl) (fun c k => hT1 m c k)

/-- What the core owes between two items: nothing. -/
abbrev rest (c : Dev nD) : sProp 𝕄 := iprop((∃ Wd, owes (c : Thread nD τ) (0 : CellTallies nD τ sig Unit) Wd) ∗ BI.emp ∗ BI.emp)

theorem after0_eq (c : Dev nD) (b : DevRef τ sig) :
    Pipeline.afterRegion (dat0 adm0 (V1 m) c) (V1 m c) b = V2 m (outsB m) c b := by
  by_cases h : ∃ w : Fin 10, b = Proc.devRef .tc (Pipeline.arrRef spec0 w)
  · obtain ⟨w, rfl⟩ := h
    refine (Pipeline.afterRegion_arr (dat0 adm0 (V1 m) c) (V1 m c) winFacts0.arr_inj w).trans ?_
    match w with
    | ⟨0, _⟩ => exact ((dat0 adm0 (V1 m) c).arrAt_in 0 rfl _).trans (V2_of m (outsB m) c main_v0 (by decide)).symm
    | ⟨1, _⟩ => exact ((dat0 adm0 (V1 m) c).arrAt_in 1 rfl _).trans (V2_of m (outsB m) c (Pipeline.arrRef spec0 1) (by decide)).symm
    | ⟨2, _⟩ => exact ((dat0 adm0 (V1 m) c).arrAt_in 2 rfl _).trans (V2_of m (outsB m) c (Pipeline.arrRef spec0 2) (by decide)).symm
    | ⟨3, _⟩ => exact ((dat0 adm0 (V1 m) c).arrAt_in 3 rfl _).trans (V2_of m (outsB m) c (Pipeline.arrRef spec0 3) (by decide)).symm
    | ⟨4, _⟩ => exact ((dat0 adm0 (V1 m) c).arrAt_in 4 rfl _).trans (V2_of m (outsB m) c (Pipeline.arrRef spec0 4) (by decide)).symm
    | ⟨5, _⟩ => exact ((dat0 adm0 (V1 m) c).arrAt_in 5 rfl _).trans (V2_of m (outsB m) c (Pipeline.arrRef spec0 5) (by decide)).symm
    | ⟨6, _⟩ => exact ((dat0 adm0 (V1 m) c).arrAt_in 6 rfl _).trans (V2_of m (outsB m) c (Pipeline.arrRef spec0 6) (by decide)).symm
    | ⟨7, _⟩ => exact ((dat0 adm0 (V1 m) c).arrAt_in 7 rfl _).trans (V2_of m (outsB m) c (Pipeline.arrRef spec0 7) (by decide)).symm
    | ⟨8, _⟩ =>
      refine (arr0_8 adm0 (V1 m) c).trans ?_
      unfold V2
      show _ = Function.update (Function.update (V1 m c) main_v5_0 (outsB m 2 main_v5_0 c)) main_v5_1 (outsB m 2 main_v5_1 c) (Proc.devRef .tc main_v5_0)
      rw [Function.update_of_ne (StableHlo.devRef_ne_of_ne (show (main_v5_0 : Ref sig .tc) ≠ main_v5_1 by decide)), Function.update_self, outsB_0]
      rfl
    | ⟨9, _⟩ =>
      refine (arr0_9 adm0 (V1 m) c).trans ?_
      unfold V2
      show _ = Function.update (Function.update (V1 m c) main_v5_0 (outsB m 2 main_v5_0 c)) main_v5_1 (outsB m 2 main_v5_1 c) (Proc.devRef .tc main_v5_1)
      rw [Function.update_self, outsB_1]
      rfl
  · have h' : ∀ w : Fin 10, b ≠ Proc.devRef .tc (Pipeline.arrRef spec0 w) := fun w e => h ⟨w, e⟩
    refine (show Pipeline.afterRegion (dat0 adm0 (V1 m) c) (V1 m c) b = V1 m c b from dif_neg h).trans ?_
    unfold V2
    rw [Function.update_of_ne (show b ≠ Proc.devRef .tc main_v5_1 from h' 9), Function.update_of_ne (show b ≠ Proc.devRef .tc main_v5_0 from h' 8)]

theorem after1_eq (c : Dev nD) (b : DevRef τ sig) :
    Pipeline.afterRegion (dat1 (adm1 m) (V3 m (outsA m)) c) (V3 m (outsA m) c) b = V4 m (outsB m) c b := by
  by_cases h : ∃ w : Fin 2, b = Proc.devRef .tc (Pipeline.arrRef spec1 w)
  · obtain ⟨w, rfl⟩ := h
    refine (Pipeline.afterRegion_arr (dat1 (adm1 m) (V3 m (outsA m)) c) (V3 m (outsA m) c) winFacts1.arr_inj w).trans ?_
    match w with
    | ⟨0, _⟩ =>
      refine ((dat1 (adm1 m) (V3 m (outsA m)) c).arrAt_in 0 rfl _).trans ?_
      refine Eq.trans ?_ (V4_of m (outsB m) c main_v0 (by decide)).symm
      rw [V3_outs]
      rfl
    | ⟨1, _⟩ =>
      unfold V4
      show _ = Function.update (V3 m (outsB m) c) main_v8 (outsB m 4 main_v8 c) (Proc.devRef .tc main_v8)
      rw [Function.update_self, outsB_2]
      rfl
  · have h' : ∀ w : Fin 2, b ≠ Proc.devRef .tc (Pipeline.arrRef spec1 w) := fun w e => h ⟨w, e⟩
    refine (show Pipeline.afterRegion (dat1 (adm1 m) (V3 m (outsA m)) c) (V3 m (outsA m) c) b = V3 m (outsA m) c b from dif_neg h).trans ?_
    unfold V4
    rw [Function.update_of_ne (show b ≠ Proc.devRef .tc main_v8 from h' 1), V3_outs]

theorem arrSub0 : Pipeline.arrRefs (pcfgs (F := F) 0).spec ⊆ Pipeline.ucRefs τ sig := Pipeline.arrRefs_sub_ucRefs spec0 (by decide)
theorem arrSub1 : Pipeline.arrRefs (pcfgs (F := F) 1).spec ⊆ Pipeline.ucRefs τ sig := Pipeline.arrRefs_sub_ucRefs spec1 (by decide)
theorem tblSub0 : Pipeline.tblRefs (pcfgs (F := F) 0).pre ⊆ Pipeline.ucRefs τ sig := Pipeline.tblRefs_sub_ucRefs pre0 (by decide)
theorem tblSub1 : Pipeline.tblRefs (pcfgs (F := F) 1).pre ⊆ Pipeline.ucRefs τ sig := Pipeline.tblRefs_sub_ucRefs pre1 (by decide)

theorem hpre0 (c : Dev nD) : iprop(StableHlo.held (c : Thread nD τ) (Pipeline.ucRefs τ sig) (V1 m c) ∗ rest c) ⊢ (R0 m).pre c :=
  Pipeline.RegionSeg.ofHeldInT_pre (pcs := pcfgs (F := F)) (a := adms m) (pdats := pdats m) (p := 0) (D := fun _ => 0) (X := fun _ => BI.emp)
    (Y := fun _ => BI.emp) (R := fun _ => BI.emp) (W := V1 m) arrSub0 tblSub0 c

theorem hpost0 (c : Dev nD) : (R0 m).post c ⊢ iprop(StableHlo.held (c : Thread nD τ) (Pipeline.ucRefs τ sig) (V2 m (outsB m) c) ∗ rest c) := by
  rw [← StableHlo.held_congr (c.tc : Thread nD τ) (S := Pipeline.ucRefs τ sig) (V := Pipeline.afterRegion (dat0 adm0 (V1 m) c) (V1 m c))
    (fun b _ => after0_eq m c b)]
  exact Pipeline.RegionSeg.ofHeldInT_post (pcs := pcfgs (F := F)) (a := adms m) (pdats := pdats m) (p := 0) arrSub0 tblSub0 c

theorem hpre1 (c : Dev nD) : iprop(StableHlo.held (c : Thread nD τ) (Pipeline.ucRefs τ sig) (V3 m (outsB m) c) ∗ rest c) ⊢ (R1 m).pre c := by
  rw [V3_outs]
  exact Pipeline.RegionSeg.ofHeldInT_pre (pcs := pcfgs (F := F)) (a := adms m) (pdats := pdats m) (p := 1) (D := fun _ => 0) (X := fun _ => BI.emp)
    (Y := fun _ => BI.emp) (R := fun _ => BI.emp) (W := V3 m (outsA m)) arrSub1 tblSub1 c

theorem hpost1 (c : Dev nD) : (R1 m).post c ⊢ iprop(StableHlo.held (c : Thread nD τ) (Pipeline.ucRefs τ sig) (V4 m (outsB m) c) ∗ rest c) := by
  rw [← StableHlo.held_congr (c.tc : Thread nD τ) (S := Pipeline.ucRefs τ sig)
    (V := Pipeline.afterRegion (dat1 (adm1 m) (V3 m (outsA m)) c) (V3 m (outsA m) c)) (fun b _ => after1_eq m c b)]
  exact Pipeline.RegionSeg.ofHeldInT_post (pcs := pcfgs (F := F)) (a := adms m) (pdats := pdats m) (p := 1) arrSub1 tblSub1 c

theorem hinit' (ρ : Dev nD → PrngReg) :
    iprop((bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ BI.emp)) ∗ levAts lev (fun _ _ => (0 : ℕ)))
      ⊢ (|={Set.univ}=> bigSep Finset.univ fun c : Dev nD => rest c : sProp 𝕄) := by
  have hone : ∀ c : Dev nD, iprop(unscopedSems0 c ∗ owes (c : Thread nD τ) (0 : CellTallies nD τ sig Unit) ∅
        ∗ Pipeline.launchCred (fun _ => (0 : CellTallies nD τ sig Unit)) c ∗ prngReg c (ρ c) ∗ BI.emp) ⊢ (rest c : sProp 𝕄) := by
    intro c
    iintro ⟨-, Ho, -, -, -⟩
    isplitl [Ho]
    · iexists ∅
      iexact Ho
    isplitl
    · iempintro
    · iempintro
  iintro ⟨H, -⟩
  imodintro
  have hall : (bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ BI.emp))
      ⊢ (bigSep Finset.univ fun c : Dev nD => rest c : sProp 𝕄) := bigSep_mono fun c _ => hone c
  iapply hall
  iexact H

theorem sepJoin (A B : Dev nD → sProp 𝕄) :
    iprop((bigSep Finset.univ A) ∗ bigSep Finset.univ B) ⊢ (bigSep Finset.univ fun c : Dev nD => iprop(A c ∗ B c) : sProp 𝕄) := by
  rw [bigSep_sep']

set_option backward.isDefEq.respectTransparency.types false in
/-- Every buffer of the kernel at the end, every counter at zero. -/
theorem run (ρ : Dev nD → PrngReg) :
    θ_run defs (onTc (τ := τ) (main (F := F))) ⟨m, fun _ => 0, ρ⟩ (fun r => (∀ c : Dev nD,
      ∀ b ∈ Pipeline.ucRefs τ sig, r.2.mem ((c : Thread nD τ).1, b) = V5 m (outsB m) c b) ∧ r.2.sem = fun _ => 0) := by
  refine Pipeline.θ_run_regions_kit_dev_sems (pcfgs (F := F)) (adms m) (pdats m) () (cellOf_inj (adms m)) emb₁ defs₀ Variants.none lev
    (fun _ _ => (0 : ℕ)) m ρ main
    (segs m (outsB m) Variants.none lev (fun _ _ => (0 : ℕ)) (fun _ => rest) () (adms m) (pdats m) (R0 m) (R1 m))
    (fun c Q => by
      rewrite [main_chain c, Seg.run_eq_chain,
        show (segs m (outsB m) Variants.none lev (fun _ _ => (0 : ℕ)) (fun _ => rest) () (adms m) (pdats m) (R0 m) (R1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun g h => if_neg h)
    (fun _ => BI.emp)
    (initOf (Pipeline.cells (Pipeline.pin (pcfgs (F := F)) (adms m)) (cellOf_inj (adms m)))
      (Pipeline.launchToks (Pipeline.pin (pcfgs (F := F)) (adms m)) (cellOf_inj (adms m)))) ?_
    (T₀ := fun c => iprop(StableHlo.held (c : Thread nD τ) (Pipeline.ucRefs τ sig) (V0 m c) ∗ rest c))
    (Tₙ := fun c => StableHlo.held (c : Thread nD τ) (Pipeline.ucRefs τ sig) (V5 m (outsB m) c))
    (hch := fun c => ⟨.rfl, hpre0 m c, hpost0 m c, hpre1 m c, hpost1 m c, sep_mono .rfl (by iintro ⟨H, -⟩; iexact H)⟩)
    (hinit := ?_) (QY := fun c s => ∀ b ∈ Pipeline.ucRefs τ sig, s.mem ((c : Thread nD τ).1, b) = V5 m (outsB m) c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells (Pipeline.pin (pcfgs (F := F)) (adms m)) (cellOf_inj (adms m)))
        (Pipeline.launchToks (Pipeline.pin (pcfgs (F := F)) (adms m)) (cellOf_inj (adms m))))) from .rfl)
      iexact Hu
    · iapply (show (BI.emp : sProp 𝕄) ⊢ bigSep Finset.univ (fun _ : Dev nD => (BI.emp : sProp 𝕄)) from by rw [BI.bigSep_emp_const])
      iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => (0 : CellTallies nD τ sig Unit)) c ∗ prngReg c (ρ c) ∗ BI.emp))
            : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hinit' ρ) $$ [Hr Hla] with HE
    · isplitl [Hr]; · iexact Hr
      iexact Hla
    imodintro
    iapply (sepJoin (fun c : Dev nD => StableHlo.held (c : Thread nD τ) (Pipeline.ucRefs τ sig) (V0 m c)) fun c => rest c)
    isplitl [Hh]; · iexact Hh
    iexact HE
  · unfold StableHlo.held
    iintro ⟨Hh, HSI⟩
    ihave Hr := (pointsTo_read_all (Pipeline.ucRefs τ sig) (fun b => ((c : Thread nD τ).1, b)) (V5 m (outsB m) c) s') $$ [Hh HSI]
    · isplitl [Hh] <;> iassumption
    icases Hr with ⟨%h, HSI⟩
    imodintro
    isplitr
    · ipureintro
      exact h
    · iexact HSI

end Cert.KernelIdeal.Hand
-- ==== Proof.KI.Ends.lean ====
/- What a run leaves in the argument arrays and the two result arrays. -/
module

public import proofs.«01_k».proof.Proof.KI.Run

@[expose] public section

noncomputable section

namespace Cert.KernelIdeal.Hand

open Cert.KernelIdeal Cert.KernelIdeal.Gen Idealize.ShloMosaic Idealize.ShloMosaic.TcCoe Idealize.SL.Sem

variable {F : FTy → Type} [FloatOps F] [Named F]

/-- Every execution ends with the arguments unchanged, the two results at the chain's last contents, and every counter at zero. -/
theorem ends (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v9) = V5 m (outsB m) c main_v9
      ∧ r.2.mem ((c.tc : Thread nD τ).loc main_v10) = V5 m (outsB m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => by
    have at' := fun (b : Ref sig .tc) (hb : _) => h.1 c (Proc.devRef .tc b) (Finset.mem_filter.mpr ⟨StableHlo.devRef_mem_tcRefs b, hb⟩)
    exact ⟨at' main_v9 (by decide), at' main_v10 (by decide),
      (at' main_arg0 (by decide)).trans (V5_main_arg0 m (outsB m) c),
      (at' main_arg1 (by decide)).trans (V5_main_arg1 m (outsB m) c),
      (at' main_arg2 (by decide)).trans (V5_main_arg2 m (outsB m) c),
      (at' main_arg3 (by decide)).trans (V5_main_arg3 m (outsB m) c),
      (at' main_arg4 (by decide)).trans (V5_main_arg4 m (outsB m) c),
      (at' main_arg5 (by decide)).trans (V5_main_arg5 m (outsB m) c),
      (at' main_arg6 (by decide)).trans (V5_main_arg6 m (outsB m) c),
      (at' main_arg7 (by decide)).trans (V5_main_arg7 m (outsB m) c)⟩, h.2⟩) (run m ρ)

end Cert.KernelIdeal.Hand

end
-- ==== Proof.RI.Ops.lean ====
/- The reference's straight-line program as a list of host operations, and its run: every execution ends with each
   buffer at the fold of the operations over the launch contents. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-- The knots' second derivatives, as one operation of its three pieces. -/
def fn_main_v57 : (main_v56 : Ref sig .tc).ty.Contents (Elt F) → (main_v55 : Ref sig .tc).ty.Contents (Elt F) → (main_v56 : Ref sig .tc).ty.Contents (Elt F) → (main_v57 : Ref sig .tc).ty.Contents (Elt F) :=
  (fun u0 u1 u2 => (concatenate S1x2x4 2 [⟨S1x2x1, (u0 : (⟨S1x2x1, .f32⟩ : BufTy).Contents (Elt F))⟩, ⟨S1x2x2, (u1 : (⟨S1x2x2, .f32⟩ : BufTy).Contents (Elt F))⟩, ⟨S1x2x1, (u2 : (⟨S1x2x1, .f32⟩ : BufTy).Contents (Elt F))⟩] concatenates_S1x2x1_S1x2x2_S1x2x1_S1x2x4_d2 : (⟨S1x2x4, .f32⟩ : BufTy).Contents (Elt F)))

/-- A stretch of the operations. -/
abbrev ops_part0 : List (HloOp τ sig (Elt F)) :=
  [ nullary main_c (fun i => lit0 (S4.rowMajor i)),
    nullary main_c_0 (constantI S4 1 0#1),
    nullary main_c_1 (fun i => lit1 (S3.rowMajor i)),
    nullary main_c_2 (fun i => lit2 (S2x2.rowMajor i)),
    nullary main_c_3 (fun i => lit3 (S32.rowMajor i)),
    nullary main_c_4 (fun i => lit4 (S32.rowMajor i)),
    nullary main_c_5 (fun i => lit5 (S32.rowMajor i)),
    nullary main_c_6 (constantI S32 1 0#1),
    nullary main_c_7 (constantI S32 1 0#1),
    nullary main_c_8 (constantI S32 1 0#1),
    nullary main_c_9 (fun i => lit6 (S32.rowMajor i)),
    nullary main_c_10 (constantI S32 1 0#1),
    nullary main_c_11 (constantI S32 1 0#1),
    nullary main_c_12 (fun i => lit7 (S32.rowMajor i)),
    nullary main_c_13 (constantI S32 1 0#1),
    nullary main_c_14 (constantI S32 1 0#1),
    nullary main_c_15 (constantI S_ 32 32#32),
    unary main_c_15 main_v0 (broadcastInDim S4 ![] bcast_S_S4 : (⟨S_, .i32⟩ : BufTy).Contents (Elt F) → (⟨S4, .i32⟩ : BufTy).Contents (Elt F)),
    binary main_c main_v0 main_v1 (addi : (⟨S4, .i32⟩ : BufTy).Contents (Elt F) → (⟨S4, .i32⟩ : BufTy).Contents (Elt F) → (⟨S4, .i32⟩ : BufTy).Contents (Elt F)),
    ternary main_c_0 main_v1 main_c main_v2 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v2 main_v3 (broadcastInDim S4x1 ![0] bcast_S4_S4x1_0 : (⟨S4, .i32⟩ : BufTy).Contents (Elt F) → (⟨S4x1, .i32⟩ : BufTy).Contents (Elt F)),
    binary main_arg0 main_v3 main_v4 ((fun x i => Host.gather gather_S1x2x32x3x224x224_S4x1_S1x2x4x3x224x224_01345_2_n_n_2_1_1213224224 x i) : (⟨S1x2x32x3x224x224, .f32⟩ : BufTy).Contents (Elt F) → (⟨S4x1, .i32⟩ : BufTy).Contents (Elt F) → (⟨S1x2x4x3x224x224, .f32⟩ : BufTy).Contents (Elt F)),
    reshape main_v4 main_v5 (rfl : (.f32 : EltTy) = .f32) shapeCasts_S1x2x4x3x224x224_S8x3x224x224,
    nullary main_cst (constant S_ .f32 0x00000000#32),
    binary main_v5 main_cst main_v6 ((fun x v => Host.reduceAdd x v reducesTo_S8x3x224x224_S8x3_d2_3 h_S_) : (⟨S8x3x224x224, .f32⟩ : BufTy).Contents (Elt F) → (⟨S_, .f32⟩ : BufTy).Contents (Elt F) → (⟨S8x3, .f32⟩ : BufTy).Contents (Elt F)),
    nullary main_cst_16 (constant S_ .f32 0x47440000#32),
    unary main_cst_16 main_v7 (broadcastInDim S8x3 ![] bcast_S_S8x3 : (⟨S_, .f32⟩ : BufTy).Contents (Elt F) → (⟨S8x3, .f32⟩ : BufTy).Contents (Elt F)),
    binary main_v6 main_v7 main_v8 (Host.divf : (⟨S8x3, .f32⟩ : BufTy).Contents (Elt F) → (⟨S8x3, .f32⟩ : BufTy).Contents (Elt F) → (⟨S8x3, .f32⟩ : BufTy).Contents (Elt F)),
    binary main_v8 main_arg6 main_v9 ((fun l r => Host.dotGeneral dot_S8x3_S3x768_S8x768_1_0_0_1_n_n none l r) : (⟨S8x3, .f32⟩ : BufTy).Contents (Elt F) → (⟨S3x768, .f32⟩ : BufTy).Contents (Elt F) → (⟨S8x768, .f32⟩ : BufTy).Contents (Elt F)),
    unary main_arg7 main_v10 (broadcastInDim S1x768 ![1] bcast_S768_S1x768_1 : (⟨S768, .f32⟩ : BufTy).Contents (Elt F) → (⟨S1x768, .f32⟩ : BufTy).Contents (Elt F)),
    unary main_v10 main_v11 (broadcastInDim S8x768 ![0, 1] bcast_S1x768_S8x768_0_1 : (⟨S1x768, .f32⟩ : BufTy).Contents (Elt F) → (⟨S8x768, .f32⟩ : BufTy).Contents (Elt F)),
    binary main_v9 main_v11 main_v12 (addf : (⟨S8x768, .f32⟩ : BufTy).Contents (Elt F) → (⟨S8x768, .f32⟩ : BufTy).Contents (Elt F) → (⟨S8x768, .f32⟩ : BufTy).Contents (Elt F)),
    reshape main_v12 main_v13 (rfl : (.f32 : EltTy) = .f32) shapeCasts_S8x768_S2x4x768,
    binary main_arg1 main_arg2 main_v14 ((fun l r => Host.dotGeneral dot_S1x1x768_S768x768_S1x1x768_2_0_01_1_n_n none l r) : (⟨S1x1x768, .f32⟩ : BufTy).Contents (Elt F) → (⟨S768x768, .f32⟩ : BufTy).Contents (Elt F) → (⟨S1x1x768, .f32⟩ : BufTy).Contents (Elt F)),
    unary main_arg3 main_v15 (broadcastInDim S1x1x768 ![2] bcast_S768_S1x1x768_2 : (⟨S768, .f32⟩ : BufTy).Contents (Elt F) → (⟨S1x1x768, .f32⟩ : BufTy).Contents (Elt F)),
    binary main_v14 main_v15 main_v16 (addf : (⟨S1x1x768, .f32⟩ : BufTy).Contents (Elt F) → (⟨S1x1x768, .f32⟩ : BufTy).Contents (Elt F) → (⟨S1x1x768, .f32⟩ : BufTy).Contents (Elt F)),
    binary main_v13 main_arg4 main_v17 ((fun l r => Host.dotGeneral dot_S2x4x768_S768x768_S2x4x768_2_0_01_1_n_n none l r) : (⟨S2x4x768, .f32⟩ : BufTy).Contents (Elt F) → (⟨S768x768, .f32⟩ : BufTy).Contents (Elt F) → (⟨S2x4x768, .f32⟩ : BufTy).Contents (Elt F)),
    unary main_arg5 main_v18 (broadcastInDim S1x1x768 ![2] bcast_S768_S1x1x768_2 : (⟨S768, .f32⟩ : BufTy).Contents (Elt F) → (⟨S1x1x768, .f32⟩ : BufTy).Contents (Elt F)),
    unary main_v18 main_v19 (broadcastInDim S2x4x768 ![0, 1, 2] bcast_S1x1x768_S2x4x768_0_1_2 : (⟨S1x1x768, .f32⟩ : BufTy).Contents (Elt F) → (⟨S2x4x768, .f32⟩ : BufTy).Contents (Elt F)),
    binary main_v17 main_v19 main_v20 (addf : (⟨S2x4x768, .f32⟩ : BufTy).Contents (Elt F) → (⟨S2x4x768, .f32⟩ : BufTy).Contents (Elt F) → (⟨S2x4x768, .f32⟩ : BufTy).Contents (Elt F)),
    nullary main_cst_17 (constant S_ .f32 0x00000000#32),
    binary main_v16 main_cst_17 main_v21 ((fun x v => Host.reduceAdd x v reducesTo_S1x1x768_S1x768_d0 h_S_) : (⟨S1x1x768, .f32⟩ : BufTy).Contents (Elt F) → (⟨S_, .f32⟩ : BufTy).Contents (Elt F) → (⟨S1x768, .f32⟩ : BufTy).Contents (Elt F)),
    binary main_v20 main_v21 main_v22 ((fun l r => Host.dotGeneral dot_S2x4x768_S1x768_S2x4x1_2_1_01_0_n_n none l r) : (⟨S2x4x768, .f32⟩ : BufTy).Contents (Elt F) → (⟨S1x768, .f32⟩ : BufTy).Contents (Elt F) → (⟨S2x4x1, .f32⟩ : BufTy).Contents (Elt F)),
    unary main_v22 main_v23 ((transpose S2x1x4 [0, 2, 1] · transposes_S2x4x1_S2x1x4_0_2_1) : (⟨S2x4x1, .f32⟩ : BufTy).Contents (Elt F) → (⟨S2x1x4, .f32⟩ : BufTy).Contents (Elt F)),
    nullary main_cst_18 (constant S_ .f32 0x3D13CD3A#32),
    unary main_cst_18 main_v24 (broadcastInDim S2x1x4 ![] bcast_S_S2x1x4 : (⟨S_, .f32⟩ : BufTy).Contents (Elt F) → (⟨S2x1x4, .f32⟩ : BufTy).Contents (Elt F)),
    binary main_v23 main_v24 main_v25 (mulf : (⟨S2x1x4, .f32⟩ : BufTy).Contents (Elt F) → (⟨S2x1x4, .f32⟩ : BufTy).Contents (Elt F) → (⟨S2x1x4, .f32⟩ : BufTy).Contents (Elt F)),
    nullary main_cst_19 (constant S_ .f32 0xFF800000#32),
    binary main_v25 main_cst_19 main_v26 ((fun x v => Host.reduce FloatOps.maximumf x v reducesTo_S2x1x4_S2x1_d2 h_S_) : (⟨S2x1x4, .f32⟩ : BufTy).Contents (Elt F) → (⟨S_, .f32⟩ : BufTy).Contents (Elt F) → (⟨S2x1, .f32⟩ : BufTy).Contents (Elt F)),
    nullary main_cst_20 (constant S_ .f32 0xFF800000#32),
    unary main_cst_20 main_v27 (broadcastInDim S2x1 ![] bcast_S_S2x1 : (⟨S_, .f32⟩ : BufTy).Contents (Elt F) → (⟨S2x1, .f32⟩ : BufTy).Contents (Elt F)),
    binary main_v27 main_v26 main_v28 (maximumf : (⟨S2x1, .f32⟩ : BufTy).Contents (Elt F) → (⟨S2x1, .f32⟩ : BufTy).Contents (Elt F) → (⟨S2x1, .f32⟩ : BufTy).Contents (Elt F)),
    unary main_v28 main_v29 (broadcastInDim S2x1x1 ![0, 1] bcast_S2x1_S2x1x1_0_1 : (⟨S2x1, .f32⟩ : BufTy).Contents (Elt F) → (⟨S2x1x1, .f32⟩ : BufTy).Contents (Elt F)),
    unary main_v29 main_v30 (broadcastInDim S2x1x4 ![0, 1, 2] bcast_S2x1x1_S2x1x4_0_1_2 : (⟨S2x1x1, .f32⟩ : BufTy).Contents (Elt F) → (⟨S2x1x4, .f32⟩ : BufTy).Contents (Elt F)),
    binary main_v25 main_v30 main_v31 (subf : (⟨S2x1x4, .f32⟩ : BufTy).Contents (Elt F) → (⟨S2x1x4, .f32⟩ : BufTy).Contents (Elt F) → (⟨S2x1x4, .f32⟩ : BufTy).Contents (Elt F)),
    unary main_v31 main_v32 (Host.exp : (⟨S2x1x4, .f32⟩ : BufTy).Contents (Elt F) → (⟨S2x1x4, .f32⟩ : BufTy).Contents (Elt F)),
    nullary main_cst_21 (constant S_ .f32 0x00000000#32),
    binary main_v32 main_cst_21 main_v33 ((fun x v => Host.reduceAdd x v reducesTo_S2x1x4_S2x1_d2 h_S_) : (⟨S2x1x4, .f32⟩ : BufTy).Contents (Elt F) → (⟨S_, .f32⟩ : BufTy).Contents (Elt F) → (⟨S2x1, .f32⟩ : BufTy).Contents (Elt F)),
    unary main_v33 main_v34 (broadcastInDim S2x1x1 ![0, 1] bcast_S2x1_S2x1x1_0_1 : (⟨S2x1, .f32⟩ : BufTy).Contents (Elt F) → (⟨S2x1x1, .f32⟩ : BufTy).Contents (Elt F)),
    unary main_v34 main_v35 (broadcastInDim S2x1x4 ![0, 1, 2] bcast_S2x1x1_S2x1x4_0_1_2 : (⟨S2x1x1, .f32⟩ : BufTy).Contents (Elt F) → (⟨S2x1x4, .f32⟩ : BufTy).Contents (Elt F)) ]

/-- A stretch of the operations. -/
abbrev ops_part1 : List (HloOp τ sig (Elt F)) :=
  [ binary main_v32 main_v35 main_v36 (Host.divf : (⟨S2x1x4, .f32⟩ : BufTy).Contents (Elt F) → (⟨S2x1x4, .f32⟩ : BufTy).Contents (Elt F) → (⟨S2x1x4, .f32⟩ : BufTy).Contents (Elt F)),
    nullary main_cst_22 (constant S_ .f32 0x00000000#32),
    binary main_v36 main_cst_22 main_v37 ((fun x v => Host.reduceAdd x v reducesTo_S2x1x4_S2x4_d1 h_S_) : (⟨S2x1x4, .f32⟩ : BufTy).Contents (Elt F) → (⟨S_, .f32⟩ : BufTy).Contents (Elt F) → (⟨S2x4, .f32⟩ : BufTy).Contents (Elt F)),
    reshape main_v37 main_v38 (rfl : (.f32 : EltTy) = .f32) shapeCasts_S2x4_S1x2x4,
    unary main_c_1 main_v39 (sitofp .f32 : (⟨S3, .i32⟩ : BufTy).Contents (Elt F) → (⟨S3, .f32⟩ : BufTy).Contents (Elt F)),
    unary main_v38 main_v40 ((extractStridedSlice S1x2x3 ![0, 0, 1] · slices_S1x2x4_S1x2x3_0_0_1) : (⟨S1x2x4, .f32⟩ : BufTy).Contents (Elt F) → (⟨S1x2x3, .f32⟩ : BufTy).Contents (Elt F)),
    unary main_v38 main_v41 ((extractStridedSlice S1x2x3 ![0, 0, 0] · slices_S1x2x4_S1x2x3_0_0_0) : (⟨S1x2x4, .f32⟩ : BufTy).Contents (Elt F) → (⟨S1x2x3, .f32⟩ : BufTy).Contents (Elt F)),
    binary main_v40 main_v41 main_v42 (subf : (⟨S1x2x3, .f32⟩ : BufTy).Contents (Elt F) → (⟨S1x2x3, .f32⟩ : BufTy).Contents (Elt F) → (⟨S1x2x3, .f32⟩ : BufTy).Contents (Elt F)),
    unary main_v39 main_v43 (broadcastInDim S1x1x3 ![2] bcast_S3_S1x1x3_2 : (⟨S3, .f32⟩ : BufTy).Contents (Elt F) → (⟨S1x1x3, .f32⟩ : BufTy).Contents (Elt F)),
    unary main_v43 main_v44 (broadcastInDim S1x2x3 ![0, 1, 2] bcast_S1x1x3_S1x2x3_0_1_2 : (⟨S1x1x3, .f32⟩ : BufTy).Contents (Elt F) → (⟨S1x2x3, .f32⟩ : BufTy).Contents (Elt F)),
    binary main_v42 main_v44 main_v45 (Host.divf : (⟨S1x2x3, .f32⟩ : BufTy).Contents (Elt F) → (⟨S1x2x3, .f32⟩ : BufTy).Contents (Elt F) → (⟨S1x2x3, .f32⟩ : BufTy).Contents (Elt F)),
    unary main_v45 main_v46 ((extractStridedSlice S1x2x2 ![0, 0, 1] · slices_S1x2x3_S1x2x2_0_0_1) : (⟨S1x2x3, .f32⟩ : BufTy).Contents (Elt F) → (⟨S1x2x2, .f32⟩ : BufTy).Contents (Elt F)),
    unary main_v45 main_v47 ((extractStridedSlice S1x2x2 ![0, 0, 0] · slices_S1x2x3_S1x2x2_0_0_0) : (⟨S1x2x3, .f32⟩ : BufTy).Contents (Elt F) → (⟨S1x2x2, .f32⟩ : BufTy).Contents (Elt F)),
    binary main_v46 main_v47 main_v48 (subf : (⟨S1x2x2, .f32⟩ : BufTy).Contents (Elt F) → (⟨S1x2x2, .f32⟩ : BufTy).Contents (Elt F) → (⟨S1x2x2, .f32⟩ : BufTy).Contents (Elt F)),
    nullary main_cst_23 (constant S_ .f32 0x40C00000#32),
    unary main_cst_23 main_v49 (broadcastInDim S1x2x2 ![] bcast_S_S1x2x2 : (⟨S_, .f32⟩ : BufTy).Contents (Elt F) → (⟨S1x2x2, .f32⟩ : BufTy).Contents (Elt F)),
    binary main_v49 main_v48 main_v50 (mulf : (⟨S1x2x2, .f32⟩ : BufTy).Contents (Elt F) → (⟨S1x2x2, .f32⟩ : BufTy).Contents (Elt F) → (⟨S1x2x2, .f32⟩ : BufTy).Contents (Elt F)),
    unary main_c_2 main_v51 (sitofp .f32 : (⟨S2x2, .i32⟩ : BufTy).Contents (Elt F) → (⟨S2x2, .f32⟩ : BufTy).Contents (Elt F)),
    nullary main_cst_24 (constant S_ .f32 0x44C58000#32),
    unary main_cst_24 main_v52 (broadcastInDim S2x2 ![] bcast_S_S2x2 : (⟨S_, .f32⟩ : BufTy).Contents (Elt F) → (⟨S2x2, .f32⟩ : BufTy).Contents (Elt F)),
    binary main_v51 main_v52 main_v53 (Host.divf : (⟨S2x2, .f32⟩ : BufTy).Contents (Elt F) → (⟨S2x2, .f32⟩ : BufTy).Contents (Elt F) → (⟨S2x2, .f32⟩ : BufTy).Contents (Elt F)),
    unary main_v53 main_v54 ((transpose S2x2 [1, 0] · transposes_S2x2_S2x2_1_0) : (⟨S2x2, .f32⟩ : BufTy).Contents (Elt F) → (⟨S2x2, .f32⟩ : BufTy).Contents (Elt F)),
    binary main_v50 main_v54 main_v55 ((fun l r => Host.dotGeneral dot_S1x2x2_S2x2_S1x2x2_2_0_01_1_n_n none l r) : (⟨S1x2x2, .f32⟩ : BufTy).Contents (Elt F) → (⟨S2x2, .f32⟩ : BufTy).Contents (Elt F) → (⟨S1x2x2, .f32⟩ : BufTy).Contents (Elt F)),
    nullary main_cst_25 (constant S_ .f32 0x00000000#32),
    unary main_cst_25 main_v56 (broadcastInDim S1x2x1 ![] bcast_S_S1x2x1 : (⟨S_, .f32⟩ : BufTy).Contents (Elt F) → (⟨S1x2x1, .f32⟩ : BufTy).Contents (Elt F)),
    nary ![main_v56, main_v55, main_v56] main_v57 (fun u => fn_main_v57 (F := F) (u 0) (u 1) (u 2)),
    unary main_c_3 main_v58 (sitofp .f32 : (⟨S32, .i32⟩ : BufTy).Contents (Elt F) → (⟨S32, .f32⟩ : BufTy).Contents (Elt F)),
    unary main_c_4 main_v59 (sitofp .f32 : (⟨S32, .i32⟩ : BufTy).Contents (Elt F) → (⟨S32, .f32⟩ : BufTy).Contents (Elt F)),
    nullary main_c_26 (constantI S_ 32 4#32),
    unary main_c_26 main_v60 (broadcastInDim S32 ![] bcast_S_S32 : (⟨S_, .i32⟩ : BufTy).Contents (Elt F) → (⟨S32, .i32⟩ : BufTy).Contents (Elt F)),
    binary main_c_5 main_v60 main_v61 (addi : (⟨S32, .i32⟩ : BufTy).Contents (Elt F) → (⟨S32, .i32⟩ : BufTy).Contents (Elt F) → (⟨S32, .i32⟩ : BufTy).Contents (Elt F)),
    ternary main_c_6 main_v61 main_c_5 main_v62 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v62 main_v63 (broadcastInDim S32x1 ![0] bcast_S32_S32x1_0 : (⟨S32, .i32⟩ : BufTy).Contents (Elt F) → (⟨S32x1, .i32⟩ : BufTy).Contents (Elt F)),
    binary main_v38 main_v63 main_v64 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)),
    nullary main_c_27 (constantI S_ 32 3#32),
    unary main_c_27 main_v65 (broadcastInDim S32 ![] bcast_S_S32 : (⟨S_, .i32⟩ : BufTy).Contents (Elt F) → (⟨S32, .i32⟩ : BufTy).Contents (Elt F)),
    binary main_c_5 main_v65 main_v66 (addi : (⟨S32, .i32⟩ : BufTy).Contents (Elt F) → (⟨S32, .i32⟩ : BufTy).Contents (Elt F) → (⟨S32, .i32⟩ : BufTy).Contents (Elt F)),
    ternary main_c_7 main_v66 main_c_5 main_v67 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v67 main_v68 (broadcastInDim S32x1 ![0] bcast_S32_S32x1_0 : (⟨S32, .i32⟩ : BufTy).Contents (Elt F) → (⟨S32x1, .i32⟩ : BufTy).Contents (Elt F)),
    binary main_v45 main_v68 main_v69 ((fun x i => Host.gather gather_S1x2x3_S32x1_S1x2x32_01_2_n_n_2_1_121 x i) : (⟨S1x2x3, .f32⟩ : BufTy).Contents (Elt F) → (⟨S32x1, .i32⟩ : BufTy).Contents (Elt F) → (⟨S1x2x32, .f32⟩ : BufTy).Contents (Elt F)),
    nullary main_c_28 (constantI S_ 32 4#32),
    unary main_c_28 main_v70 (broadcastInDim S32 ![] bcast_S_S32 : (⟨S_, .i32⟩ : BufTy).Contents (Elt F) → (⟨S32, .i32⟩ : BufTy).Contents (Elt F)),
    binary main_c_5 main_v70 main_v71 (addi : (⟨S32, .i32⟩ : BufTy).Contents (Elt F) → (⟨S32, .i32⟩ : BufTy).Contents (Elt F) → (⟨S32, .i32⟩ : BufTy).Contents (Elt F)),
    ternary main_c_8 main_v71 main_c_5 main_v72 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v72 main_v73 (broadcastInDim S32x1 ![0] bcast_S32_S32x1_0 : (⟨S32, .i32⟩ : BufTy).Contents (Elt F) → (⟨S32x1, .i32⟩ : BufTy).Contents (Elt F)),
    binary main_v57 main_v73 main_v74 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)),
    nullary main_cst_29 (constant S_ .f32 0x40000000#32),
    unary main_cst_29 main_v75 (broadcastInDim S1x2x32 ![] bcast_S_S1x2x32 : (⟨S_, .f32⟩ : BufTy).Contents (Elt F) → (⟨S1x2x32, .f32⟩ : BufTy).Contents (Elt F)),
    binary main_v75 main_v74 main_v76 (mulf : (⟨S1x2x32, .f32⟩ : BufTy).Contents (Elt F) → (⟨S1x2x32, .f32⟩ : BufTy).Contents (Elt F) → (⟨S1x2x32, .f32⟩ : BufTy).Contents (Elt F)),
    nullary main_c_30 (constantI S_ 32 4#32),
    unary main_c_30 main_v77 (broadcastInDim S32 ![] bcast_S_S32 : (⟨S_, .i32⟩ : BufTy).Contents (Elt F) → (⟨S32, .i32⟩ : BufTy).Contents (Elt F)),
    binary main_c_9 main_v77 main_v78 (addi : (⟨S32, .i32⟩ : BufTy).Contents (Elt F) → (⟨S32, .i32⟩ : BufTy).Contents (Elt F) → (⟨S32, .i32⟩ : BufTy).Contents (Elt F)),
    ternary main_c_10 main_v78 main_c_9 main_v79 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v79 main_v80 (broadcastInDim S32x1 ![0] bcast_S32_S32x1_0 : (⟨S32, .i32⟩ : BufTy).Contents (Elt F) → (⟨S32x1, .i32⟩ : BufTy).Contents (Elt F)),
    binary main_v57 main_v80 main_v81 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)),
    binary main_v76 main_v81 main_v82 (addf : (⟨S1x2x32, .f32⟩ : BufTy).Contents (Elt F) → (⟨S1x2x32, .f32⟩ : BufTy).Contents (Elt F) → (⟨S1x2x32, .f32⟩ : BufTy).Contents (Elt F)),
    unary main_v59 main_v83 (broadcastInDim S1x1x32 ![2] bcast_S32_S1x1x32_2 : (⟨S32, .f32⟩ : BufTy).Contents (Elt F) → (⟨S1x1x32, .f32⟩ : BufTy).Contents (Elt F)),
    unary main_v83 main_v84 (broadcastInDim S1x2x32 ![0, 1, 2] bcast_S1x1x32_S1x2x32_0_1_2 : (⟨S1x1x32, .f32⟩ : BufTy).Contents (Elt F) → (⟨S1x2x32, .f32⟩ : BufTy).Contents (Elt F)),
    binary main_v84 main_v82 main_v85 (mulf : (⟨S1x2x32, .f32⟩ : BufTy).Contents (Elt F) → (⟨S1x2x32, .f32⟩ : BufTy).Contents (Elt F) → (⟨S1x2x32, .f32⟩ : BufTy).Contents (Elt F)),
    nullary main_cst_31 (constant S_ .f32 0x40C00000#32) ]

/-- A stretch of the operations. -/
abbrev ops_part2_0 : List (HloOp τ sig (Elt F)) :=
  [ unary main_cst_31 main_v86 (broadcastInDim S1x2x32 ![] bcast_S_S1x2x32 : (⟨S_, .f32⟩ : BufTy).Contents (Elt F) → (⟨S1x2x32, .f32⟩ : BufTy).Contents (Elt F)),
    binary main_v85 main_v86 main_v87 (Host.divf : (⟨S1x2x32, .f32⟩ : BufTy).Contents (Elt F) → (⟨S1x2x32, .f32⟩ : BufTy).Contents (Elt F) → (⟨S1x2x32, .f32⟩ : BufTy).Contents (Elt F)),
    binary main_v69 main_v87 main_v88 (subf : (⟨S1x2x32, .f32⟩ : BufTy).Contents (Elt F) → (⟨S1x2x32, .f32⟩ : BufTy).Contents (Elt F) → (⟨S1x2x32, .f32⟩ : BufTy).Contents (Elt F)),
    nullary main_c_32 (constantI S_ 32 4#32),
    unary main_c_32 main_v89 (broadcastInDim S32 ![] bcast_S_S32 : (⟨S_, .i32⟩ : BufTy).Contents (Elt F) → (⟨S32, .i32⟩ : BufTy).Contents (Elt F)),
    binary main_c_5 main_v89 main_v90 (addi : (⟨S32, .i32⟩ : BufTy).Contents (Elt F) → (⟨S32, .i32⟩ : BufTy).Contents (Elt F) → (⟨S32, .i32⟩ : BufTy).Contents (Elt F)),
    ternary main_c_11 main_v90 main_c_5 main_v91 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v91 main_v92 (broadcastInDim S32x1 ![0] bcast_S32_S32x1_0 : (⟨S32, .i32⟩ : BufTy).Contents (Elt F) → (⟨S32x1, .i32⟩ : BufTy).Contents (Elt F)),
    binary main_v57 main_v92 main_v93 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)),
    nullary main_cst_33 (constant S_ .f32 0x40000000#32),
    unary main_cst_33 main_v94 (broadcastInDim S1x2x32 ![] bcast_S_S1x2x32 : (⟨S_, .f32⟩ : BufTy).Contents (Elt F) → (⟨S1x2x32, .f32⟩ : BufTy).Contents (Elt F)),
    binary main_v93 main_v94 main_v95 (Host.divf : (⟨S1x2x32, .f32⟩ : BufTy).Contents (Elt F) → (⟨S1x2x32, .f32⟩ : BufTy).Contents (Elt F) → (⟨S1x2x32, .f32⟩ : BufTy).Contents (Elt F)),
    nullary main_c_34 (constantI S_ 32 4#32),
    unary main_c_34 main_v96 (broadcastInDim S32 ![] bcast_S_S32 : (⟨S_, .i32⟩ : BufTy).Contents (Elt F) → (⟨S32, .i32⟩ : BufTy).Contents (Elt F)),
    binary main_c_12 main_v96 main_v97 (addi : (⟨S32, .i32⟩ : BufTy).Contents (Elt F) → (⟨S32, .i32⟩ : BufTy).Contents (Elt F) → (⟨S32, .i32⟩ : BufTy).Contents (Elt F)),
    ternary main_c_13 main_v97 main_c_12 main_v98 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v98 main_v99 (broadcastInDim S32x1 ![0] bcast_S32_S32x1_0 : (⟨S32, .i32⟩ : BufTy).Contents (Elt F) → (⟨S32x1, .i32⟩ : BufTy).Contents (Elt F)),
    binary main_v57 main_v99 main_v100 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)),
    nullary main_c_35 (constantI S_ 32 4#32),
    unary main_c_35 main_v101 (broadcastInDim S32 ![] bcast_S_S32 : (⟨S_, .i32⟩ : BufTy).Contents (Elt F) → (⟨S32, .i32⟩ : BufTy).Contents (Elt F)),
    binary main_c_5 main_v101 main_v102 (addi : (⟨S32, .i32⟩ : BufTy).Contents (Elt F) → (⟨S32, .i32⟩ : BufTy).Contents (Elt F) → (⟨S32, .i32⟩ : BufTy).Contents (Elt F)),
    ternary main_c_14 main_v102 main_c_5 main_v103 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v103 main_v104 (broadcastInDim S32x1 ![0] bcast_S32_S32x1_0 : (⟨S32, .i32⟩ : BufTy).Contents (Elt F) → (⟨S32x1, .i32⟩ : BufTy).Contents (Elt F)),
    binary main_v57 main_v104 main_v105 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)),
    binary main_v100 main_v105 main_v106 (subf : (⟨S1x2x32, .f32⟩ : BufTy).Contents (Elt F) → (⟨S1x2x32, .f32⟩ : BufTy).Contents (Elt F) → (⟨S1x2x32, .f32⟩ : BufTy).Contents (Elt F)),
    nullary main_cst_36 (constant S_ .f32 0x40C00000#32),
    unary main_cst_36 main_v107 (broadcastInDim S32 ![] bcast_S_S32 : (⟨S_, .f32⟩ : BufTy).Contents (Elt F) → (⟨S32, .f32⟩ : BufTy).Contents (Elt F)),
    binary main_v107 main_v59 main_v108 (mulf : (⟨S32, .f32⟩ : BufTy).Contents (Elt F) → (⟨S32, .f32⟩ : BufTy).Contents (Elt F) → (⟨S32, .f32⟩ : BufTy).Contents (Elt F)),
    unary main_v108 main_v109 (broadcastInDim S1x1x32 ![2] bcast_S32_S1x1x32_2 : (⟨S32, .f32⟩ : BufTy).Contents (Elt F) → (⟨S1x1x32, .f32⟩ : BufTy).Contents (Elt F)),
    unary main_v109 main_v110 (broadcastInDim S1x2x32 ![0, 1, 2] bcast_S1x1x32_S1x2x32_0_1_2 : (⟨S1x1x32, .f32⟩ : BufTy).Contents (Elt F) → (⟨S1x2x32, .f32⟩ : BufTy).Contents (Elt F)) ]

/-- A stretch of the operations. -/
abbrev ops_part2_1 : List (HloOp τ sig (Elt F)) :=
  [ binary main_v106 main_v110 main_v111 (Host.divf : (⟨S1x2x32, .f32⟩ : BufTy).Contents (Elt F) → (⟨S1x2x32, .f32⟩ : BufTy).Contents (Elt F) → (⟨S1x2x32, .f32⟩ : BufTy).Contents (Elt F)),
    unary main_v58 main_v112 (broadcastInDim S1x1x32 ![2] bcast_S32_S1x1x32_2 : (⟨S32, .f32⟩ : BufTy).Contents (Elt F) → (⟨S1x1x32, .f32⟩ : BufTy).Contents (Elt F)),
    unary main_v112 main_v113 (broadcastInDim S1x2x32 ![0, 1, 2] bcast_S1x1x32_S1x2x32_0_1_2 : (⟨S1x1x32, .f32⟩ : BufTy).Contents (Elt F) → (⟨S1x2x32, .f32⟩ : BufTy).Contents (Elt F)),
    binary main_v88 main_v113 main_v114 (mulf : (⟨S1x2x32, .f32⟩ : BufTy).Contents (Elt F) → (⟨S1x2x32, .f32⟩ : BufTy).Contents (Elt F) → (⟨S1x2x32, .f32⟩ : BufTy).Contents (Elt F)),
    binary main_v64 main_v114 main_v115 (addf : (⟨S1x2x32, .f32⟩ : BufTy).Contents (Elt F) → (⟨S1x2x32, .f32⟩ : BufTy).Contents (Elt F) → (⟨S1x2x32, .f32⟩ : BufTy).Contents (Elt F)),
    binary main_v58 main_v58 main_v116 (mulf : (⟨S32, .f32⟩ : BufTy).Contents (Elt F) → (⟨S32, .f32⟩ : BufTy).Contents (Elt F) → (⟨S32, .f32⟩ : BufTy).Contents (Elt F)),
    unary main_v116 main_v117 (broadcastInDim S1x1x32 ![2] bcast_S32_S1x1x32_2 : (⟨S32, .f32⟩ : BufTy).Contents (Elt F) → (⟨S1x1x32, .f32⟩ : BufTy).Contents (Elt F)),
    unary main_v117 main_v118 (broadcastInDim S1x2x32 ![0, 1, 2] bcast_S1x1x32_S1x2x32_0_1_2 : (⟨S1x1x32, .f32⟩ : BufTy).Contents (Elt F) → (⟨S1x2x32, .f32⟩ : BufTy).Contents (Elt F)),
    binary main_v95 main_v118 main_v119 (mulf : (⟨S1x2x32, .f32⟩ : BufTy).Contents (Elt F) → (⟨S1x2x32, .f32⟩ : BufTy).Contents (Elt F) → (⟨S1x2x32, .f32⟩ : BufTy).Contents (Elt F)),
    binary main_v115 main_v119 main_v120 (addf : (⟨S1x2x32, .f32⟩ : BufTy).Contents (Elt F) → (⟨S1x2x32, .f32⟩ : BufTy).Contents (Elt F) → (⟨S1x2x32, .f32⟩ : BufTy).Contents (Elt F)),
    binary main_v58 main_v58 main_v121 (mulf : (⟨S32, .f32⟩ : BufTy).Contents (Elt F) → (⟨S32, .f32⟩ : BufTy).Contents (Elt F) → (⟨S32, .f32⟩ : BufTy).Contents (Elt F)),
    binary main_v121 main_v58 main_v122 (mulf : (⟨S32, .f32⟩ : BufTy).Contents (Elt F) → (⟨S32, .f32⟩ : BufTy).Contents (Elt F) → (⟨S32, .f32⟩ : BufTy).Contents (Elt F)),
    unary main_v122 main_v123 (broadcastInDim S1x1x32 ![2] bcast_S32_S1x1x32_2 : (⟨S32, .f32⟩ : BufTy).Contents (Elt F) → (⟨S1x1x32, .f32⟩ : BufTy).Contents (Elt F)),
    unary main_v123 main_v124 (broadcastInDim S1x2x32 ![0, 1, 2] bcast_S1x1x32_S1x2x32_0_1_2 : (⟨S1x1x32, .f32⟩ : BufTy).Contents (Elt F) → (⟨S1x2x32, .f32⟩ : BufTy).Contents (Elt F)),
    binary main_v111 main_v124 main_v125 (mulf : (⟨S1x2x32, .f32⟩ : BufTy).Contents (Elt F) → (⟨S1x2x32, .f32⟩ : BufTy).Contents (Elt F) → (⟨S1x2x32, .f32⟩ : BufTy).Contents (Elt F)),
    binary main_v120 main_v125 main_v126 (addf : (⟨S1x2x32, .f32⟩ : BufTy).Contents (Elt F) → (⟨S1x2x32, .f32⟩ : BufTy).Contents (Elt F) → (⟨S1x2x32, .f32⟩ : BufTy).Contents (Elt F)),
    reshape main_v126 main_v127 (rfl : (.f32 : EltTy) = .f32) shapeCasts_S1x2x32_S2x32,
    unary main_v127 main_values ((fun x => (Host.topK S2x8 1 (FloatOps.cmpfTotal .gt) x sliceFits_S2x32_S2x8).1) : (⟨S2x32, .f32⟩ : BufTy).Contents (Elt F) → (⟨S2x8, .f32⟩ : BufTy).Contents (Elt F)),
    unary main_v127 main_indices ((fun x => (Host.topK S2x8 1 (FloatOps.cmpfTotal .gt) x sliceFits_S2x32_S2x8).2) : (⟨S2x32, .f32⟩ : BufTy).Contents (Elt F) → (⟨S2x8, .i32⟩ : BufTy).Contents (Elt F)),
    TRef.unary (TRef.of (T := ⟨S2x8, .i32⟩) main_indices) (TRef.of (T := ⟨S2x8x1, .i32⟩) main_call0_v0) (broadcastInDim S2x8x1 ![0, 1] bcast_S2x8_S2x8x1_0_1),
    TRef.nullary (TRef.of (T := ⟨S1x1x32, .i32⟩) main_call0_v1) (iotaInDim S1x1x32 32 2),
    TRef.unary (TRef.of (T := ⟨S2x8x1, .i32⟩) main_call0_v0) (TRef.of (T := ⟨S2x8x32, .i32⟩) main_call0_v2) (broadcastInDim S2x8x32 ![0, 1, 2] bcast_S2x8x1_S2x8x32_0_1_2),
    TRef.unary (TRef.of (T := ⟨S1x1x32, .i32⟩) main_call0_v1) (TRef.of (T := ⟨S2x8x32, .i32⟩) main_call0_v3) (broadcastInDim S2x8x32 ![0, 1, 2] bcast_S1x1x32_S2x8x32_0_1_2),
    TRef.binary (TRef.of (T := ⟨S2x8x32, .i32⟩) main_call0_v2) (TRef.of (T := ⟨S2x8x32, .i32⟩) main_call0_v3) (TRef.of (T := ⟨S2x8x32, .i1⟩) main_call0_v4) (cmpi .eq),
    TRef.unary (TRef.of (T := ⟨S2x8x32, .i1⟩) main_call0_v4) (TRef.of (T := ⟨S2x8x32, .f32⟩) main_v128) (uitofp .f32),
    unary main_v128 main_v129 ((transpose S2x32x8 [0, 2, 1] · transposes_S2x8x32_S2x32x8_0_2_1) : (⟨S2x8x32, .f32⟩ : BufTy).Contents (Elt F) → (⟨S2x32x8, .f32⟩ : BufTy).Contents (Elt F)),
    reshape main_v129 main_v130 (rfl : (.f32 : EltTy) = .f32) shapeCasts_S2x32x8_S1x2x32x8,
    unary main_v130 main_v131 (Host.absf : (⟨S1x2x32x8, .f32⟩ : BufTy).Contents (Elt F) → (⟨S1x2x32x8, .f32⟩ : BufTy).Contents (Elt F)),
    nullary main_cst_37 (constant S_ .f32 0x00000000#32),
    binary main_v131 main_cst_37 main_v132 ((fun x v => Host.reduceAdd x v reducesTo_S1x2x32x8_S1x2x32_d3 h_S_) : (⟨S1x2x32x8, .f32⟩ : BufTy).Contents (Elt F) → (⟨S_, .f32⟩ : BufTy).Contents (Elt F) → (⟨S1x2x32, .f32⟩ : BufTy).Contents (Elt F)) ]

/-- A stretch of the operations. -/
abbrev ops_part2_2 : List (HloOp τ sig (Elt F)) :=
  [ unary main_v132 main_v133 (broadcastInDim S1x2x32x1 ![0, 1, 2] bcast_S1x2x32_S1x2x32x1_0_1_2 : (⟨S1x2x32, .f32⟩ : BufTy).Contents (Elt F) → (⟨S1x2x32x1, .f32⟩ : BufTy).Contents (Elt F)),
    nullary main_cst_38 (constant S_ .f32 0x2B8CBCCC#32),
    unary main_cst_38 main_v134 (broadcastInDim S1x2x32x1 ![] bcast_S_S1x2x32x1 : (⟨S_, .f32⟩ : BufTy).Contents (Elt F) → (⟨S1x2x32x1, .f32⟩ : BufTy).Contents (Elt F)),
    binary main_v133 main_v134 main_v135 (maximumf : (⟨S1x2x32x1, .f32⟩ : BufTy).Contents (Elt F) → (⟨S1x2x32x1, .f32⟩ : BufTy).Contents (Elt F) → (⟨S1x2x32x1, .f32⟩ : BufTy).Contents (Elt F)),
    unary main_v135 main_v136 (broadcastInDim S1x2x32x8 ![0, 1, 2, 3] bcast_S1x2x32x1_S1x2x32x8_0_1_2_3 : (⟨S1x2x32x1, .f32⟩ : BufTy).Contents (Elt F) → (⟨S1x2x32x8, .f32⟩ : BufTy).Contents (Elt F)) ]

/-- The third stretch. -/
def ops_part2 : List (HloOp τ sig (Elt F)) :=
  ops_part2_0 ++ (ops_part2_1 ++ (ops_part2_2))

/-- A stretch of the operations. -/
abbrev ops_part3 : List (HloOp τ sig (Elt F)) :=
  [ binary main_v130 main_v136 main_v137 (Host.divf : (⟨S1x2x32x8, .f32⟩ : BufTy).Contents (Elt F) → (⟨S1x2x32x8, .f32⟩ : BufTy).Contents (Elt F) → (⟨S1x2x32x8, .f32⟩ : BufTy).Contents (Elt F)),
    unary main_v137 main_v138 ((transpose S1x2x8x32 [0, 1, 3, 2] · transposes_S1x2x32x8_S1x2x8x32_0_1_3_2) : (⟨S1x2x32x8, .f32⟩ : BufTy).Contents (Elt F) → (⟨S1x2x8x32, .f32⟩ : BufTy).Contents (Elt F)),
    binary main_v138 main_arg0 main_v139 ((fun l r => Host.dotGeneral dot_S1x2x8x32_S1x2x32x3x224x224_S1x2x8x3x224x224_3_2_2_345_01_01 none l r) : (⟨S1x2x8x32, .f32⟩ : BufTy).Contents (Elt F) → (⟨S1x2x32x3x224x224, .f32⟩ : BufTy).Contents (Elt F) → (⟨S1x2x8x3x224x224, .f32⟩ : BufTy).Contents (Elt F)),
    TRef.nullary (TRef.of (T := ⟨S1x2x8x32, .i32⟩) main_call1_v0) (iotaInDim S1x2x8x32 32 3),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S1x2x8x32, .f32⟩) main_v138) (TRef.of (T := ⟨S1x2x8x32, .i32⟩) main_call1_v0) (TRef.of (T := ⟨S_, .f32⟩) main_call1_cst) (TRef.of (T := ⟨S_, .i32⟩) main_call1_c) (TRef.of (T := ⟨S1x2x8, .f32⟩) main_call1_v1_0) (fun x y u v j => (Host.argReduce reducer_argmax_f32_i32 x y u v reducesTo_S1x2x8x32_S1x2x8_d3 h_S_ j).1),
    TRef.quaternary (TRef.of (T := ⟨S1x2x8x32, .f32⟩) main_v138) (TRef.of (T := ⟨S1x2x8x32, .i32⟩) main_call1_v0) (TRef.of (T := ⟨S_, .f32⟩) main_call1_cst) (TRef.of (T := ⟨S_, .i32⟩) main_call1_c) (TRef.of (T := ⟨S1x2x8, .i32⟩) main_v140) (fun x y u v j => (Host.argReduce reducer_argmax_f32_i32 x y u v reducesTo_S1x2x8x32_S1x2x8_d3 h_S_ j).2),
    unary main_v140 main_v141 (broadcastInDim S1x2x8x1x1x1 ![0, 1, 2] bcast_S1x2x8_S1x2x8x1x1x1_0_1_2 : (⟨S1x2x8, .i32⟩ : BufTy).Contents (Elt F) → (⟨S1x2x8x1x1x1, .i32⟩ : BufTy).Contents (Elt F)),
    unary main_v141 main_v142 (broadcastInDim S1x2x8x3x224x224 ![0, 1, 2, 3, 4, 5] bcast_S1x2x8x1x1x1_S1x2x8x3x224x224_0_1_2_3_4_5 : (⟨S1x2x8x1x1x1, .i32⟩ : BufTy).Contents (Elt F) → (⟨S1x2x8x3x224x224, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1x2x8x3x224x224, .i32⟩) main_call2_v0) (broadcastInDim S1x2x8x3x224x224 ![] bcast_S_S1x2x8x3x224x224),
    TRef.binary (TRef.of (T := ⟨S1x2x8x3x224x224, .i32⟩) main_v142) (TRef.of (T := ⟨S1x2x8x3x224x224, .i32⟩) main_call2_v0) (TRef.of (T := ⟨S1x2x8x3x224x224, .i1⟩) main_call2_v1) (cmpi .slt),
    TRef.nullary (TRef.of (T := ⟨S_, .i32⟩) main_call2_c_0) (constantI S_ 32 32#32),
    TRef.unary (TRef.of (T := ⟨S_, .i32⟩) main_call2_c_0) (TRef.of (T := ⟨S1x2x8x3x224x224, .i32⟩) main_call2_v2) (broadcastInDim S1x2x8x3x224x224 ![] bcast_S_S1x2x8x3x224x224),
    TRef.binary (TRef.of (T := ⟨S1x2x8x3x224x224, .i32⟩) main_v142) (TRef.of (T := ⟨S1x2x8x3x224x224, .i32⟩) main_call2_v2) (TRef.of (T := ⟨S1x2x8x3x224x224, .i32⟩) main_call2_v3) addi,
    TRef.ternary (TRef.of (T := ⟨S1x2x8x3x224x224, .i1⟩) main_call2_v1) (TRef.of (T := ⟨S1x2x8x3x224x224, .i32⟩) main_call2_v3) (TRef.of (T := ⟨S1x2x8x3x224x224, .i32⟩) main_v142) (TRef.of (T := ⟨S1x2x8x3x224x224, .i32⟩) main_call2_v4) select,
    TRef.reshape (TRef.of (T := ⟨S1x2x8x3x224x224, .i32⟩) main_call2_v4) (TRef.of (T := ⟨S2x8x3x224x224x1, .i32⟩) main_call2_v5) (rfl : (.i32 : EltTy) = .i32) shapeCasts_S1x2x8x3x224x224_S2x8x3x224x224x1,
    TRef.nullary (TRef.of (T := ⟨S1, .i32⟩) main_call2_c_1) (constantI S1 32 31#32),
    TRef.nullary (TRef.of (T := ⟨S_, .i32⟩) main_call2_c_2) (constantI S_ 32 0#32),
    TRef.unary (TRef.of (T := ⟨S_, .i32⟩) main_call2_c_2) (TRef.of (T := ⟨S2x8x3x224x224x1, .i32⟩) main_call2_v6) (broadcastInDim S2x8x3x224x224x1 ![] bcast_S_S2x8x3x224x224x1),
    TRef.binary (TRef.of (T := ⟨S2x8x3x224x224x1, .i32⟩) main_call2_v5) (TRef.of (T := ⟨S2x8x3x224x224x1, .i32⟩) main_call2_v6) (TRef.of (T := ⟨S2x8x3x224x224x1, .i1⟩) main_call2_v7) (cmpi .sge),
    TRef.unary (TRef.of (T := ⟨S1, .i32⟩) main_call2_c_1) (TRef.of (T := ⟨S1x1x1x1x1x1, .i32⟩) main_call2_v8) (broadcastInDim S1x1x1x1x1x1 ![5] bcast_S1_S1x1x1x1x1x1_5),
    TRef.unary (TRef.of (T := ⟨S1x1x1x1x1x1, .i32⟩) main_call2_v8) (TRef.of (T := ⟨S2x8x3x224x224x1, .i32⟩) main_call2_v9) (broadcastInDim S2x8x3x224x224x1 ![0, 1, 2, 3, 4, 5] bcast_S1x1x1x1x1x1_S2x8x3x224x224x1_0_1_2_3_4_5),
    TRef.binary (TRef.of (T := ⟨S2x8x3x224x224x1, .i32⟩) main_call2_v5) (TRef.of (T := ⟨S2x8x3x224x224x1, .i32⟩) main_call2_v9) (TRef.of (T := ⟨S2x8x3x224x224x1, .i1⟩) main_call2_v10) (cmpi .sle),
    TRef.binary (TRef.of (T := ⟨S2x8x3x224x224x1, .i1⟩) main_call2_v7) (TRef.of (T := ⟨S2x8x3x224x224x1, .i1⟩) main_call2_v10) (TRef.of (T := ⟨S2x8x3x224x224x1, .i1⟩) main_call2_v11) andi,
    TRef.nullary (TRef.of (T := ⟨S_, .i1⟩) main_call2_c_3) (constantI S_ 1 1#1),
    TRef.binary (TRef.of (T := ⟨S2x8x3x224x224x1, .i1⟩) main_call2_v11) (TRef.of (T := ⟨S_, .i1⟩) main_call2_c_3) (TRef.of (T := ⟨S2x8x3x224x224, .i1⟩) main_call2_v12) (fun x v => Host.reduce IntOp.andi x v reducesTo_S2x8x3x224x224x1_S2x8x3x224x224_d5 h_S_),
    TRef.binary (TRef.of (T := ⟨S1x2x32x3x224x224, .f32⟩) main_arg0) (TRef.of (T := ⟨S2x8x3x224x224x1, .i32⟩) main_call2_v5) (TRef.of (T := ⟨S1x2x8x3x224x224, .f32⟩) main_call2_v13) (fun x i => Host.gather gather_S1x2x32x3x224x224_S2x8x3x224x224x1_S1x2x8x3x224x224_0_2_1345_0234_2_5_111111 x i),
    TRef.unary (TRef.of (T := ⟨S2x8x3x224x224, .i1⟩) main_call2_v12) (TRef.of (T := ⟨S1x2x8x3x224x224, .i1⟩) main_call2_v14) (broadcastInDim S1x2x8x3x224x224 ![1, 2, 3, 4, 5] bcast_S2x8x3x224x224_S1x2x8x3x224x224_1_2_3_4_5),
    TRef.nullary (TRef.of (T := ⟨S_, .f32⟩) main_call2_cst) (constant S_ .f32 0x7FC00000#32),
    TRef.unary (TRef.of (T := ⟨S_, .f32⟩) main_call2_cst) (TRef.of (T := ⟨S1x2x8x3x224x224, .f32⟩) main_call2_v15) (broadcastInDim S1x2x8x3x224x224 ![] bcast_S_S1x2x8x3x224x224),
    TRef.ternary (TRef.of (T := ⟨S1x2x8x3x224x224, .i1⟩) main_call2_v14) (TRef.of (T := ⟨S1x2x8x3x224x224, .f32⟩) main_call2_v13) (TRef.of (T := ⟨S1x2x8x3x224x224, .f32⟩) main_call2_v15) (TRef.of (T := ⟨S1x2x8x3x224x224, .f32⟩) main_v143) select,
    binary main_v139 main_v139 main_v144 (subf : (⟨S1x2x8x3x224x224, .f32⟩ : BufTy).Contents (Elt F) → (⟨S1x2x8x3x224x224, .f32⟩ : BufTy).Contents (Elt F) → (⟨S1x2x8x3x224x224, .f32⟩ : BufTy).Contents (Elt F)),
    binary main_v143 main_v144 main_v145 (addf : (⟨S1x2x8x3x224x224, .f32⟩ : BufTy).Contents (Elt F) → (⟨S1x2x8x3x224x224, .f32⟩ : BufTy).Contents (Elt F) → (⟨S1x2x8x3x224x224, .f32⟩ : BufTy).Contents (Elt F)) ]

/-- All the operations, in order. -/
abbrev ops : List (HloOp τ sig (Elt F)) :=
  ops_part0 ++ (ops_part1 ++ (ops_part2 ++ (ops_part3)))
set_option maxRecDepth 8192 in
theorem part0_eq (c : Dev nD) : main_part0 (F := F) c = seq ops_part0 := rfl
set_option maxRecDepth 8192 in
theorem part1_eq (c : Dev nD) : main_part1 (F := F) c = seq ops_part1 := rfl
set_option maxRecDepth 8192 in
set_option maxHeartbeats 4000000 in
theorem part2_eq (c : Dev nD) : main_part2 (F := F) c = seq ops_part2 := rfl
set_option maxRecDepth 8192 in
set_option maxHeartbeats 4000000 in
theorem part3_eq (c : Dev nD) : main_part3 (F := F) c = seq ops_part3 := rfl
set_option maxRecDepth 8192 in
theorem main_eq (c : Dev nD) : main (F := F) c = seq ops := by
  simp only [ops, seq_append, ← part0_eq c, ← part1_eq c, ← part2_eq c, ← part3_eq c]
  rfl
theorem scopedRefs_eq : (Finset.univ.filter fun b : Ref sig .tc => b.isScoped) = ∅ := by decide
theorem noSem : ∀ s : SemLoc sig, False := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., reshape_bufs_sub .., nullary_bufs_sub .., binary_bufs_sub .., nullary_bufs_sub .., unary_bufs_sub .., binary_bufs_sub .., binary_bufs_sub .., unary_bufs_sub .., unary_bufs_sub .., binary_bufs_sub .., reshape_bufs_sub .., binary_bufs_sub .., unary_bufs_sub .., binary_bufs_sub .., binary_bufs_sub .., unary_bufs_sub .., unary_bufs_sub .., binary_bufs_sub .., nullary_bufs_sub .., binary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨binary_bufs_sub .., nullary_bufs_sub .., binary_bufs_sub .., reshape_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., unary_bufs_sub .., nary_bufs_sub .., unary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., binary_bufs_sub .., reshape_bufs_sub .., unary_bufs_sub .., unary_bufs_sub .., unary_bufs_sub .., nullary_bufs_sub .., unary_bufs_sub .., unary_bufs_sub .., binary_bufs_sub .., unary_bufs_sub .., unary_bufs_sub .., reshape_bufs_sub .., unary_bufs_sub .., nullary_bufs_sub .., binary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨unary_bufs_sub .., nullary_bufs_sub .., unary_bufs_sub .., binary_bufs_sub .., unary_bufs_sub ..⟩
set_option maxRecDepth 8192 in
theorem ops_part2_2_fresh : (ops_part2_2 : List (HloOp τ sig (Elt F))).Forall fun op => op.fresh = ∅ :=
  ⟨rfl, rfl, rfl, rfl, rfl⟩
set_option maxRecDepth 8192 in
theorem ops_part3_sub : (ops_part3 : List (HloOp τ sig (Elt F))).Forall fun op => op.bufs ⊆ tcRefs τ sig :=
  ⟨binary_bufs_sub .., unary_bufs_sub .., binary_bufs_sub .., nullary_bufs_sub .., nullary_bufs_sub .., nullary_bufs_sub .., quaternary_bufs_sub .., quaternary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part2, List.mem_append, or_assoc] at h
    rcases h with h | h | h | h | h | h
    exacts [List.forall_iff_forall_mem.mp ops_part0_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ :=
  fun op h => by
    simp only [ops, ops_part2, List.mem_append, or_assoc] at h
    rcases h with h | h | h | h | h | h
    exacts [List.forall_iff_forall_mem.mp ops_part0_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

/-- Every execution ends with each buffer at the operations' fold, and every counter at zero: the program has none. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (launchContents m c) (Proc.devRef .tc b))
      ∧ r.2.sem = fun _ => 0 :=
  (θ_run defs _ _).mono (fun r h => ⟨h, by funext x; exact (noSem x.2).elim⟩)
    (run_seq scopedRefs_eq scopedSems_eq defs main (fun _ => ops) main_eq (fun _ => ops_sub) m ρ fun _ => ops_fresh)

end Cert.ReferenceIdeal.Hand

end
-- ==== Proof.RI.Ends.lean ====
/- What the reference's run leaves in its argument arrays. -/
module

public import proofs.«01_k».proof.Proof.RI.Ops

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers this stretch writes. -/
abbrev ops_part0_W : List (Ref sig .tc) := [main_c, main_c_0, main_c_1, main_c_2, main_c_3, main_c_4, main_c_5, main_c_6, main_c_7, main_c_8, main_c_9, main_c_10, main_c_11, main_c_12, main_c_13, main_c_14, main_c_15, main_v0, main_v1, main_v2, main_v3, main_v4, main_v5, main_cst, main_v6, main_cst_16, main_v7, main_v8, main_v9, main_v10, main_v11, main_v12, main_v13, main_v14, main_v15, main_v16, main_v17, main_v18, main_v19, main_v20, main_cst_17, main_v21, main_v22, main_v23, main_cst_18, main_v24, main_v25, main_cst_19, main_v26, main_cst_20, main_v27, main_v28, main_v29, main_v30, main_v31, main_v32, main_cst_21, main_v33, main_v34, main_v35]
set_option maxRecDepth 8192 in
theorem ops_part0_writes : (ops_part0 : List (HloOp τ sig (Elt F))).Forall fun op => op.writes ⊆ (ops_part0_W.map (Proc.devRef (τ := τ) .tc)).toFinset := by
  simp only [List.Forall]
  exact ⟨by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide⟩

/-- The buffers this stretch writes. -/
abbrev ops_part1_W : List (Ref sig .tc) := [main_v36, main_cst_22, main_v37, main_v38, main_v39, main_v40, main_v41, main_v42, main_v43, main_v44, main_v45, main_v46, main_v47, main_v48, main_cst_23, main_v49, main_v50, main_v51, main_cst_24, main_v52, main_v53, main_v54, main_v55, main_cst_25, main_v56, main_v57, main_v58, main_v59, main_c_26, main_v60, main_v61, main_v62, main_v63, main_v64, main_c_27, main_v65, main_v66, main_v67, main_v68, main_v69, main_c_28, main_v70, main_v71, main_v72, main_v73, main_v74, main_cst_29, main_v75, main_v76, main_c_30, main_v77, main_v78, main_v79, main_v80, main_v81, main_v82, main_v83, main_v84, main_v85, main_cst_31]
set_option maxRecDepth 8192 in
theorem ops_part1_writes : (ops_part1 : List (HloOp τ sig (Elt F))).Forall fun op => op.writes ⊆ (ops_part1_W.map (Proc.devRef (τ := τ) .tc)).toFinset := by
  simp only [List.Forall]
  exact ⟨by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide⟩

/-- The buffers this stretch writes. -/
abbrev ops_part2_0_W : List (Ref sig .tc) := [main_v86, main_v87, main_v88, main_c_32, main_v89, main_v90, main_v91, main_v92, main_v93, main_cst_33, main_v94, main_v95, main_c_34, main_v96, main_v97, main_v98, main_v99, main_v100, main_c_35, main_v101, main_v102, main_v103, main_v104, main_v105, main_v106, main_cst_36, main_v107, main_v108, main_v109, main_v110]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]
  exact ⟨by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide⟩

/-- The buffers this stretch writes. -/
abbrev ops_part2_1_W : List (Ref sig .tc) := [main_v111, main_v112, main_v113, main_v114, main_v115, main_v116, main_v117, main_v118, main_v119, main_v120, main_v121, main_v122, main_v123, main_v124, main_v125, main_v126, main_v127, main_values, main_indices, main_call0_v0, main_call0_v1, main_call0_v2, main_call0_v3, main_call0_v4, main_v128, main_v129, main_v130, main_v131, main_cst_37, main_v132]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]
  exact ⟨by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide⟩

/-- The buffers this stretch writes. -/
abbrev ops_part2_2_W : List (Ref sig .tc) := [main_v133, main_cst_38, main_v134, main_v135, main_v136]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]
  exact ⟨by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide⟩

/-- The buffers this stretch writes. -/
abbrev ops_part3_W : List (Ref sig .tc) := [main_v137, main_v138, main_v139, main_call1_v0, main_call1_cst, main_call1_c, main_call1_v1_0, main_v140, main_v141, main_v142, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v143, main_v144, main_v145]
set_option maxRecDepth 8192 in
theorem ops_part3_writes : (ops_part3 : List (HloOp τ sig (Elt F))).Forall fun op => op.writes ⊆ (ops_part3_W.map (Proc.devRef (τ := τ) .tc)).toFinset := by
  simp only [List.Forall]
  exact ⟨by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide, by simp only [nullary_writes, unary_writes, binary_writes, ternary_writes, quaternary_writes, reshape_writes, nary_writes, TRef.nullary, TRef.unary, TRef.binary, TRef.ternary, TRef.quaternary, TRef.reshape]; decide⟩

/-- No operation writes an argument. -/
theorem keep (V : Valuation τ sig (Elt F)) (r : Ref sig .tc) (h0 : r ∉ ops_part0_W) (h1 : r ∉ ops_part1_W) (h2 : r ∉ ops_part2_0_W) (h3 : r ∉ ops_part2_1_W) (h4 : r ∉ ops_part2_2_W) (h5 : r ∉ ops_part3_W) :
    after ops V (Proc.devRef .tc r) = V (Proc.devRef .tc r) := by
  simp only [ops, ops_part2, after_append]
  exact ((after_of_writes_sub ops_part3 _ ops_part3_writes h5).trans ((after_of_writes_sub ops_part2_2 _ ops_part2_2_writes h4).trans ((after_of_writes_sub ops_part2_1 _ ops_part2_1_writes h3).trans ((after_of_writes_sub ops_part2_0 _ ops_part2_0_writes h2).trans ((after_of_writes_sub ops_part1 _ ops_part1_writes h1).trans (after_of_writes_sub ops_part0 _ ops_part0_writes h0))))))

/-- Every execution ends with the arguments unchanged, the two results at the operations' fold, and every counter at zero. -/
theorem ends (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v145) = after ops (launchContents m c) (Proc.devRef .tc main_v145)
      ∧ r.2.mem ((c.tc : Thread nD τ).loc main_v126) = after ops (launchContents m c) (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨h.1 c main_v145, h.1 c main_v126,
    (h.1 c main_arg0).trans (keep _ main_arg0 (by decide) (by decide) (by decide) (by decide) (by decide) (by decide)),
    (h.1 c main_arg1).trans (keep _ main_arg1 (by decide) (by decide) (by decide) (by decide) (by decide) (by decide)),
    (h.1 c main_arg2).trans (keep _ main_arg2 (by decide) (by decide) (by decide) (by decide) (by decide) (by decide)),
    (h.1 c main_arg3).trans (keep _ main_arg3 (by decide) (by decide) (by decide) (by decide) (by decide) (by decide)),
    (h.1 c main_arg4).trans (keep _ main_arg4 (by decide) (by decide) (by decide) (by decide) (by decide) (by decide)),
    (h.1 c main_arg5).trans (keep _ main_arg5 (by decide) (by decide) (by decide) (by decide) (by decide) (by decide)),
    (h.1 c main_arg6).trans (keep _ main_arg6 (by decide) (by decide) (by decide) (by decide) (by decide) (by decide)),
    (h.1 c main_arg7).trans (keep _ main_arg7 (by decide) (by decide) (by decide) (by decide) (by decide) (by decide))⟩, h.2⟩) (run m ρ)

end Cert.ReferenceIdeal.Hand

end
-- ==== Proof.Spec.lean ====
/- The scores both programs compute, over the extended reals. -/
module

public import Idealize.ShloMosaic.Lib.Pointwise

@[expose] public section

set_option Elab.async false
noncomputable section

namespace Cert.Scores

open Idealize.ShloMosaic

/-- A projected key: the pooled frame embedded, then projected. -/
def key (p : Fin 8 → Fin 3 → EReal) (We : Fin 3 → Fin 768 → EReal) (be : Fin 768 → EReal) (Wk : Fin 768 → Fin 768 → EReal)
    (bk : Fin 768 → EReal) (r : Fin 8) (e : Fin 768) : EReal :=
  ∑ x, (∑ c, p r c * We c x + be x) * Wk x e + bk e

/-- The projected query. -/
def qry (q : Fin 768 → EReal) (Wq : Fin 768 → Fin 768 → EReal) (bq : Fin 768 → EReal) (e : Fin 768) : EReal := ∑ x, q x * Wq x e + bq e

/-- The scaled product of key and query, for frame `p` of video `v`. -/
def logit (k : Fin 8 → Fin 768 → EReal) (q : Fin 768 → EReal) (v : Fin 2) (p : Fin 4) : EReal :=
  (∑ x, k ⟨v.val * 4 + p.val, by omega⟩ x * q x) * Ideal.ofBits .f32 0x3D13CD3A#32

/-- A row's shifted exponentials. -/
def expo (l : Fin 4 → EReal) (p : Fin 4) : EReal := Ideal.exp (l p - Finset.univ.fold max (Ideal.ofBits .f32 0xFF800000#32) l)

/-- A row's softmax. -/
def soft (l : Fin 4 → EReal) (p : Fin 4) : EReal := Ideal.div (expo l p) (∑ x, expo l x)

/-- The frames the knots stand at. -/
def knot (p : Fin 4) : Fin 32 := ![0, 10, 20, 31] p

/-- The pooled knot frames, video by video. -/
def pooled (x : Fin 2 → Fin 32 → Fin 3 → Fin 224 → Fin 224 → EReal) (r : Fin 8) (ch : Fin 3) : EReal :=
  (∑ i : Fin 224, ∑ j : Fin 224, x ⟨r.val / 4, by omega⟩ (knot ⟨r.val % 4, by omega⟩) ch i j) * ((1 / 50176 : ℝ) : EReal)

/-- The knots' logits. -/
def scores (x : Fin 2 → Fin 32 → Fin 3 → Fin 224 → Fin 224 → EReal) (q : Fin 768 → EReal) (Wq : Fin 768 → Fin 768 → EReal) (bq : Fin 768 → EReal)
    (Wk : Fin 768 → Fin 768 → EReal) (bk : Fin 768 → EReal) (We : Fin 3 → Fin 768 → EReal) (be : Fin 768 → EReal) : Fin 2 → Fin 4 → EReal :=
  logit (key (pooled x) We be Wk bk) (qry q Wq bq)

/-- The interval a frame lies in, and its offset there. -/
def kn (t : Fin 32) : Fin 3 := if t.val < 10 then 0 else if t.val < 20 then 1 else 2
def dx (t : Fin 32) : ℝ := (t.val : ℝ) - 10 * ((kn t).val : ℝ)

/-- The interval's width. -/
def wd (k : Fin 3) : ℝ := if k.val < 2 then 10 else 11

/-- The divided differences. -/
def dy (y : Fin 4 → EReal) (k : Fin 3) : EReal := Ideal.div (y k.succ - y k.castSucc) (wd k : EReal)

/-- The right-hand sides of the spline's system. -/
def rhs (y : Fin 4 → EReal) (k : Fin 2) : EReal := ((6 : ℝ) : EReal) * (dy y k.succ - dy y k.castSucc)

/-- The second derivatives at the four knots. -/
def mom (y : Fin 4 → EReal) (i : Fin 4) : EReal :=
  if i.val = 1 then rhs y 0 * ((21 / 790 : ℝ) : EReal) + rhs y 1 * ((-1 / 158 : ℝ) : EReal)
  else if i.val = 2 then rhs y 0 * ((-1 / 158 : ℝ) : EReal) + rhs y 1 * ((2 / 79 : ℝ) : EReal)
  else 0

/-- The natural cubic spline at frame `t`. -/
def spline (y : Fin 4 → EReal) (t : Fin 32) : EReal :=
  y (kn t).castSucc
    + (dy y (kn t) - Ideal.div ((wd (kn t) : EReal) * (((2 : ℝ) : EReal) * mom y (kn t).castSucc + mom y (kn t).succ)) ((6 : ℝ) : EReal)) * (dx t : EReal)
    + Ideal.div (mom y (kn t).castSucc) ((2 : ℝ) : EReal) * ((dx t : EReal) * (dx t : EReal))
    + Ideal.div (mom y (kn t).succ - mom y (kn t).castSucc) ((6 * wd (kn t) : ℝ) : EReal) * ((dx t : EReal) * ((dx t : EReal) * (dx t : EReal)))

theorem lit2 : Ideal.ofBits .f32 0x40000000#32 = ((2 : ℝ) : EReal) := by simp [Ideal.ofBits, Ideal.ieee, -EReal.coe_mul]; norm_num
theorem lit6 : Ideal.ofBits .f32 0x40C00000#32 = ((6 : ℝ) : EReal) := by simp [Ideal.ofBits, Ideal.ieee, -EReal.coe_mul]; norm_num
theorem lit10 : Ideal.ofBits .f32 0x41200000#32 = ((10 : ℝ) : EReal) := by simp [Ideal.ofBits, Ideal.ieee, -EReal.coe_mul]; norm_num
theorem lit11 : Ideal.ofBits .f32 0x41300000#32 = ((11 : ℝ) : EReal) := by simp [Ideal.ofBits, Ideal.ieee, -EReal.coe_mul]; norm_num
theorem lit20 : Ideal.ofBits .f32 0x41A00000#32 = ((20 : ℝ) : EReal) := by simp [Ideal.ofBits, Ideal.ieee, -EReal.coe_mul]; norm_num
theorem lit60 : Ideal.ofBits .f32 0x42700000#32 = ((60 : ℝ) : EReal) := by simp [Ideal.ofBits, Ideal.ieee, -EReal.coe_mul]; norm_num
theorem lit66 : Ideal.ofBits .f32 0x42840000#32 = ((66 : ℝ) : EReal) := by simp [Ideal.ofBits, Ideal.ieee, -EReal.coe_mul]; norm_num
theorem lit1580 : Ideal.ofBits .f32 0x44C58000#32 = ((1580 : ℝ) : EReal) := by simp [Ideal.ofBits, Ideal.ieee, -EReal.coe_mul]; norm_num
theorem lit50176 : Ideal.ofBits .f32 0x47440000#32 = ((50176 : ℝ) : EReal) := by simp [Ideal.ofBits, Ideal.ieee, -EReal.coe_mul]; norm_num
theorem litBot : Ideal.ofBits .f32 0xFF800000#32 = ⊥ := by simp [Ideal.ofBits, Ideal.ieee]

end Cert.Scores
end
end
-- ==== Proof.KI.Scores.lean ====
module

public import proofs.«01_k».proof.Proof.KI.ScoreRun
public import proofs.«01_k».proof.Proof.Spec

@[expose] public section

set_option Elab.async false
noncomputable section

namespace Cert.KernelIdeal.Hand

open Cert.KernelIdeal.Gen Cert.Scores
open Idealize.ShloMosaic

theorem pay1_at (v0 : Vec Ideal S1x3x224x224 .f32) (ch : Fin 3) :
    k0_pay1 (F := Ideal) v0 (ix2 0 ch) = (∑ x : Fin 224, ∑ y : Fin 224, v0 (ix4 0 ch x y)) * ((1 / 50176 : ℝ) : EReal) := by
  pointwise [k0_pay1]
  rfl

section
variable (v12 : Vec Ideal S8x3 .f32) (v13 : Vec Ideal S3x768 .f32) (v15 : Vec Ideal S1x768 .f32) (v19 : Vec Ideal S1x768 .f32) (v21 : Vec Ideal S768x768 .f32) (v23 : Vec Ideal S1x768 .f32) (v26 : Vec Ideal S768x768 .f32) (v28 : Vec Ideal S1x768 .f32)

/-- The logits of the staged arrays. -/
def logitK : Fin 2 → Fin 4 → EReal :=
  logit (key (fun r c => v12 (ix2 r c)) (fun c x => v13 (ix2 c x)) (fun x => v15 (ix2 0 x)) (fun x e => v26 (ix2 x e)) (fun e => v28 (ix2 0 e)))
    (qry (fun x => v19 (ix2 0 x)) (fun x e => v21 (ix2 x e)) (fun e => v23 (ix2 0 e)))

theorem pay3_at (v : Fin 2) (p : Fin 4) :
   k0_pay3 v12 v13 v15 v19 v21 v23 v26 v28 (ix2 v p) = expo (logitK v12 v13 v15 v19 v21 v23 v26 v28 v) p := by
  pointwise [k0_pay3]
  rfl

theorem pay4_at (v : Fin 2) :
   k0_pay4 v12 v13 v15 v19 v21 v23 v26 v28 (Idealize.ShloMosaic.ix1 v) = ∑ p, expo (logitK v12 v13 v15 v19 v21 v23 v26 v28 v) p := by
  unfold k0_pay4
  dsimp only
  generalize hx : k0_pay3 v12 v13 v15 v19 v21 v23 v26 v28 = x
  pointwise
  exact Finset.sum_congr rfl fun p _ => hx ▸ pay3_at v12 v13 v15 v19 v21 v23 v26 v28 v p
end

section
variable (a : FVec Ideal S2x4 .f32) (b : FVec Ideal S2 .f32) (v : Fin 2)
theorem pay5_at (p : Fin 4) : k0_pay5 a b (ix2 v p) = Ideal.div (a (ix2 v p)) (b (Idealize.ShloMosaic.ix1 v)) := by
  pointwise [k0_pay5]

/-- A row of the softmax. -/
def rowY (p : Fin 4) : EReal := k0_pay5 a b (ix2 v p)

theorem pay6_at : k0_pay6 a b (ix2 v 0) = dy (rowY a b v) 0 := by
  pointwise [k0_pay6, lit10]; rfl
theorem pay7_at : k0_pay7 a b (ix2 v 0) = dy (rowY a b v) 1 := by
  pointwise [k0_pay7, lit10]; rfl
theorem pay8_at : k0_pay8 a b (ix2 v 0) = dy (rowY a b v) 2 := by
  pointwise [k0_pay8, lit11]; rfl
theorem pay9_at : k0_pay9 a b (ix2 v 0) = rhs (rowY a b v) 0 := by
  pointwise [k0_pay9, lit6, pay6_at, pay7_at]; rfl
theorem pay10_at : k0_pay10 a b (ix2 v 0) = rhs (rowY a b v) 1 := by
  pointwise [k0_pay10, lit6, pay8_at, pay7_at]; rfl
theorem pay13_at : k0_pay13 a b (ix2 v 0) = mom (rowY a b v) 1 := by
  pointwise [k0_pay13, pay9_at, pay10_at]; rfl
theorem w99_at : w99 a b (ix2 v 0) = mom (rowY a b v) 2 := by
  unfold w99
  have h := pay10_at a b v
  generalize k0_pay10 a b = r at h ⊢
  pointwise [k0_pay16, k0_pay11, k0_pay14, k0_pay15, pay9_at]
  rw [h]; rfl
theorem pay12_at : k0_pay12 (F := Ideal) (ix2 v 0) = 0 := by
  pointwise [k0_pay12]

theorem selz {α : Type} (x y : α) : Scalar.select (0#1) x y = y := rfl
theorem selo {α : Type} (x y : α) : Scalar.select (1#1) x y = x := rfl
theorem mom0 (y : Fin 4 → EReal) : mom y 0 = 0 := rfl
theorem mom3 (y : Fin 4 → EReal) : mom y 3 = 0 := rfl

theorem sge20 : ∀ t : Fin 32, IntOp.cmpi .sge (BitVec.ofNat 32 t.val) 20#32 = if t.val < 20 then 0#1 else 1#1 := by decide
theorem sge10 : ∀ t : Fin 32, IntOp.cmpi .sge (BitVec.ofNat 32 t.val) 10#32 = if t.val < 10 then 0#1 else 1#1 := by decide
theorem slt20 : ∀ t : Fin 32, IntOp.cmpi .slt (BitVec.ofNat 32 t.val) 20#32 = if t.val < 20 then 1#1 else 0#1 := by decide
theorem slt10 : ∀ t : Fin 32, IntOp.cmpi .slt (BitVec.ofNat 32 t.val) 10#32 = if t.val < 10 then 1#1 else 0#1 := by decide
theorem toInt_col : ∀ t : Fin 32, (BitVec.ofNat 32 t.val).toInt = t.val := by decide

theorem sitofp_col (t : Fin 32) : FloatOps.sitofp (F := Ideal) .f32 (BitVec.ofNat 32 t.val) = ((t.val : ℝ) : EReal) := by
  show (((BitVec.ofNat 32 t.val).toInt : ℝ) : EReal) = _
  rw [toInt_col]; simp

theorem interp_at (t : Fin 32) : interp₀ a b (ix2 v t) = spline (rowY a b v) t := by
  unfold interp₀
  have h21 : k0_pay21 (k0_pay10 a b) (k0_pay11 (F := Ideal)) (k0_pay13 a b) (k0_pay14 a b) (k0_pay15 (F := Ideal)) (ix2 v 0)
      = ((2 : ℝ) : EReal) * mom (rowY a b v) 1 + mom (rowY a b v) 2 := by
    have h := w99_at a b v
    unfold w99 at h
    unfold k0_pay21
    generalize k0_pay16 (k0_pay10 a b) (k0_pay11 (F := Ideal)) (k0_pay14 a b) (k0_pay15 (F := Ideal)) = u at h ⊢
    pointwise [pay13_at, lit2, h]
  pointwise [k0_pay30, w169, w171, k0_pay24, w185, k0_pay25, w187, k0_pay26, w191, k0_pay27, w192, k0_pay28, w193, k0_pay29, k0_pay23, k0_pay18, k0_pay19, k0_pay20, h21, k0_pay22, k0_pay17, w51, pay6_at, pay7_at, pay8_at, pay13_at, w99_at, pay12_at, lit2, lit6, lit10, lit11, lit20, lit60, lit66]
  rw [sge20, sge10, slt20, slt10, sitofp_col]
  have hy : ∀ p, k0_pay5 a b (ix2 v p) = rowY a b v p := fun _ => rfl
  rw [hy, hy, hy]
  generalize rowY a b v = y
  rcases lt_or_ge t.val 10 with h | h
  · have hk : kn t = 0 := by simp [kn, h]
    have hd : dx t = (t.val : ℝ) := by simp [dx, hk]
    have h2 : t.val < 20 := by omega
    rw [if_pos h2, if_pos h, if_pos h2, if_pos h, selz, show IntOp.andi 0#1 1#1 = 0#1 from rfl, selz, selo]
    unfold spline
    rw [hk, hd, show (Fin.castSucc (0 : Fin 3)) = 0 from rfl, show (Fin.succ (0 : Fin 3)) = 1 from rfl, mom0, show wd 0 = 10 from by simp [wd], sub_zero,
      show (6 * 10 : ℝ) = 60 by norm_num]
  rcases lt_or_ge t.val 20 with h' | h'
  · have hk : kn t = 1 := by simp [kn, h', not_lt.mpr h]
    have hd : dx t = (t.val : ℝ) - 10 := by simp [dx, hk]
    rw [if_pos h', if_neg (not_lt.mpr h), if_pos h', if_neg (not_lt.mpr h), selz, show IntOp.andi 1#1 1#1 = 1#1 from rfl, selo]
    unfold spline
    rw [hk, hd, show (Fin.castSucc (1 : Fin 3)) = 1 from rfl, show (Fin.succ (1 : Fin 3)) = 2 from rfl, show wd 1 = 10 from by simp [wd], EReal.coe_sub,
      show (6 * 10 : ℝ) = 60 by norm_num]
  · have hk : kn t = 2 := by simp [kn, not_lt.mpr h', not_lt.mpr h]
    have hd : dx t = (t.val : ℝ) - 20 := by simp [dx, hk]; norm_num
    rw [if_neg (not_lt.mpr h'), selo]
    unfold spline
    rw [hk, hd, show (Fin.castSucc (2 : Fin 3)) = 2 from rfl, show (Fin.succ (2 : Fin 3)) = 3 from rfl, mom3, show wd 2 = 11 from by simp [wd], EReal.coe_sub,
      show (6 * 11 : ℝ) = 66 by norm_num, add_zero]
end

theorem interpK_at (v12 : Vec Ideal S8x3 .f32) (v13 : Vec Ideal S3x768 .f32) (v15 : Vec Ideal S1x768 .f32) (v19 : Vec Ideal S1x768 .f32)
    (v21 : Vec Ideal S768x768 .f32) (v23 : Vec Ideal S1x768 .f32) (v26 : Vec Ideal S768x768 .f32) (v28 : Vec Ideal S1x768 .f32) (v : Fin 2) (t : Fin 32) :
    interpK v12 v13 v15 v19 v21 v23 v26 v28 (ix2 v t) = spline (soft (logitK v12 v13 v15 v19 v21 v23 v26 v28 v)) t := by
  unfold interpK
  rw [interp_at]
  congr 1
  funext p
  unfold rowY soft
  rw [pay5_at]
  exact congrArg₂ Ideal.div (pay3_at v12 v13 v15 v19 v21 v23 v26 v28 v p) (pay4_at v12 v13 v15 v19 v21 v23 v26 v28 v)

end Cert.KernelIdeal.Hand
end
end
-- ==== Proof.KI.Blocks.lean ====
module

public import proofs.«01_k».proof.Proof.KI.Run
public import proofs.«01_k».proof.Proof.KI.Scores
public import Idealize.ShloMosaic.Lib.Pointwise
public import Idealize.ShloMosaic.Lib.Pipeline.Value
public import Idealize.ShloMosaic.Lib.Claim

@[expose] public section

set_option Elab.async false
set_option maxRecDepth 16384
noncomputable section

namespace Cert.KernelIdeal.Hand

open Cert.KernelIdeal.Gen Cert.Scores
open Idealize.ShloMosaic Idealize.ShloMosaic.TcCoe Idealize.ShloMosaic.Tactic Idealize.SL.Sem

variable {F : FTy → Type} [FloatOps F] [Named F]
section
variable (a : (pcfg0 (F := F)).Adm) (V : (c : Dev nD) → Valuation τ sig (Elt F)) (c : Dev nD) (t : Fin (cfg0 a).N)

theorem blk0_1_at (y : S3x768.Idx) : blk0 a V c 1 t y = V c (Proc.devRef .tc main_arg6) y := by
  refine congrArg (V c (Proc.devRef .tc main_arg6)) (funext fun b => Fin.ext ?_)
  exact ((cfg0 a).win 1).rect_emb_val_of_index_zero t b (by fin_cases b <;> rfl) y

theorem blk0_2_at (y : S1x768.Idx) : blk0 a V c 2 t y = V c (Proc.devRef .tc main_v1) y := by
  refine congrArg (V c (Proc.devRef .tc main_v1)) (funext fun b => Fin.ext ?_)
  exact ((cfg0 a).win 2).rect_emb_val_of_index_zero t b (by fin_cases b <;> rfl) y

theorem blk0_3_at (y : S1x768.Idx) : blk0 a V c 3 t y = V c (Proc.devRef .tc main_v2) y := by
  refine congrArg (V c (Proc.devRef .tc main_v2)) (funext fun b => Fin.ext ?_)
  exact ((cfg0 a).win 3).rect_emb_val_of_index_zero t b (by fin_cases b <;> rfl) y

theorem blk0_4_at (y : S768x768.Idx) : blk0 a V c 4 t y = V c (Proc.devRef .tc main_arg2) y := by
  refine congrArg (V c (Proc.devRef .tc main_arg2)) (funext fun b => Fin.ext ?_)
  exact ((cfg0 a).win 4).rect_emb_val_of_index_zero t b (by fin_cases b <;> rfl) y

theorem blk0_5_at (y : S1x768.Idx) : blk0 a V c 5 t y = V c (Proc.devRef .tc main_v3) y := by
  refine congrArg (V c (Proc.devRef .tc main_v3)) (funext fun b => Fin.ext ?_)
  exact ((cfg0 a).win 5).rect_emb_val_of_index_zero t b (by fin_cases b <;> rfl) y

theorem blk0_6_at (y : S768x768.Idx) : blk0 a V c 6 t y = V c (Proc.devRef .tc main_arg4) y := by
  refine congrArg (V c (Proc.devRef .tc main_arg4)) (funext fun b => Fin.ext ?_)
  exact ((cfg0 a).win 6).rect_emb_val_of_index_zero t b (by fin_cases b <;> rfl) y

theorem blk0_7_at (y : S1x768.Idx) : blk0 a V c 7 t y = V c (Proc.devRef .tc main_v4) y := by
  refine congrArg (V c (Proc.devRef .tc main_v4)) (funext fun b => Fin.ext ?_)
  exact ((cfg0 a).win 7).rect_emb_val_of_index_zero t b (by fin_cases b <;> rfl) y

/-- A point's first block: its frame of the videos. -/
theorem blk0_0_at (y : S1x3x224x224.Idx) (i : Fin 64) (h : ((cfg0 a).win 0).index t = ![i.val, 0, 0, 0]) :
    blk0 a V c 0 t y = V c (Proc.devRef .tc main_v0) (ix4 i (y 1) (y 2) (y 3)) := by
  refine congrArg (V c (Proc.devRef .tc main_v0)) (funext fun b => Fin.ext ?_)
  refine (((cfg0 a).win 0).rect_emb_val t y b).trans ?_
  rw [h]
  fin_cases b
  · show i.val * 1 + (y 0).val = i.val
    have : (y 0).val < 1 := (y 0).isLt
    omega
  · show 0 * 3 + (y 1).val = (y 1).val
    omega
  · show 0 * 224 + (y 2).val = (y 2).val
    omega
  · show 0 * 224 + (y 3).val = (y 3).val
    omega
end

variable (m : (ℓ : Loc nD τ sig) → Buf (Elt F) ℓ)
/-- The buffers the first call reads. -/
theorem V1_v0 (c : Dev nD) : V1 m c main_v0 = shapeCast S64x3x224x224 (m ((c : Thread nD τ).loc main_arg0)) shapeCasts_S1x2x32x3x224x224_S64x3x224x224 := by
  unfold V1
  after_results
  rfl
theorem V1_v1 (c : Dev nD) : V1 m c main_v1 = shapeCast S1x768 (m ((c : Thread nD τ).loc main_arg7)) shapeCasts_S768_S1x768 := by
  unfold V1
  after_results
  rfl
theorem V1_v2 (c : Dev nD) : V1 m c main_v2 = shapeCast S1x768 (m ((c : Thread nD τ).loc main_arg1)) shapeCasts_S1x1x768_S1x768 := by
  unfold V1
  after_results
  rfl
theorem V1_v3 (c : Dev nD) : V1 m c main_v3 = shapeCast S1x768 (m ((c : Thread nD τ).loc main_arg3)) shapeCasts_S768_S1x768 := by
  unfold V1
  after_results
  rfl
theorem V1_v4 (c : Dev nD) : V1 m c main_v4 = shapeCast S1x768 (m ((c : Thread nD τ).loc main_arg5)) shapeCasts_S768_S1x768 := by
  unfold V1
  after_results
  rfl
theorem V1_arg2 (c : Dev nD) : V1 m c main_arg2 = m ((c : Thread nD τ).loc main_arg2) := by
  unfold V1
  after_results
theorem V1_arg4 (c : Dev nD) : V1 m c main_arg4 = m ((c : Thread nD τ).loc main_arg4) := by
  unfold V1
  after_results
theorem V1_arg6 (c : Dev nD) : V1 m c main_arg6 = m ((c : Thread nD τ).loc main_arg6) := by
  unfold V1
  after_results

theorem coords0 : ∀ r : Fin 8, (grid0.coords ⟨r.val, lt_of_lt_of_eq r.isLt N_0.symm⟩ 0).val = r.val := by
  intro r
  fin_cases r <;> rfl

/-- The frame a point pools. -/
theorem index0 (r : Fin 8) : ((cfg0 (F := F) adm0).win 0).index (rowPt adm0 r) = ![(lit0 r).toNat, 0, 0, 0] := by
  refine (transform0_eq tbl0 _ r ?_).trans ?_
  · exact coords0 r
  · show ![(lit0 (S8.rowMajor (at1 r))).toNat, 0, 0, 0] = _
    rw [show S8.rowMajor (at1 r) = r from Fin.ext (rowMajor_at1 r)]

theorem lit0_val : ∀ r : Fin 8, (lit0 r).toNat = r.val / 4 * 32 + (knot ⟨r.val % 4, by omega⟩).val := by decide

/-- The arguments, as families of extended reals. -/
def vidK (m : (ℓ : Loc nD τ sig) → Buf (Elt Ideal) ℓ) (c : Dev nD) (i : S1x2x32x3x224x224.Idx) : EReal := m ((c : Thread nD τ).loc main_arg0) i

/-- The pooled scratch, off the videos. -/
theorem pool_at (m : (ℓ : Loc nD τ sig) → Buf (Elt Ideal) ℓ) (c : Dev nD) (r : Fin 8) (ch : Fin 3) :
    poolAll adm0 (V1 m) c (ix2 r ch) = pooled (fun v t ch i j => vidK m c (ix6 0 v t ch i j)) r ch := by
  refine (pay1_at (blk0 adm0 (V1 m) c 0 (rowPt adm0 r)) ch).trans ?_
  unfold pooled
  congr 1
  refine Finset.sum_congr rfl fun i _ => Finset.sum_congr rfl fun j _ => ?_
  refine (blk0_0_at adm0 (V1 m) c (rowPt adm0 r) (ix4 0 ch i j) ⟨(lit0 r).toNat, by have := lit0_lt r; omega⟩ (index0 r)).trans ?_
  rw [V1_v0]
  show shapeCast S64x3x224x224 (vidK m c) _ (ix4 _ ch i j) = _
  pointwise
  have h := lit0_val r
  have hk := (knot ⟨r.val % 4, by omega⟩).isLt
  have e1 : (⟨(lit0 r).toNat / 32, by omega⟩ : Fin 2) = ⟨r.val / 4, by omega⟩ := Fin.ext (by show (lit0 r).toNat / 32 = r.val / 4; omega)
  have e2 : (⟨(lit0 r).toNat % 32, by omega⟩ : Fin 32) = knot ⟨r.val % 4, by omega⟩ := Fin.ext (by show (lit0 r).toNat % 32 = _; omega)
  exact congrArg₂ (fun v t => vidK m c (ix6 0 v t ch i j)) e1 e2

/-- The first call's scores are the spline of the softmax. -/
theorem scoresOut_at (m : (ℓ : Loc nD τ sig) → Buf (Elt Ideal) ℓ) (c : Dev nD) (v : Fin 2) (t : Fin 32) :
    scoresOut m c (ix2 v t) = spline (soft (scores (fun v t ch i j => vidK m c (ix6 0 v t ch i j)) (fun x => m ((c : Thread nD τ).loc main_arg1) (ix3 0 0 x))
      (fun x e => m ((c : Thread nD τ).loc main_arg2) (ix2 x e)) (fun e => m ((c : Thread nD τ).loc main_arg3) (Idealize.ShloMosaic.ix1 e))
      (fun x e => m ((c : Thread nD τ).loc main_arg4) (ix2 x e)) (fun e => m ((c : Thread nD τ).loc main_arg5) (Idealize.ShloMosaic.ix1 e))
      (fun x e => m ((c : Thread nD τ).loc main_arg6) (ix2 x e)) (fun e => m ((c : Thread nD τ).loc main_arg7) (Idealize.ShloMosaic.ix1 e)) v)) t := by
  unfold scoresOut outI
  rw [interpK_at]
  refine congrArg (fun l => spline (soft l) t) (congrFun ?_ v)
  unfold logitK scores
  refine congrArg₂ logit ?_ ?_
  · have h0 : (fun r ch => poolAll adm0 (V1 m) c (ix2 r ch)) = pooled (fun v t ch i j => vidK m c (ix6 0 v t ch i j)) := by
      funext r ch; exact pool_at m c r ch
    rw [h0]
    have h1 : (fun (x : Fin 3) (e : Fin 768) => blk0 adm0 (V1 m) c 1 (lastPt adm0) (ix2 x e)) = fun x e => m ((c : Thread nD τ).loc main_arg6) (ix2 x e) := by
      funext x e; refine (blk0_1_at _ _ _ _ _).trans ?_; exact congrFun (V1_arg6 m c) _
    have h2 : (fun (x : Fin 768) => blk0 adm0 (V1 m) c 2 (lastPt adm0) (ix2 0 x)) = fun x => m ((c : Thread nD τ).loc main_arg7) (Idealize.ShloMosaic.ix1 x) := by
      funext x; refine (blk0_2_at _ _ _ _ _).trans ((congrFun (V1_v1 m c) _).trans ?_); pointwise
    have h6 : (fun (x : Fin 768) (e : Fin 768) => blk0 adm0 (V1 m) c 6 (lastPt adm0) (ix2 x e)) = fun x e => m ((c : Thread nD τ).loc main_arg4) (ix2 x e) := by
      funext x e; refine (blk0_6_at _ _ _ _ _).trans ?_; exact congrFun (V1_arg4 m c) _
    have h7 : (fun (x : Fin 768) => blk0 adm0 (V1 m) c 7 (lastPt adm0) (ix2 0 x)) = fun x => m ((c : Thread nD τ).loc main_arg5) (Idealize.ShloMosaic.ix1 x) := by
      funext x; refine (blk0_7_at _ _ _ _ _).trans ((congrFun (V1_v4 m c) _).trans ?_); pointwise
    rw [h1, h2, h6, h7]
  · have h3 : (fun (x : Fin 768) => blk0 adm0 (V1 m) c 3 (lastPt adm0) (ix2 0 x)) = fun x => m ((c : Thread nD τ).loc main_arg1) (ix3 0 0 x) := by
      funext x; refine (blk0_3_at _ _ _ _ _).trans ((congrFun (V1_v2 m c) _).trans ?_); pointwise
    have h4 : (fun (x : Fin 768) (e : Fin 768) => blk0 adm0 (V1 m) c 4 (lastPt adm0) (ix2 x e)) = fun x e => m ((c : Thread nD τ).loc main_arg2) (ix2 x e) := by
      funext x e; refine (blk0_4_at _ _ _ _ _).trans ?_; exact congrFun (V1_arg2 m c) _
    have h5 : (fun (x : Fin 768) => blk0 adm0 (V1 m) c 5 (lastPt adm0) (ix2 0 x)) = fun x => m ((c : Thread nD τ).loc main_arg3) (Idealize.ShloMosaic.ix1 x) := by
      funext x; refine (blk0_5_at _ _ _ _ _).trans ((congrFun (V1_v3 m c) _).trans ?_); pointwise
    rw [h3, h4, h5]

end Cert.KernelIdeal.Hand
end
end
-- ==== Proof.TopK.lean ====
/- The eight greatest of thirty-two scores, by a stable sort and by repeated maximum. -/
module

public import Idealize.ShloMosaic.Lib.Pointwise
public import Idealize.ShloMosaic.Lib.SortFacts
public import proofs.«01_k».proof.Proof.Spec

@[expose] public section

set_option Elab.async false
noncomputable section

namespace Cert.Scores

open Idealize.ShloMosaic

/-- The stable sort's relation: greater first. -/
def greater (x : Fin 32 → EReal) (a b : Fin 32) : Bool := FloatOps.cmpfTotal (F := Ideal) (φ := .f32) .gt (x a) (x b) == 1#1

/-- The frame a stable sort of the scores, greatest first, puts at `k`. -/
def rank (x : Fin 32 → EReal) (k : Fin 32) : Fin 32 := sortedFrom (greater x) k

/-- Greater first, and the lower of two equals first. -/
def ahead (x : Fin 32 → EReal) (a b : Fin 32) : Prop := x b < x a ∨ (x a = x b ∧ a < b)

theorem greater_iff (x : Fin 32 → EReal) (a b : Fin 32) : greater x a b = true ↔ x b < x a := by
  unfold greater
  rw [Ideal.cmpfTotal_def]
  simp only [Ideal.cmp, CmpDirection.ordered]
  by_cases h : x b < x a <;> simp [h]

theorem ahead_trans (x : Fin 32 → EReal) (a b c : Fin 32) (h : ahead x a b) (h' : ahead x b c) : ahead x a c := by
  rcases h with h | ⟨h, g⟩ <;> rcases h' with h' | ⟨h', g'⟩
  · exact .inl (h'.trans h)
  · exact .inl (h' ▸ h)
  · exact .inl (h ▸ h')
  · exact .inr ⟨h.trans h', g.trans g'⟩

theorem ahead_insert (x : Fin 32 → EReal) (a : Fin 32) (l : List (Fin 32)) (hl : l.Pairwise (ahead x)) (ha : ∀ b ∈ l, a < b) :
    (insertBefore (greater x) a l).Pairwise (ahead x) := by
  induction l with
  | nil => exact List.pairwise_singleton _ _
  | cons b l ih =>
    have hl' := List.pairwise_cons.mp hl
    unfold insertBefore
    split
    · rename_i h
      refine List.pairwise_cons.mpr ⟨fun c hc => ?_, ih hl'.2 (fun c hc => ha c (List.mem_cons_of_mem _ hc))⟩
      rcases List.mem_cons.mp ((perm_insertBefore (greater x) a l).mem_iff.mp hc) with rfl | hc'
      · exact .inl ((greater_iff x b c).mp h)
      · exact hl'.1 c hc'
    · rename_i h
      have hb : ahead x a b := by
        have h1 : ¬ x a < x b := fun hh => h ((greater_iff x b a).mpr hh)
        rcases lt_or_eq_of_le (not_lt.mp h1) with h2 | h2
        · exact .inl h2
        · exact .inr ⟨h2.symm, ha b List.mem_cons_self⟩
      refine List.pairwise_cons.mpr ⟨fun c hc => ?_, hl⟩
      rcases List.mem_cons.mp hc with rfl | hc'
      · exact hb
      · exact ahead_trans x a b c hb (hl'.1 c hc')

theorem ahead_sort (x : Fin 32 → EReal) (l : List (Fin 32)) (hl : l.Pairwise (· < ·)) : (stableSort (greater x) l).Pairwise (ahead x) := by
  induction l with
  | nil => exact List.Pairwise.nil
  | cons a l ih =>
    have hl' := List.pairwise_cons.mp hl
    unfold stableSort
    exact ahead_insert x a _ (ih hl'.2) fun b hb => hl'.1 b ((perm_stableSort (greater x) l).mem_iff.mp hb)

theorem ahead_rank (x : Fin 32 → EReal) (i j : Fin 32) (hij : i < j) : ahead x (rank x i) (rank x j) := by
  have hp : ∀ a b : Fin (sortPositions 32 (greater x)).length, a < b →
      ahead x ((sortPositions 32 (greater x)).get a) ((sortPositions 32 (greater x)).get b) := List.pairwise_iff_get.mp (ahead_sort x (List.finRange 32) (List.pairwise_lt_finRange 32))
  unfold rank sortedFrom
  exact hp _ _ (by simp only [Fin.lt_def, Fin.val_cast]; exact hij)

theorem rank_injective (x : Fin 32 → EReal) : Function.Injective (rank x) := sortedFrom_injective _
theorem rank_surjective (x : Fin 32 → EReal) : Function.Surjective (rank x) := sortedFrom_surjective _

/-- The scores with the first `r` of the sort masked. -/
def masked (x : Fin 32 → EReal) (r : ℕ) (k : Fin 32) : EReal := if ∃ i : Fin 32, i.val < r ∧ rank x i = k then ⊥ else x k

theorem masked_zero (x : Fin 32 → EReal) : masked x 0 = x := by
  funext k; unfold masked; rw [if_neg]; rintro ⟨i, h, _⟩; omega

theorem masked_succ (x : Fin 32 → EReal) (r : Fin 32) (k : Fin 32) : masked x (r.val + 1) k = if k = rank x r then ⊥ else masked x r.val k := by
  unfold masked
  by_cases h : k = rank x r
  · rw [if_pos h, if_pos ⟨r, by omega, h.symm⟩]
  · rw [if_neg h]
    refine if_congr ⟨?_, ?_⟩ rfl rfl
    · rintro ⟨i, hi, e⟩
      refine ⟨i, ?_, e⟩
      rcases Nat.lt_succ_iff_lt_or_eq.mp hi with h1 | h1
      · exact h1
      · exact absurd (by rw [← e, Fin.ext h1]) h
    · rintro ⟨i, hi, e⟩; exact ⟨i, by omega, e⟩

/-- The next of the sort is the first greatest of what is left. -/
theorem masked_first (x : Fin 32 → EReal) (hx : ∀ k, x k ≠ ⊥) (r k : Fin 32) :
    masked x r.val k ≤ masked x r.val (rank x r) ∧ (masked x r.val k = masked x r.val (rank x r) → rank x r ≤ k) := by
  have hr : masked x r.val (rank x r) = x (rank x r) := by
    unfold masked; rw [if_neg]; rintro ⟨i, h, e⟩
    rw [rank_injective x e] at h; omega
  rw [hr]
  obtain ⟨j, rfl⟩ := rank_surjective x k
  by_cases hj : j.val < r.val
  · have : masked x r.val (rank x j) = ⊥ := by unfold masked; rw [if_pos ⟨j, hj, rfl⟩]
    rw [this]
    exact ⟨bot_le, fun h => absurd h.symm (hx _)⟩
  · have : masked x r.val (rank x j) = x (rank x j) := by
      unfold masked; rw [if_neg]; rintro ⟨i, h, e⟩
      rw [rank_injective x e] at h; omega
    rw [this]
    rcases Nat.lt_or_eq_of_le (not_lt.mp hj) with h | h
    · rcases ahead_rank x r j h with g | ⟨g, g'⟩
      · exact ⟨g.le, fun e => absurd e g.ne⟩
      · exact ⟨g.ge, fun _ => g'.le⟩
    · have : r = j := Fin.ext h
      subst this; exact ⟨le_rfl, fun _ => le_rfl⟩

/-- A fold of the signed minimum that meets its lower bound. -/
theorem fold_minsi_eq {ι : Type} [DecidableEq ι] (s : Finset ι) (f : ι → BitVec 32) (z w : BitVec 32) (hz : w.toInt ≤ z.toInt)
    (hf : ∀ i ∈ s, w.toInt ≤ (f i).toInt) (i : ι) (hi : i ∈ s) (hw : f i = w) : s.fold IntOp.minsi z f = w := by
  have lo : ∀ t : Finset ι, t ⊆ s → w.toInt ≤ (t.fold IntOp.minsi z f).toInt := by
    intro t
    induction t using Finset.induction_on with
    | empty => intro _; simpa using hz
    | insert a t ha ih =>
      intro ht
      rw [Finset.fold_insert ha]
      unfold IntOp.minsi
      split_ifs
      · exact hf a (ht (Finset.mem_insert_self _ _))
      · exact ih fun b hb => ht (Finset.mem_insert_of_mem hb)
  have hi' : (s.fold IntOp.minsi z f).toInt ≤ w.toInt := by
    rw [← Finset.insert_erase hi, Finset.fold_insert (Finset.notMem_erase i s), hw]
    generalize (s.erase i).fold IntOp.minsi z f = u
    unfold IntOp.minsi
    split_ifs with h
    · exact le_rfl
    · simp only [BitVec.slt, decide_eq_true_eq, BitVec.sle] at h; omega
  exact BitVec.eq_of_toInt_eq (le_antisymm hi' (lo s (Finset.Subset.refl s)))

/-- A fold of the maximum from the bottom at an index that attains it. -/
theorem fold_max_eq {ι : Type} (s : Finset ι) (f : ι → EReal) (i : ι) (hi : i ∈ s) (h : ∀ k ∈ s, f k ≤ f i) : s.fold max ⊥ f = f i := by
  classical
  refine le_antisymm ?_ ?_
  · exact (Finset.fold_max_le _).mpr ⟨bot_le, h⟩
  · exact (Finset.le_fold_max _).mpr (.inr ⟨i, hi, le_rfl⟩)

end Cert.Scores
end
end
-- ==== Proof.KI.Top.lean ====
/- The kernel's selection is the first eight of a stable sort of the scores. -/
module

public import proofs.«01_k».proof.Proof.KI.Select
public import proofs.«01_k».proof.Proof.TopK
public import Idealize.ShloMosaic.Lib.Pointwise

@[expose] public section

set_option Elab.async false
noncomputable section

namespace Cert.KernelIdeal.Hand

open Cert.KernelIdeal.Gen Cert.Scores
open Idealize.ShloMosaic Idealize.ShloMosaic.TcCoe

theorem cols_at (v : Fin 2) (k : Fin 32) : cols (ix2 v k) = BitVec.ofNat 32 k.val := by
  simp only [cols, pointwise]
  congr 1
  show List.foldl _ 0 [1] = _
  simp

theorem cand_at (d : FVec Ideal S2x32 .f32) (v : Fin 2) (n k : Fin 32) (h : ∀ k, d (ix2 v k) ≤ d (ix2 v n)) :
    cand d (ix2 v k) = if d (ix2 v k) = d (ix2 v n) then BitVec.ofNat 32 k.val else 32#32 := by
  unfold cand
  pointwise [cols_at]
  rw [litBot, fold_max_eq Finset.univ (fun x => d (ix2 v x)) n (Finset.mem_univ _) fun k _ => h k]

theorem toInt_col' : ∀ k : Fin 32, (BitVec.ofNat 32 k.val).toInt = k.val := by decide

theorem pick_at (d : FVec Ideal S2x32 .f32) (v : Fin 2) (n : Fin 32) (h : ∀ k, d (ix2 v k) ≤ d (ix2 v n) ∧ (d (ix2 v k) = d (ix2 v n) → n ≤ k)) :
    pick d (ix2 v 0) = BitVec.ofNat 32 n.val := by
  unfold pick
  pointwise
  have hc := cand_at d v n
  have hle : (n.val : ℤ) < 32 := by exact_mod_cast n.isLt
  refine fold_minsi_eq Finset.univ _ _ _ ?_ (fun k _ => ?_) n (Finset.mem_univ _) ?_
  · rw [toInt_col']; exact hle.le.trans (by decide)
  · rw [toInt_col', hc k fun k => (h k).1]
    split_ifs with e
    · rw [toInt_col']; exact_mod_cast (h k).2 e
    · exact hle.le.trans (by decide)
  · rw [hc n fun k => (h k).1, if_pos rfl]

theorem maskOut_at (d : FVec Ideal S2x32 .f32) (v : Fin 2) (n k : Fin 32) (h : pick d (ix2 v 0) = BitVec.ofNat 32 n.val) :
    maskOut d (ix2 v k) = if k = n then ⊥ else d (ix2 v k) := by
  unfold maskOut
  pointwise [cols_at]
  rw [h, litBot]
  by_cases e : k = n
  · subst e; rw [if_pos rfl]; simp [Scalar.select, IntOp.cmpi]
  · rw [if_neg e]
    have : BitVec.ofNat 32 k.val ≠ BitVec.ofNat 32 n.val := fun g => e (Fin.ext (by
      have := congrArg BitVec.toInt g; rw [toInt_col', toInt_col'] at this; exact_mod_cast this))
    simp [Scalar.select, IntOp.cmpi, beq_eq_false_iff_ne.mpr this]

theorem picks_at (d : FVec Ideal S2x32 .f32) (v : Fin 2) (r : Fin 8) : picks d (ix2 v r) = pick (maskOut^[r.val] d) (ix2 v 0) := by
  unfold picks
  fin_cases r
  all_goals (pointwise; try rfl)

/-- The scores after `r` rounds are those with the first `r` of the sort masked, and the next pick is the sort's next. -/
theorem round_at (d : FVec Ideal S2x32 .f32) (v : Fin 2) (hd : ∀ k, d (ix2 v k) ≠ (⊥ : EReal)) (r : ℕ) (hr : r < 32) :
    (∀ k, (maskOut^[r] d) (ix2 v k) = masked (fun k => d (ix2 v k)) r k)
    ∧ pick (maskOut^[r] d) (ix2 v 0) = BitVec.ofNat 32 (rank (fun k => d (ix2 v k)) ⟨r, hr⟩).val := by
  have step : ∀ (r : ℕ) (hr : r < 32), (∀ k, (maskOut^[r] d) (ix2 v k) = masked (fun k => d (ix2 v k)) r k) →
      pick (maskOut^[r] d) (ix2 v 0) = BitVec.ofNat 32 (rank (fun k => d (ix2 v k)) ⟨r, hr⟩).val := by
    intro r hr h
    refine pick_at _ v _ fun k => ?_
    rw [h, h]
    exact masked_first (fun k => d (ix2 v k)) hd ⟨r, hr⟩ k
  induction r with
  | zero =>
    have h0 : ∀ k, (maskOut^[0] d) (ix2 v k) = masked (fun k => d (ix2 v k)) 0 k := fun k => by rw [masked_zero]; rfl
    exact ⟨h0, step 0 hr h0⟩
  | succ r ih =>
    obtain ⟨h1, h2⟩ := ih (by omega)
    have hs : ∀ k, (maskOut^[r + 1] d) (ix2 v k) = masked (fun k => d (ix2 v k)) (r + 1) k := fun k => by
      rw [Function.iterate_succ_apply', maskOut_at _ v _ k h2, masked_succ _ ⟨r, by omega⟩, h1]
    exact ⟨hs, step _ hr hs⟩

theorem picks_rank (d : FVec Ideal S2x32 .f32) (v : Fin 2) (hd : ∀ k, d (ix2 v k) ≠ (⊥ : EReal)) (r : Fin 8) :
    picks d (ix2 v r) = BitVec.ofNat 32 (rank (fun k => d (ix2 v k)) ⟨r.val, by omega⟩).val := by
  rw [picks_at]
  exact (round_at d v hd r.val (by omega)).2

end Cert.KernelIdeal.Hand
end
end
-- ==== Proof.KI.Frames.lean ====
/-
  The frames the second call leaves: row n = (video, slot) is the video's frame that the table names for the slot.
-/
module

public import proofs.«01_k».proof.Proof.KI.Blocks
public import proofs.«01_k».proof.Proof.KI.Top
public import Idealize.ShloMosaic.Lib.Pointwise
public import Idealize.ShloMosaic.Lib.Pipeline.Covers
public import Idealize.ShloMosaic.Lib.Claim

@[expose] public section

set_option Elab.async false
set_option maxRecDepth 16384
noncomputable section

namespace Cert.KernelIdeal.Hand

open Cert.KernelIdeal.Gen Cert.Scores
open Idealize.ShloMosaic Idealize.ShloMosaic.TcCoe Idealize.ShloMosaic.Tactic Idealize.SL.Sem
open Idealize.ShloMosaic.Pipeline (Window)

variable {F : FTy → Type} [FloatOps F] [Named F]
section
variable (a : (pcfg1 (F := F)).Adm) (V : (c : Dev nD) → Valuation τ sig (Elt F)) (c : Dev nD) (t : Fin (cfg1 a).N)

/-- A point's first block: one channel of one row of the videos. -/
theorem blk1_0_at (y : S1x1x224x224.Idx) (i : Fin 64) (k : Fin 3) (h : ((cfg1 a).win 0).index t = ![i.val, k.val, 0, 0]) :
    blk1 a V c 0 t y = V c (Proc.devRef .tc main_v0) (ix4 i k (y 2) (y 3)) := by
  refine congrArg (V c (Proc.devRef .tc main_v0)) (funext fun b => Fin.ext ?_)
  refine (((cfg1 a).win 0).rect_emb_val t y b).trans ?_
  rw [h]
  fin_cases b
  · show i.val * 1 + (y 0).val = i.val
    have : (y 0).val < 1 := (y 0).isLt
    omega
  · show k.val * 1 + (y 1).val = k.val
    have : (y 1).val < 1 := (y 1).isLt
    omega
  · show 0 * 224 + (y 2).val = (y 2).val
    omega
  · show 0 * 224 + (y 3).val = (y 3).val
    omega

theorem ofNat16 : ∀ n : Fin 16, (BitVec.ofNat 32 n.val).toNat = n.val := by decide
theorem ofNat3 : ∀ n : Fin 3, (BitVec.ofNat 32 n.val).toNat = n.val := by decide

theorem nblk0 : ((cfg1 a).win 1).nblk (0 : Fin 4) = 16 := by
  show (S16x3x224x224.size 0 + S1x1x224x224.size 0 - 1) / S1x1x224x224.size 0 = 16
  decide
theorem nblk1 : ((cfg1 a).win 1).nblk (1 : Fin 4) = 3 := by
  show (S16x3x224x224.size 1 + S1x1x224x224.size 1 - 1) / S1x1x224x224.size 1 = 3
  decide
theorem nblk2 : ((cfg1 a).win 1).nblk (2 : Fin 4) = 1 := by
  show (S16x3x224x224.size 2 + S1x1x224x224.size 2 - 1) / S1x1x224x224.size 2 = 1
  decide
theorem nblk3 : ((cfg1 a).win 1).nblk (3 : Fin 4) = 1 := by
  show (S16x3x224x224.size 3 + S1x1x224x224.size 3 - 1) / S1x1x224x224.size 3 = 1
  decide

/-- The output's blocks cover it. -/
theorem cover1 : ((cfg1 a).win 1).Covers := by
  refine Window.covers_of_indexMap_surj _ rfl (fun b => ?_) fun β => ?_
  · have : ∀ b : Fin 4, 0 < S1x1x224x224.size b := by decide
    exact this b
  · refine ⟨fun b => match b with
      | ⟨0, _⟩ => (⟨(β (0 : Fin 4)).val, lt_of_lt_of_eq (β (0 : Fin 4)).isLt (nblk0 a)⟩ : Fin 16)
      | ⟨1, _⟩ => (⟨(β (1 : Fin 4)).val, lt_of_lt_of_eq (β (1 : Fin 4)).isLt (nblk1 a)⟩ : Fin 3), fun b => ?_⟩
    have h2 : (β (2 : Fin 4)).val < 1 := lt_of_lt_of_eq (β (2 : Fin 4)).isLt (nblk2 a)
    have h3 : (β (3 : Fin 4)).val < 1 := lt_of_lt_of_eq (β (3 : Fin 4)).isLt (nblk3 a)
    have key : ∀ b : Fin 4, ![(BitVec.ofNat 32 (β (0 : Fin 4)).val).toNat, (BitVec.ofNat 32 (β (1 : Fin 4)).val).toNat, 0, 0] b = (β b).val := by
      intro b
      match b with
      | ⟨0, _⟩ => exact ofNat16 ⟨(β (0 : Fin 4)).val, lt_of_lt_of_eq (β (0 : Fin 4)).isLt (nblk0 a)⟩
      | ⟨1, _⟩ => exact ofNat3 ⟨(β (1 : Fin 4)).val, lt_of_lt_of_eq (β (1 : Fin 4)).isLt (nblk1 a)⟩
      | ⟨2, _⟩ => exact (Nat.lt_one_iff.mp h2).symm
      | ⟨3, _⟩ => exact (Nat.lt_one_iff.mp h3).symm
    exact key b

/-- The row of the videos the table names for row n. -/
def src (p : pre1.Contents (Elt F)) (n : Fin 16) : ℕ :=
  (p 0 (ix2 (n0 := 2) (n1 := 8) ⟨n.val / 8, by omega⟩ ⟨n.val % 8, by omega⟩) : BitVec 32).toNat + n.val / 8 * 32

theorem src_lt (p : pre1.Contents (Elt F)) (hb : ∀ n k, (p 0 (ix2 (n0 := 2) (n1 := 8) n k)).toNat ≤ 31) (n : Fin 16) : src p n < 64 := by
  have := hb ⟨n.val / 8, by omega⟩ ⟨n.val % 8, by omega⟩
  unfold src
  omega

/-- The output as a whole. -/
def rows (hb : ∀ n k, (a.1 0 (ix2 (n0 := 2) (n1 := 8) n k)).toNat ≤ 31) : Vec F S16x3x224x224 .f32 :=
  fun i => V c (Proc.devRef .tc main_v0) (ix4 ⟨src a.1 (i 0), src_lt a.1 hb (i 0)⟩ (i 1) (i 2) (i 3))

/-- Where a point's block sits in the output. -/
theorem emb1_at (y : S1x1x224x224.Idx) :
    ((((cfg1 a).win 1).blk t).view.emb y : S16x3x224x224.Idx) = ix4 (grid1.coords t 0 : Fin 16) (grid1.coords t 1 : Fin 3) (y 2) (y 3) := by
  refine funext fun b => Fin.ext ?_
  refine (((cfg1 a).win 1).rect_emb_val t y b).trans ?_
  have y0 : (y 0).val < 1 := (y 0).isLt
  have y1 : (y 1).val < 1 := (y 1).isLt
  fin_cases b
  · show (BitVec.ofNat 32 (grid1.coords t 0).val).toNat * 1 + (y 0).val = (grid1.coords t 0).val
    rw [ofNat16 (grid1.coords t 0)]; omega
  · show (BitVec.ofNat 32 (grid1.coords t 1).val).toNat * 1 + (y 1).val = (grid1.coords t 1).val
    rw [ofNat3 (grid1.coords t 1)]; omega
  · show 0 * 224 + (y 2).val = (y 2).val
    omega
  · show 0 * 224 + (y 3).val = (y 3).val
    omega

/-- What a point leaves is the rows' block. -/
theorem left1_at (hb : ∀ n k, (a.1 0 (ix2 (n0 := 2) (n1 := 8) n k)).toNat ≤ 31) (y : S1x1x224x224.Idx) :
    blk1 a V c 0 t y = rows a V c hb (((cfg1 a).win 1).blk t |>.view.emb y) := by
  refine Eq.trans ?_ (congrArg (rows a V c hb) (emb1_at a t y)).symm
  exact blk1_0_at a V c t y ⟨src a.1 (grid1.coords t 0), src_lt a.1 hb (grid1.coords t 0)⟩ (grid1.coords t 1)
    (transform1_eq a.1 (grid1.coords t) (grid1.coords t 0) (grid1.coords t 1) rfl rfl (hb _ _))

/-- The second call's output. -/
theorem arr1_at (hb : ∀ n k, (a.1 0 (ix2 (n0 := 2) (n1 := 8) n k)).toNat ≤ 31) (i : S16x3x224x224.Idx) :
    (dat1 a V c).arrAt 1 (cfg1 a).N i = rows a V c hb i := by
  refine (dat1 a V c).arrAt_forall_of_covers 1 (fun i v => v = rows a V c hb i) (cover1 a) (fun t hf y => ?_) i
  exact (congrFun (after1_1 a V c t) y).trans (left1_at a V c t hb y)
end

end Cert.KernelIdeal.Hand

end
-- ==== Proof.KI.Values.lean ====
/-
  What the kernel's two results hold, off its arguments: the scores are the spline, and slot r of a video is the frame
  whose score comes r-th.
-/
module

public import proofs.«01_k».proof.Proof.KI.Frames
public import proofs.«01_k».proof.Proof.KI.Ends

@[expose] public section

set_option Elab.async false
set_option maxRecDepth 16384
noncomputable section

namespace Cert.KernelIdeal.Hand

open Cert.KernelIdeal.Gen Cert.Scores
open Idealize.ShloMosaic Idealize.ShloMosaic.TcCoe Idealize.ShloMosaic.Tactic Idealize.SL.Sem

variable (m : (ℓ : Loc nD τ sig) → Buf (Elt Ideal) ℓ) (c : Dev nD)

/-- A video's scores. -/
def rowK (v : Fin 2) : Fin 32 → EReal := fun k => scoresOut m c (ix2 v k)

theorem topOut_at (v : Fin 2) (r : Fin 8) (hd : ∀ k, rowK m c v k ≠ ⊥) :
    topOut m c (ix2 v r) = BitVec.ofNat 32 (rank (rowK m c v) ⟨r.val, by omega⟩).val :=
  (congrFun (topK_eq _ _ _ _ _ _ _ _) _).trans (picks_rank (scoresOut m c) v hd r)

theorem clamp_rank : ∀ k : Fin 32, (Scalar.minsi (BitVec.ofNat 32 k.val) 31#32).toNat = k.val := by decide

/-- The second call's table. -/
theorem tbl1_at (v : Fin 2) (r : Fin 8) (hd : ∀ k, rowK m 0 v k ≠ ⊥) :
    ((adm1 m).1 0 (ix2 (n0 := 2) (n1 := 8) v r) : BitVec 32).toNat = (rank (rowK m 0 v) ⟨r.val, by omega⟩).val := by
  show (Scalar.minsi (topOut m 0 (ix2 v r)) 31#32).toNat = _
  rw [topOut_at m 0 v r hd]
  exact clamp_rank _

theorem tbl1_le (n : Fin 2) (k : Fin 8) : ((adm1 m).1 0 (ix2 (n0 := 2) (n1 := 8) n k) : BitVec 32).toNat ≤ 31 :=
  clamp_le _ (outT_nonneg _ _ _ _ _)

theorem V3_v0 : V3 m (outsA m) c main_v0 = shapeCast S64x3x224x224 (m ((c : Thread nD τ).loc main_arg0)) shapeCasts_S1x2x32x3x224x224_S64x3x224x224 := by
  have e : V2 m (outsA m) c main_v0 = V1 m c main_v0 := by
    unfold V2
    rw [Function.update_of_ne (by decide), Function.update_of_ne (by decide)]
  unfold V3
  after_results
  exact e.trans (V1_v0 m c)

/-- A row of the videos, flattened. -/
theorem flat_at {α : Type} (x : S1x2x32x3x224x224.Idx → α) (n : Fin 64) (ch : Fin 3) (i j : Fin 224) (v : Fin 2) (k : Fin 32) (h : n.val = v.val * 32 + k.val) :
    shapeCast S64x3x224x224 x shapeCasts_S1x2x32x3x224x224_S64x3x224x224 (ix4 n ch i j) = x (ix6 0 v k ch i j) := by
  pointwise
  have e1 : (⟨n.val / 32, by omega⟩ : Fin 2) = v := Fin.ext (by show n.val / 32 = v.val; omega)
  have e2 : (⟨n.val % 32, by omega⟩ : Fin 32) = k := Fin.ext (by show n.val % 32 = k.val; omega)
  exact congrArg₂ (fun v t => x (ix6 0 v t ch i j)) e1 e2

theorem dev0 : c = 0 := Subsingleton.elim _ _

/-- A row of the second call's output. -/
theorem framesOut_at (v : Fin 2) (r : Fin 8) (hd : ∀ k, rowK m c v k ≠ ⊥) (n : Fin 16) (hn : n.val = v.val * 8 + r.val) (ch : Fin 3) (i j : Fin 224) :
    framesOut m c (ix4 n ch i j) = vidK m c (ix6 0 v (rank (rowK m c v) ⟨r.val, by omega⟩) ch i j) := by
  obtain rfl : c = 0 := dev0 c
  refine (arr1_at (adm1 m) (V3 m (outsA m)) 0 (tbl1_le m) (ix4 n ch i j)).trans ?_
  refine (congrFun (V3_v0 m 0) _).trans ?_
  refine flat_at (vidK m 0) _ ch i j v _ ?_
  have e1 : (⟨n.val / 8, by omega⟩ : Fin 2) = v := Fin.ext (by show n.val / 8 = v.val; omega)
  have e2 : (⟨n.val % 8, by omega⟩ : Fin 8) = r := Fin.ext (by show n.val % 8 = r.val; omega)
  have h := tbl1_at m v r hd
  show ((adm1 m).1 0 (ix2 (n0 := 2) (n1 := 8) ⟨n.val / 8, by omega⟩ ⟨n.val % 8, by omega⟩) : BitVec 32).toNat + n.val / 8 * 32 = _
  rw [e1, e2, h]
  omega

/-- The frames, unflattened. -/
theorem unflat_at {α : Type} (x : S16x3x224x224.Idx → α) (v : Fin 2) (r : Fin 8) (ch : Fin 3) (i j : Fin 224) :
    shapeCast S1x2x8x3x224x224 x shapeCasts_S16x3x224x224_S1x2x8x3x224x224 (ix6 0 v r ch i j) = x (ix4 ⟨v.val * 8 + r.val, by omega⟩ ch i j) := by
  pointwise

theorem V5_v9 : V5 m (outsB m) c main_v9 = shapeCast S1x2x8x3x224x224 (framesOut m c) shapeCasts_S16x3x224x224_S1x2x8x3x224x224 := by
  unfold V5
  after_results
  have e : V4 m (outsB m) c main_v8 = framesOut m c := by
    unfold V4
    rw [Function.update_self, outsB_2]
  rw [e]
  rfl

theorem V5_v10 : V5 m (outsB m) c main_v10 = shapeCast S1x2x32 (scoresOut m c) shapeCasts_S2x32_S1x2x32 := by
  unfold V5
  after_results
  have e : V4 m (outsB m) c main_v5_0 = scoresOut m c := by
    unfold V4 V3
    rw [Function.update_of_ne (by decide)]
    after_results
    unfold V2
    rw [Function.update_of_ne (by decide), Function.update_self, outsB_0]
  rw [e]
  rfl

/-- The second result at an index. -/
theorem v10_at (v : Fin 2) (t : Fin 32) : V5 m (outsB m) c main_v10 (ix3 0 v t) = rowK m c v t := by
  rw [V5_v10]
  pointwise
  rfl

/-- The first result at an index. -/
theorem v9_at (v : Fin 2) (r : Fin 8) (hd : ∀ k, rowK m c v k ≠ ⊥) (ch : Fin 3) (i j : Fin 224) :
    V5 m (outsB m) c main_v9 (ix6 0 v r ch i j) = vidK m c (ix6 0 v (rank (rowK m c v) ⟨r.val, by omega⟩) ch i j) :=
  (congrFun (V5_v9 m c) _).trans ((unflat_at (framesOut m c) v r ch i j).trans (framesOut_at m c v r hd _ rfl ch i j))

end Cert.KernelIdeal.Hand

end
-- ==== Proof.RI.Eqs.lean ====
/- Every buffer of the reference is written once: at the end it holds its operation's function of what the operands hold at
   the end. One equation per operation. -/
module

public import proofs.«01_k».proof.Proof.RI.Ends
public import Idealize.ShloMosaic.Lib.StableHlo.RunRead

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers written, in order. -/
abbrev opsW : List (Ref sig .tc) := ops_part0_W ++ (ops_part1_W ++ (ops_part2_0_W ++ (ops_part2_1_W ++ (ops_part2_2_W ++ ops_part3_W))))

set_option maxRecDepth 16000 in
set_option maxHeartbeats 4000000 in
theorem opsW_eq : (ops : List (HloOp τ sig (Elt F))).map HloOp.writes = opsW.map fun w => {Proc.devRef (τ := τ) .tc w} := rfl

/-- What a buffer holds after all the operations. -/
def W (V : Valuation τ sig (Elt F)) (r : Ref sig .tc) : (Proc.devRef (τ := τ) .tc r).ty.Contents (Elt F) := after ops V (Proc.devRef .tc r)

variable (V : Valuation τ sig (Elt F))

theorem settled (i : ℕ) (r : Ref sig .tc) (h : r ∉ opsW.drop i) :
    upto ops V i (Proc.devRef .tc r) = W V r := by
  have e := after_append (ops.take i) (ops.drop i) V
  rw [List.take_append_drop] at e
  unfold W
  rw [e]
  exact (after_unwritten (opsW.drop i) (by rw [List.map_drop, opsW_eq, List.map_drop]) h _).symm

theorem written (i : ℕ) (op : HloOp τ sig (Elt F)) (hop : (ops : List (HloOp τ sig (Elt F)))[i]? = some op) (r : Ref sig .tc)
    (h : r ∉ opsW.drop (i + 1)) : W V r = op.result (upto ops V i) (Proc.devRef .tc r) := by
  obtain ⟨hi, e⟩ := List.getElem?_eq_some_iff.mp hop
  exact after_last_write (opsW.drop (i + 1)) (by rw [List.drop_eq_getElem_cons hi, e])
    (by rw [List.map_drop, opsW_eq, List.map_drop]) h V

theorem eq0 (i : ℕ) (y : Ref sig .tc) (v : y.ty.Contents (Elt F)) (hy)
    (hop : (ops : List (HloOp τ sig (Elt F)))[i]? = some (nullary y v hy)) (h : y ∉ opsW.drop (i + 1)) : W V y = v := by
  rw [written V i _ hop y h]; exact nullary_result' v hy _

theorem eq1 (i : ℕ) (a y : Ref sig .tc) (f : a.ty.Contents (Elt F) → y.ty.Contents (Elt F)) (ha hy)
    (hop : (ops : List (HloOp τ sig (Elt F)))[i]? = some (unary a y f ha hy)) (h : y ∉ opsW.drop (i + 1))
    (h₁ : a ∉ opsW.drop i) : W V y = f (W V a) := by
  rw [written V i _ hop y h, ← settled V i a h₁]; exact unary_result' f ha hy _

theorem eq2 (i : ℕ) (a b y : Ref sig .tc) (f : a.ty.Contents (Elt F) → b.ty.Contents (Elt F) → y.ty.Contents (Elt F)) (ha hb hy)
    (hop : (ops : List (HloOp τ sig (Elt F)))[i]? = some (binary a b y f ha hb hy)) (h : y ∉ opsW.drop (i + 1))
    (h₁ : a ∉ opsW.drop i) (h₂ : b ∉ opsW.drop i) : W V y = f (W V a) (W V b) := by
  rw [written V i _ hop y h, ← settled V i a h₁, ← settled V i b h₂]; exact binary_result' f ha hb hy _

theorem eq3 (i : ℕ) (a b c y : Ref sig .tc) (f : a.ty.Contents (Elt F) → b.ty.Contents (Elt F) → c.ty.Contents (Elt F) → y.ty.Contents (Elt F)) (ha hb hc hy)
    (hop : (ops : List (HloOp τ sig (Elt F)))[i]? = some (ternary a b c y f ha hb hc hy)) (h : y ∉ opsW.drop (i + 1))
    (h₁ : a ∉ opsW.drop i) (h₂ : b ∉ opsW.drop i) (h₃ : c ∉ opsW.drop i) : W V y = f (W V a) (W V b) (W V c) := by
  rw [written V i _ hop y h, ← settled V i a h₁, ← settled V i b h₂, ← settled V i c h₃]; exact ternary_result' f ha hb hc hy _

theorem eq4 (i : ℕ) (a b c d y : Ref sig .tc)
    (f : a.ty.Contents (Elt F) → b.ty.Contents (Elt F) → c.ty.Contents (Elt F) → d.ty.Contents (Elt F) → y.ty.Contents (Elt F)) (ha hb hc hd hy)
    (hop : (ops : List (HloOp τ sig (Elt F)))[i]? = some (quaternary a b c d y f ha hb hc hd hy)) (h : y ∉ opsW.drop (i + 1))
    (h₁ : a ∉ opsW.drop i) (h₂ : b ∉ opsW.drop i) (h₃ : c ∉ opsW.drop i) (h₄ : d ∉ opsW.drop i) :
    W V y = f (W V a) (W V b) (W V c) (W V d) := by
  rw [written V i _ hop y h, ← settled V i a h₁, ← settled V i b h₂, ← settled V i c h₃, ← settled V i d h₄]
  exact quaternary_result' f ha hb hc hd hy _

theorem eqR (i : ℕ) (a y : Ref sig .tc) (he : a.ty.elt = y.ty.elt) (hn : a.ty.shape.ShapeCasts y.ty.shape) (ha hy)
    (hop : (ops : List (HloOp τ sig (Elt F)))[i]? = some (reshape a y he hn ha hy)) (h : y ∉ opsW.drop (i + 1))
    (h₁ : a ∉ opsW.drop i) : W V y = fun j => he ▸ shapeCast y.ty.shape (W V a) hn j := by
  rw [written V i _ hop y h, ← settled V i a h₁]; exact reshape_result' he hn ha hy _

theorem eqN (i : ℕ) {n : ℕ} (xs : Fin n → Ref sig .tc) (y : Ref sig .tc) (f : ((k : Fin n) → (xs k).ty.Contents (Elt F)) → y.ty.Contents (Elt F)) (hxs hy)
    (hop : (ops : List (HloOp τ sig (Elt F)))[i]? = some (nary xs y f hxs hy)) (h : y ∉ opsW.drop (i + 1))
    (h₁ : ∀ k, xs k ∉ opsW.drop i) : W V y = f (fun k => W V (xs k)) := by
  rw [written V i _ hop y h, show (fun k => W V (xs k)) = fun k => upto ops V i (Proc.devRef .tc (xs k)) from
    funext fun k => (settled V i (xs k) (h₁ k)).symm]
  exact nary_result' xs f hxs hy _

theorem kept (r : Ref sig .tc) (h : r ∉ opsW) : W V r = V (Proc.devRef .tc r) := after_unwritten opsW opsW_eq h V

end Cert.ReferenceIdeal.Hand

end
-- ==== Proof.RI.EqsA.lean ====
/- The equations of a quarter of the reference's operations. -/
module

public import proofs.«01_k».proof.Proof.RI.Eqs

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 32000 in
theorem w_main_arg0 : W V main_arg0 = V (Proc.devRef .tc main_arg0) := kept V main_arg0 (by decide)

set_option maxRecDepth 32000 in
theorem w_main_arg1 : W V main_arg1 = V (Proc.devRef .tc main_arg1) := kept V main_arg1 (by decide)

set_option maxRecDepth 32000 in
theorem w_main_arg2 : W V main_arg2 = V (Proc.devRef .tc main_arg2) := kept V main_arg2 (by decide)

set_option maxRecDepth 32000 in
theorem w_main_arg3 : W V main_arg3 = V (Proc.devRef .tc main_arg3) := kept V main_arg3 (by decide)

set_option maxRecDepth 32000 in
theorem w_main_arg4 : W V main_arg4 = V (Proc.devRef .tc main_arg4) := kept V main_arg4 (by decide)

set_option maxRecDepth 32000 in
theorem w_main_arg5 : W V main_arg5 = V (Proc.devRef .tc main_arg5) := kept V main_arg5 (by decide)

set_option maxRecDepth 32000 in
theorem w_main_arg6 : W V main_arg6 = V (Proc.devRef .tc main_arg6) := kept V main_arg6 (by decide)

set_option maxRecDepth 32000 in
theorem w_main_arg7 : W V main_arg7 = V (Proc.devRef .tc main_arg7) := kept V main_arg7 (by decide)

set_option maxRecDepth 32000 in
theorem w_main_c : W V main_c = (fun i => lit0 (S4.rowMajor i)) :=
  eq0 V 0 main_c (fun i => lit0 (S4.rowMajor i)) _ rfl (by decide)

set_option maxRecDepth 32000 in
theorem w_main_c_0 : W V main_c_0 = (constantI S4 1 0#1) :=
  eq0 V 1 main_c_0 (constantI S4 1 0#1) _ rfl (by decide)

set_option maxRecDepth 32000 in
theorem w_main_c_1 : W V main_c_1 = (fun i => lit1 (S3.rowMajor i)) :=
  eq0 V 2 main_c_1 (fun i => lit1 (S3.rowMajor i)) _ rfl (by decide)

set_option maxRecDepth 32000 in
theorem w_main_c_2 : W V main_c_2 = (fun i => lit2 (S2x2.rowMajor i)) :=
  eq0 V 3 main_c_2 (fun i => lit2 (S2x2.rowMajor i)) _ rfl (by decide)

set_option maxRecDepth 32000 in
theorem w_main_c_3 : W V main_c_3 = (fun i => lit3 (S32.rowMajor i)) :=
  eq0 V 4 main_c_3 (fun i => lit3 (S32.rowMajor i)) _ rfl (by decide)

set_option maxRecDepth 32000 in
theorem w_main_c_4 : W V main_c_4 = (fun i => lit4 (S32.rowMajor i)) :=
  eq0 V 5 main_c_4 (fun i => lit4 (S32.rowMajor i)) _ rfl (by decide)

set_option maxRecDepth 32000 in
theorem w_main_c_5 : W V main_c_5 = (fun i => lit5 (S32.rowMajor i)) :=
  eq0 V 6 main_c_5 (fun i => lit5 (S32.rowMajor i)) _ rfl (by decide)

set_option maxRecDepth 32000 in
theorem w_main_c_6 : W V main_c_6 = (constantI S32 1 0#1) :=
  eq0 V 7 main_c_6 (constantI S32 1 0#1) _ rfl (by decide)

set_option maxRecDepth 32000 in
theorem w_main_c_7 : W V main_c_7 = (constantI S32 1 0#1) :=
  eq0 V 8 main_c_7 (constantI S32 1 0#1) _ rfl (by decide)

set_option maxRecDepth 32000 in
theorem w_main_c_8 : W V main_c_8 = (constantI S32 1 0#1) :=
  eq0 V 9 main_c_8 (constantI S32 1 0#1) _ rfl (by decide)

set_option maxRecDepth 32000 in
theorem w_main_c_9 : W V main_c_9 = (fun i => lit6 (S32.rowMajor i)) :=
  eq0 V 10 main_c_9 (fun i => lit6 (S32.rowMajor i)) _ rfl (by decide)

set_option maxRecDepth 32000 in
theorem w_main_c_10 : W V main_c_10 = (constantI S32 1 0#1) :=
  eq0 V 11 main_c_10 (constantI S32 1 0#1) _ rfl (by decide)

set_option maxRecDepth 32000 in
theorem w_main_c_11 : W V main_c_11 = (constantI S32 1 0#1) :=
  eq0 V 12 main_c_11 (constantI S32 1 0#1) _ rfl (by decide)

set_option maxRecDepth 32000 in
theorem w_main_c_12 : W V main_c_12 = (fun i => lit7 (S32.rowMajor i)) :=
  eq0 V 13 main_c_12 (fun i => lit7 (S32.rowMajor i)) _ rfl (by decide)

set_option maxRecDepth 32000 in
theorem w_main_c_13 : W V main_c_13 = (constantI S32 1 0#1) :=
  eq0 V 14 main_c_13 (constantI S32 1 0#1) _ rfl (by decide)

set_option maxRecDepth 32000 in
theorem w_main_c_14 : W V main_c_14 = (constantI S32 1 0#1) :=
  eq0 V 15 main_c_14 (constantI S32 1 0#1) _ rfl (by decide)

set_option maxRecDepth 32000 in
theorem w_main_c_15 : W V main_c_15 = (constantI S_ 32 32#32) :=
  eq0 V 16 main_c_15 (constantI S_ 32 32#32) _ rfl (by decide)

set_option maxRecDepth 32000 in
theorem w_main_v0 : W V main_v0 = (broadcastInDim S4 ![] bcast_S_S4 : (⟨S_, .i32⟩ : BufTy).Contents (Elt F) → (⟨S4, .i32⟩ : BufTy).Contents (Elt F)) (W V main_c_15) :=
  eq1 V 17 main_c_15 main_v0 (broadcastInDim S4 ![] bcast_S_S4 : (⟨S_, .i32⟩ : BufTy).Contents (Elt F) → (⟨S4, .i32⟩ : BufTy).Contents (Elt F)) _ _ rfl (by decide) (by decide)

set_option maxRecDepth 32000 in
theorem w_main_v1 : W V main_v1 = (addi : (⟨S4, .i32⟩ : BufTy).Contents (Elt F) → (⟨S4, .i32⟩ : BufTy).Contents (Elt F) → (⟨S4, .i32⟩ : BufTy).Contents (Elt F)) (W V main_c) (W V main_v0) :=
  eq2 V 18 main_c main_v0 main_v1 (addi : (⟨S4, .i32⟩ : BufTy).Contents (Elt F) → (⟨S4, .i32⟩ : BufTy).Contents (Elt F) → (⟨S4, .i32⟩ : BufTy).Contents (Elt F)) _ _ _ rfl (by decide) (by decide) (by decide)

set_option maxRecDepth 32000 in
theorem w_main_v2 : W V main_v2 = (select : (⟨S4, .i1⟩ : BufTy).Contents (Elt F) → (⟨S4, .i32⟩ : BufTy).Contents (Elt F) → (⟨S4, .i32⟩ : BufTy).Contents (Elt F) → (⟨S4, .i32⟩ : BufTy).Contents (Elt F)) (W V main_c_0) (W V main_v1) (W V main_c) :=
  eq3 V 19 main_c_0 main_v1 main_c main_v2 (select : (⟨S4, .i1⟩ : BufTy).Contents (Elt F) → (⟨S4, .i32⟩ : BufTy).Contents (Elt F) → (⟨S4, .i32⟩ : BufTy).Contents (Elt F) → (⟨S4, .i32⟩ : BufTy).Contents (Elt F)) _ _ _ _ rfl (by decide) (by decide) (by decide) (by decide)

set_option maxRecDepth 32000 in
theorem w_main_v3 : W V main_v3 = (broadcastInDim S4x1 ![0] bcast_S4_S4x1_0 : (⟨S4, .i32⟩ : BufTy).Contents (Elt F) → (⟨S4x1, .i32⟩ : BufTy).Contents (Elt F)) (W V main_v2) :=
  eq1 V 20 main_v2 main_v3 (broadcastInDim S4x1 ![0] bcast_S4_S4x1_0 : (⟨S4, .i32⟩ : BufTy).Contents (Elt F) → (⟨S4x1, .i32⟩ : BufTy).Contents (Elt F)) _ _ rfl (by decide) (by decide)

set_option maxRecDepth 32000 in
theorem w_main_v4 : W V main_v4 = ((fun x i => Host.gather gather_S1x2x32x3x224x224_S4x1_S1x2x4x3x224x224_01345_2_n_n_2_1_1213224224 x i) : (⟨S1x2x32x3x224x224, .f32⟩ : BufTy).Contents (Elt F) → (⟨S4x1, .i32⟩ : BufTy).Contents (Elt F) → (⟨S1x2x4x3x224x224, .f32⟩ : BufTy).Contents (Elt F)) (W V main_arg0) (W V main_v3) :=
  eq2 V 21 main_arg0 main_v3 main_v4 ((fun x i => Host.gather gather_S1x2x32x3x224x224_S4x1_S1x2x4x3x224x224_01345_2_n_n_2_1_1213224224 x i) : (⟨S1x2x32x3x224x224, .f32⟩ : BufTy).Contents (Elt F) → (⟨S4x1, .i32⟩ : BufTy).Contents (Elt F) → (⟨S1x2x4x3x224x224, .f32⟩ : BufTy).Contents (Elt F)) _ _ _ rfl (by decide) (by decide) (by decide)

set_option maxRecDepth 32000 in
theorem w_main_v5 : W V main_v5 = shapeCast _ (W V main_v4 : (main_v4 : Ref sig .tc).ty.Contents (Elt F)) shapeCasts_S1x2x4x3x224x224_S8x3x224x224 := eqR V 22 main_v4 main_v5 rfl shapeCasts_S1x2x4x3x224x224_S8x3x224x224 _ _ rfl (by decide) (by decide)

set_option maxRecDepth 32000 in
theorem w_main_cst : W V main_cst = (constant S_ .f32 0x00000000#32) :=
  eq0 V 23 main_cst (constant S_ .f32 0x00000000#32) _ rfl (by decide)

set_option maxRecDepth 32000 in
theorem w_main_v6 : W V main_v6 = ((fun x v => Host.reduceAdd x v reducesTo_S8x3x224x224_S8x3_d2_3 h_S_) : (⟨S8x3x224x224, .f32⟩ : BufTy).Contents (Elt F) → (⟨S_, .f32⟩ : BufTy).Contents (Elt F) → (⟨S8x3, .f32⟩ : BufTy).Contents (Elt F)) (W V main_v5) (W V main_cst) :=
  eq2 V 24 main_v5 main_cst main_v6 ((fun x v => Host.reduceAdd x v reducesTo_S8x3x224x224_S8x3_d2_3 h_S_) : (⟨S8x3x224x224, .f32⟩ : BufTy).Contents (Elt F) → (⟨S_, .f32⟩ : BufTy).Contents (Elt F) → (⟨S8x3, .f32⟩ : BufTy).Contents (Elt F)) _ _ _ rfl (by decide) (by decide) (by decide)

set_option maxRecDepth 32000 in
theorem w_main_cst_16 : W V main_cst_16 = (constant S_ .f32 0x47440000#32) :=
  eq0 V 25 main_cst_16 (constant S_ .f32 0x47440000#32) _ rfl (by decide)

set_option maxRecDepth 32000 in
theorem w_main_v7 : W V main_v7 = (broadcastInDim S8x3 ![] bcast_S_S8x3 : (⟨S_, .f32⟩ : BufTy).Contents (Elt F) → (⟨S8x3, .f32⟩ : BufTy).Contents (Elt F)) (W V main_cst_16) :=
  eq1 V 26 main_cst_16 main_v7 (broadcastInDim S8x3 ![] bcast_S_S8x3 : (⟨S_, .f32⟩ : BufTy).Contents (Elt F) → (⟨S8x3, .f32⟩ : BufTy).Contents (Elt F)) _ _ rfl (by decide) (by decide)

set_option maxRecDepth 32000 in
theorem w_main_v8 : W V main_v8 = (Host.divf : (⟨S8x3, .f32⟩ : BufTy).Contents (Elt F) → (⟨S8x3, .f32⟩ : BufTy).Contents (Elt F) → (⟨S8x3, .f32⟩ : BufTy).Contents (Elt F)) (W V main_v6) (W V main_v7) :=
  eq2 V 27 main_v6 main_v7 main_v8 (Host.divf : (⟨S8x3, .f32⟩ : BufTy).Contents (Elt F) → (⟨S8x3, .f32⟩ : BufTy).Contents (Elt F) → (⟨S8x3, .f32⟩ : BufTy).Contents (Elt F)) _ _ _ rfl (by decide) (by decide) (by decide)

set_option maxRecDepth 32000 in
theorem w_main_v9 : W V main_v9 = ((fun l r => Host.dotGeneral dot_S8x3_S3x768_S8x768_1_0_0_1_n_n none l r) : (⟨S8x3, .f32⟩ : BufTy).Contents (Elt F) → (⟨S3x768, .f32⟩ : BufTy).Contents (Elt F) → (⟨S8x768, .f32⟩ : BufTy).Contents (Elt F)) (W V main_v8) (W V main_arg6) :=
  eq2 V 28 main_v8 main_arg6 main_v9 ((fun l r => Host.dotGeneral dot_S8x3_S3x768_S8x768_1_0_0_1_n_n none l r) : (⟨S8x3, .f32⟩ : BufTy).Contents (Elt F) → (⟨S3x768, .f32⟩ : BufTy).Contents (Elt F) → (⟨S8x768, .f32⟩ : BufTy).Contents (Elt F)) _ _ _ rfl (by decide) (by decide) (by decide)

set_option maxRecDepth 32000 in
theorem w_main_v10 : W V main_v10 = (broadcastInDim S1x768 ![1] bcast_S768_S1x768_1 : (⟨S768, .f32⟩ : BufTy).Contents (Elt F) → (⟨S1x768, .f32⟩ : BufTy).Contents (Elt F)) (W V main_arg7) :=
  eq1 V 29 main_arg7 main_v10 (broadcastInDim S1x768 ![1] bcast_S768_S1x768_1 : (⟨S768, .f32⟩ : BufTy).Contents (Elt F) → (⟨S1x768, .f32⟩ : BufTy).Contents (Elt F)) _ _ rfl (by decide) (by decide)

set_option maxRecDepth 32000 in
theorem w_main_v11 : W V main_v11 = (broadcastInDim S8x768 ![0, 1] bcast_S1x768_S8x768_0_1 : (⟨S1x768, .f32⟩ : BufTy).Contents (Elt F) → (⟨S8x768, .f32⟩ : BufTy).Contents (Elt F)) (W V main_v10) :=
  eq1 V 30 main_v10 main_v11 (broadcastInDim S8x768 ![0, 1] bcast_S1x768_S8x768_0_1 : (⟨S1x768, .f32⟩ : BufTy).Contents (Elt F) → (⟨S8x768, .f32⟩ : BufTy).Contents (Elt F)) _ _ rfl (by decide) (by decide)

set_option maxRecDepth 32000 in
theorem w_main_v12 : W V main_v12 = (addf : (⟨S8x768, .f32⟩ : BufTy).Contents (Elt F) → (⟨S8x768, .f32⟩ : BufTy).Contents (Elt F) → (⟨S8x768, .f32⟩ : BufTy).Contents (Elt F)) (W V main_v9) (W V main_v11) :=
  eq2 V 31 main_v9 main_v11 main_v12 (addf : (⟨S8x768, .f32⟩ : BufTy).Contents (Elt F) → (⟨S8x768, .f32⟩ : BufTy).Contents (Elt F) → (⟨S8x768, .f32⟩ : BufTy).Contents (Elt F)) _ _ _ rfl (by decide) (by decide) (by decide)

set_option maxRecDepth 32000 in
theorem w_main_v13 : W V main_v13 = shapeCast _ (W V main_v12 : (main_v12 : Ref sig .tc).ty.Contents (Elt F)) shapeCasts_S8x768_S2x4x768 := eqR V 32 main_v12 main_v13 rfl shapeCasts_S8x768_S2x4x768 _ _ rfl (by decide) (by decide)

set_option maxRecDepth 32000 in
theorem w_main_v14 : W V main_v14 = ((fun l r => Host.dotGeneral dot_S1x1x768_S768x768_S1x1x768_2_0_01_1_n_n none l r) : (⟨S1x1x768, .f32⟩ : BufTy).Contents (Elt F) → (⟨S768x768, .f32⟩ : BufTy).Contents (Elt F) → (⟨S1x1x768, .f32⟩ : BufTy).Contents (Elt F)) (W V main_arg1) (W V main_arg2) :=
  eq2 V 33 main_arg1 main_arg2 main_v14 ((fun l r => Host.dotGeneral dot_S1x1x768_S768x768_S1x1x768_2_0_01_1_n_n none l r) : (⟨S1x1x768, .f32⟩ : BufTy).Contents (Elt F) → (⟨S768x768, .f32⟩ : BufTy).Contents (Elt F) → (⟨S1x1x768, .f32⟩ : BufTy).Contents (Elt F)) _ _ _ rfl (by decide) (by decide) (by decide)

set_option maxRecDepth 32000 in
theorem w_main_v15 : W V main_v15 = (broadcastInDim S1x1x768 ![2] bcast_S768_S1x1x768_2 : (⟨S768, .f32⟩ : BufTy).Contents (Elt F) → (⟨S1x1x768, .f32⟩ : BufTy).Contents (Elt F)) (W V main_arg3) :=
  eq1 V 34 main_arg3 main_v15 (broadcastInDim S1x1x768 ![2] bcast_S768_S1x1x768_2 : (⟨S768, .f32⟩ : BufTy).Contents (Elt F) → (⟨S1x1x768, .f32⟩ : BufTy).Contents (Elt F)) _ _ rfl (by decide) (by decide)

set_option maxRecDepth 32000 in
theorem w_main_v16 : W V main_v16 = (addf : (⟨S1x1x768, .f32⟩ : BufTy).Contents (Elt F) → (⟨S1x1x768, .f32⟩ : BufTy).Contents (Elt F) → (⟨S1x1x768, .f32⟩ : BufTy).Contents (Elt F)) (W V main_v14) (W V main_v15) :=
  eq2 V 35 main_v14 main_v15 main_v16 (addf : (⟨S1x1x768, .f32⟩ : BufTy).Contents (Elt F) → (⟨S1x1x768, .f32⟩ : BufTy).Contents (Elt F) → (⟨S1x1x768, .f32⟩ : BufTy).Contents (Elt F)) _ _ _ rfl (by decide) (by decide) (by decide)

set_option maxRecDepth 32000 in
theorem w_main_v17 : W V main_v17 = ((fun l r => Host.dotGeneral dot_S2x4x768_S768x768_S2x4x768_2_0_01_1_n_n none l r) : (⟨S2x4x768, .f32⟩ : BufTy).Contents (Elt F) → (⟨S768x768, .f32⟩ : BufTy).Contents (Elt F) → (⟨S2x4x768, .f32⟩ : BufTy).Contents (Elt F)) (W V main_v13) (W V main_arg4) :=
  eq2 V 36 main_v13 main_arg4 main_v17 ((fun l r => Host.dotGeneral dot_S2x4x768_S768x768_S2x4x768_2_0_01_1_n_n none l r) : (⟨S2x4x768, .f32⟩ : BufTy).Contents (Elt F) → (⟨S768x768, .f32⟩ : BufTy).Contents (Elt F) → (⟨S2x4x768, .f32⟩ : BufTy).Contents (Elt F)) _ _ _ rfl (by decide) (by decide) (by decide)

set_option maxRecDepth 32000 in
theorem w_main_v18 : W V main_v18 = (broadcastInDim S1x1x768 ![2] bcast_S768_S1x1x768_2 : (⟨S768, .f32⟩ : BufTy).Contents (Elt F) → (⟨S1x1x768, .f32⟩ : BufTy).Contents (Elt F)) (W V main_arg5) :=
  eq1 V 37 main_arg5 main_v18 (broadcastInDim S1x1x768 ![2] bcast_S768_S1x1x768_2 : (⟨S768, .f32⟩ : BufTy).Contents (Elt F) → (⟨S1x1x768, .f32⟩ : BufTy).Contents (Elt F)) _ _ rfl (by decide) (by decide)

set_option maxRecDepth 32000 in
theorem w_main_v19 : W V main_v19 = (broadcastInDim S2x4x768 ![0, 1, 2] bcast_S1x1x768_S2x4x768_0_1_2 : (⟨S1x1x768, .f32⟩ : BufTy).Contents (Elt F) → (⟨S2x4x768, .f32⟩ : BufTy).Contents (Elt F)) (W V main_v18) :=
  eq1 V 38 main_v18 main_v19 (broadcastInDim S2x4x768 ![0, 1, 2] bcast_S1x1x768_S2x4x768_0_1_2 : (⟨S1x1x768, .f32⟩ : BufTy).Contents (Elt F) → (⟨S2x4x768, .f32⟩ : BufTy).Contents (Elt F)) _ _ rfl (by decide) (by decide)

set_option maxRecDepth 32000 in
theorem w_main_v20 : W V main_v20 = (addf : (⟨S2x4x768, .f32⟩ : BufTy).Contents (Elt F) → (⟨S2x4x768, .f32⟩ : BufTy).Contents (Elt F) → (⟨S2x4x768, .f32⟩ : BufTy).Contents (Elt F)) (W V main_v17) (W V main_v19) :=
  eq2 V 39 main_v17 main_v19 main_v20 (addf : (⟨S2x4x768, .f32⟩ : BufTy).Contents (Elt F) → (⟨S2x4x768, .f32⟩ : BufTy).Contents (Elt F) → (⟨S2x4x768, .f32⟩ : BufTy).Contents (Elt F)) _ _ _ rfl (by decide) (by decide) (by decide)

set_option maxRecDepth 32000 in
theorem w_main_cst_17 : W V main_cst_17 = (constant S_ .f32 0x00000000#32) :=
  eq0 V 40 main_cst_17 (constant S_ .f32 0x00000000#32) _ rfl (by decide)

set_option maxRecDepth 32000 in
theorem w_main_v21 : W V main_v21 = ((fun x v => Host.reduceAdd x v reducesTo_S1x1x768_S1x768_d0 h_S_) : (⟨S1x1x768, .f32⟩ : BufTy).Contents (Elt F) → (⟨S_, .f32⟩ : BufTy).Contents (Elt F) → (⟨S1x768, .f32⟩ : BufTy).Contents (Elt F)) (W V main_v16) (W V main_cst_17) :=
  eq2 V 41 main_v16 main_cst_17 main_v21 ((fun x v => Host.reduceAdd x v reducesTo_S1x1x768_S1x768_d0 h_S_) : (⟨S1x1x768, .f32⟩ : BufTy).Contents (Elt F) → (⟨S_, .f32⟩ : BufTy).Contents (Elt F) → (⟨S1x768, .f32⟩ : BufTy).Contents (Elt F)) _ _ _ rfl (by decide) (by decide) (by decide)

set_option maxRecDepth 32000 in
theorem w_main_v22 : W V main_v22 = ((fun l r => Host.dotGeneral dot_S2x4x768_S1x768_S2x4x1_2_1_01_0_n_n none l r) : (⟨S2x4x768, .f32⟩ : BufTy).Contents (Elt F) → (⟨S1x768, .f32⟩ : BufTy).Contents (Elt F) → (⟨S2x4x1, .f32⟩ : BufTy).Contents (Elt F)) (W V main_v20) (W V main_v21) :=
  eq2 V 42 main_v20 main_v21 main_v22 ((fun l r => Host.dotGeneral dot_S2x4x768_S1x768_S2x4x1_2_1_01_0_n_n none l r) : (⟨S2x4x768, .f32⟩ : BufTy).Contents (Elt F) → (⟨S1x768, .f32⟩ : BufTy).Contents (Elt F) → (⟨S2x4x1, .f32⟩ : BufTy).Contents (Elt F)) _ _ _ rfl (by decide) (by decide) (by decide)

set_option maxRecDepth 32000 in
theorem w_main_v23 : W V main_v23 = ((transpose S2x1x4 [0, 2, 1] · transposes_S2x4x1_S2x1x4_0_2_1) : (⟨S2x4x1, .f32⟩ : BufTy).Contents (Elt F) → (⟨S2x1x4, .f32⟩ : BufTy).Contents (Elt F)) (W V main_v22) :=
  eq1 V 43 main_v22 main_v23 ((transpose S2x1x4 [0, 2, 1] · transposes_S2x4x1_S2x1x4_0_2_1) : (⟨S2x4x1, .f32⟩ : BufTy).Contents (Elt F) → (⟨S2x1x4, .f32⟩ : BufTy).Contents (Elt F)) _ _ rfl (by decide) (by decide)

set_option maxRecDepth 32000 in
theorem w_main_cst_18 : W V main_cst_18 = (constant S_ .f32 0x3D13CD3A#32) :=
  eq0 V 44 main_cst_18 (constant S_ .f32 0x3D13CD3A#32) _ rfl (by decide)

set_option maxRecDepth 32000 in
theorem w_main_v24 : W V main_v24 = (broadcastInDim S2x1x4 ![] bcast_S_S2x1x4 : (⟨S_, .f32⟩ : BufTy).Contents (Elt F) → (⟨S2x1x4, .f32⟩ : BufTy).Contents (Elt F)) (W V main_cst_18) :=
  eq1 V 45 main_cst_18 main_v24 (broadcastInDim S2x1x4 ![] bcast_S_S2x1x4 : (⟨S_, .f32⟩ : BufTy).Contents (Elt F) → (⟨S2x1x4, .f32⟩ : BufTy).Contents (Elt F)) _ _ rfl (by decide) (by decide)

set_option maxRecDepth 32000 in
theorem w_main_v25 : W V main_v25 = (mulf : (⟨S2x1x4, .f32⟩ : BufTy).Contents (Elt F) → (⟨S2x1x4, .f32⟩ : BufTy).Contents (Elt F) → (⟨S2x1x4, .f32⟩ : BufTy).Contents (Elt F)) (W V main_v23) (W V main_v24) :=
  eq2 V 46 main_v23 main_v24 main_v25 (mulf : (⟨S2x1x4, .f32⟩ : BufTy).Contents (Elt F) → (⟨S2x1x4, .f32⟩ : BufTy).Contents (Elt F) → (⟨S2x1x4, .f32⟩ : BufTy).Contents (Elt F)) _ _ _ rfl (by decide) (by decide) (by decide)

set_option maxRecDepth 32000 in
theorem w_main_cst_19 : W V main_cst_19 = (constant S_ .f32 0xFF800000#32) :=
  eq0 V 47 main_cst_19 (constant S_ .f32 0xFF800000#32) _ rfl (by decide)

set_option maxRecDepth 32000 in
theorem w_main_v26 : W V main_v26 = ((fun x v => Host.reduce FloatOps.maximumf x v reducesTo_S2x1x4_S2x1_d2 h_S_) : (⟨S2x1x4, .f32⟩ : BufTy).Contents (Elt F) → (⟨S_, .f32⟩ : BufTy).Contents (Elt F) → (⟨S2x1, .f32⟩ : BufTy).Contents (Elt F)) (W V main_v25) (W V main_cst_19) :=
  eq2 V 48 main_v25 main_cst_19 main_v26 ((fun x v => Host.reduce FloatOps.maximumf x v reducesTo_S2x1x4_S2x1_d2 h_S_) : (⟨S2x1x4, .f32⟩ : BufTy).Contents (Elt F) → (⟨S_, .f32⟩ : BufTy).Contents (Elt F) → (⟨S2x1, .f32⟩ : BufTy).Contents (Elt F)) _ _ _ rfl (by decide) (by decide) (by decide)

end Cert.ReferenceIdeal.Hand

end
-- ==== Proof.RI.EqsB.lean ====
/- The equations of a quarter of the reference's operations. -/
module

public import proofs.«01_k».proof.Proof.RI.Eqs

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 32000 in
theorem w_main_cst_20 : W V main_cst_20 = (constant S_ .f32 0xFF800000#32) :=
  eq0 V 49 main_cst_20 (constant S_ .f32 0xFF800000#32) _ rfl (by decide)

set_option maxRecDepth 32000 in
theorem w_main_v27 : W V main_v27 = (broadcastInDim S2x1 ![] bcast_S_S2x1 : (⟨S_, .f32⟩ : BufTy).Contents (Elt F) → (⟨S2x1, .f32⟩ : BufTy).Contents (Elt F)) (W V main_cst_20) :=
  eq1 V 50 main_cst_20 main_v27 (broadcastInDim S2x1 ![] bcast_S_S2x1 : (⟨S_, .f32⟩ : BufTy).Contents (Elt F) → (⟨S2x1, .f32⟩ : BufTy).Contents (Elt F)) _ _ rfl (by decide) (by decide)

set_option maxRecDepth 32000 in
theorem w_main_v28 : W V main_v28 = (maximumf : (⟨S2x1, .f32⟩ : BufTy).Contents (Elt F) → (⟨S2x1, .f32⟩ : BufTy).Contents (Elt F) → (⟨S2x1, .f32⟩ : BufTy).Contents (Elt F)) (W V main_v27) (W V main_v26) :=
  eq2 V 51 main_v27 main_v26 main_v28 (maximumf : (⟨S2x1, .f32⟩ : BufTy).Contents (Elt F) → (⟨S2x1, .f32⟩ : BufTy).Contents (Elt F) → (⟨S2x1, .f32⟩ : BufTy).Contents (Elt F)) _ _ _ rfl (by decide) (by decide) (by decide)

set_option maxRecDepth 32000 in
theorem w_main_v29 : W V main_v29 = (broadcastInDim S2x1x1 ![0, 1] bcast_S2x1_S2x1x1_0_1 : (⟨S2x1, .f32⟩ : BufTy).Contents (Elt F) → (⟨S2x1x1, .f32⟩ : BufTy).Contents (Elt F)) (W V main_v28) :=
  eq1 V 52 main_v28 main_v29 (broadcastInDim S2x1x1 ![0, 1] bcast_S2x1_S2x1x1_0_1 : (⟨S2x1, .f32⟩ : BufTy).Contents (Elt F) → (⟨S2x1x1, .f32⟩ : BufTy).Contents (Elt F)) _ _ rfl (by decide) (by decide)

set_option maxRecDepth 32000 in
theorem w_main_v30 : W V main_v30 = (broadcastInDim S2x1x4 ![0, 1, 2] bcast_S2x1x1_S2x1x4_0_1_2 : (⟨S2x1x1, .f32⟩ : BufTy).Contents (Elt F) → (⟨S2x1x4, .f32⟩ : BufTy).Contents (Elt F)) (W V main_v29) :=
  eq1 V 53 main_v29 main_v30 (broadcastInDim S2x1x4 ![0, 1, 2] bcast_S2x1x1_S2x1x4_0_1_2 : (⟨S2x1x1, .f32⟩ : BufTy).Contents (Elt F) → (⟨S2x1x4, .f32⟩ : BufTy).Contents (Elt F)) _ _ rfl (by decide) (by decide)

set_option maxRecDepth 32000 in
theorem w_main_v31 : W V main_v31 = (subf : (⟨S2x1x4, .f32⟩ : BufTy).Contents (Elt F) → (⟨S2x1x4, .f32⟩ : BufTy).Contents (Elt F) → (⟨S2x1x4, .f32⟩ : BufTy).Contents (Elt F)) (W V main_v25) (W V main_v30) :=
  eq2 V 54 main_v25 main_v30 main_v31 (subf : (⟨S2x1x4, .f32⟩ : BufTy).Contents (Elt F) → (⟨S2x1x4, .f32⟩ : BufTy).Contents (Elt F) → (⟨S2x1x4, .f32⟩ : BufTy).Contents (Elt F)) _ _ _ rfl (by decide) (by decide) (by decide)

set_option maxRecDepth 32000 in
theorem w_main_v32 : W V main_v32 = (Host.exp : (⟨S2x1x4, .f32⟩ : BufTy).Contents (Elt F) → (⟨S2x1x4, .f32⟩ : BufTy).Contents (Elt F)) (W V main_v31) :=
  eq1 V 55 main_v31 main_v32 (Host.exp : (⟨S2x1x4, .f32⟩ : BufTy).Contents (Elt F) → (⟨S2x1x4, .f32⟩ : BufTy).Contents (Elt F)) _ _ rfl (by decide) (by decide)

set_option maxRecDepth 32000 in
theorem w_main_cst_21 : W V main_cst_21 = (constant S_ .f32 0x00000000#32) :=
  eq0 V 56 main_cst_21 (constant S_ .f32 0x00000000#32) _ rfl (by decide)

set_option maxRecDepth 32000 in
theorem w_main_v33 : W V main_v33 = ((fun x v => Host.reduceAdd x v reducesTo_S2x1x4_S2x1_d2 h_S_) : (⟨S2x1x4, .f32⟩ : BufTy).Contents (Elt F) → (⟨S_, .f32⟩ : BufTy).Contents (Elt F) → (⟨S2x1, .f32⟩ : BufTy).Contents (Elt F)) (W V main_v32) (W V main_cst_21) :=
  eq2 V 57 main_v32 main_cst_21 main_v33 ((fun x v => Host.reduceAdd x v reducesTo_S2x1x4_S2x1_d2 h_S_) : (⟨S2x1x4, .f32⟩ : BufTy).Contents (Elt F) → (⟨S_, .f32⟩ : BufTy).Contents (Elt F) → (⟨S2x1, .f32⟩ : BufTy).Contents (Elt F)) _ _ _ rfl (by decide) (by decide) (by decide)

set_option maxRecDepth 32000 in
theorem w_main_v34 : W V main_v34 = (broadcastInDim S2x1x1 ![0, 1] bcast_S2x1_S2x1x1_0_1 : (⟨S2x1, .f32⟩ : BufTy).Contents (Elt F) → (⟨S2x1x1, .f32⟩ : BufTy).Contents (Elt F)) (W V main_v33) :=
  eq1 V 58 main_v33 main_v34 (broadcastInDim S2x1x1 ![0, 1] bcast_S2x1_S2x1x1_0_1 : (⟨S2x1, .f32⟩ : BufTy).Contents (Elt F) → (⟨S2x1x1, .f32⟩ : BufTy).Contents (Elt F)) _ _ rfl (by decide) (by decide)

set_option maxRecDepth 32000 in
theorem w_main_v35 : W V main_v35 = (broadcastInDim S2x1x4 ![0, 1, 2] bcast_S2x1x1_S2x1x4_0_1_2 : (⟨S2x1x1, .f32⟩ : BufTy).Contents (Elt F) → (⟨S2x1x4, .f32⟩ : BufTy).Contents (Elt F)) (W V main_v34) :=
  eq1 V 59 main_v34 main_v35 (broadcastInDim S2x1x4 ![0, 1, 2] bcast_S2x1x1_S2x1x4_0_1_2 : (⟨S2x1x1, .f32⟩ : BufTy).Contents (Elt F) → (⟨S2x1x4, .f32⟩ : BufTy).Contents (Elt F)) _ _ rfl (by decide) (by decide)

set_option maxRecDepth 32000 in
theorem w_main_v36 : W V main_v36 = (Host.divf : (⟨S2x1x4, .f32⟩ : BufTy).Contents (Elt F) → (⟨S2x1x4, .f32⟩ : BufTy).Contents (Elt F) → (⟨S2x1x4, .f32⟩ : BufTy).Contents (Elt F)) (W V main_v32) (W V main_v35) :=
  eq2 V 60 main_v32 main_v35 main_v36 (Host.divf : (⟨S2x1x4, .f32⟩ : BufTy).Contents (Elt F) → (⟨S2x1x4, .f32⟩ : BufTy).Contents (Elt F) → (⟨S2x1x4, .f32⟩ : BufTy).Contents (Elt F)) _ _ _ rfl (by decide) (by decide) (by decide)

set_option maxRecDepth 32000 in
theorem w_main_cst_22 : W V main_cst_22 = (constant S_ .f32 0x00000000#32) :=
  eq0 V 61 main_cst_22 (constant S_ .f32 0x00000000#32) _ rfl (by decide)

set_option maxRecDepth 32000 in
theorem w_main_v37 : W V main_v37 = ((fun x v => Host.reduceAdd x v reducesTo_S2x1x4_S2x4_d1 h_S_) : (⟨S2x1x4, .f32⟩ : BufTy).Contents (Elt F) → (⟨S_, .f32⟩ : BufTy).Contents (Elt F) → (⟨S2x4, .f32⟩ : BufTy).Contents (Elt F)) (W V main_v36) (W V main_cst_22) :=
  eq2 V 62 main_v36 main_cst_22 main_v37 ((fun x v => Host.reduceAdd x v reducesTo_S2x1x4_S2x4_d1 h_S_) : (⟨S2x1x4, .f32⟩ : BufTy).Contents (Elt F) → (⟨S_, .f32⟩ : BufTy).Contents (Elt F) → (⟨S2x4, .f32⟩ : BufTy).Contents (Elt F)) _ _ _ rfl (by decide) (by decide) (by decide)

set_option maxRecDepth 32000 in
theorem w_main_v38 : W V main_v38 = shapeCast _ (W V main_v37 : (main_v37 : Ref sig .tc).ty.Contents (Elt F)) shapeCasts_S2x4_S1x2x4 := eqR V 63 main_v37 main_v38 rfl shapeCasts_S2x4_S1x2x4 _ _ rfl (by decide) (by decide)

set_option maxRecDepth 32000 in
theorem w_main_v39 : W V main_v39 = (sitofp .f32 : (⟨S3, .i32⟩ : BufTy).Contents (Elt F) → (⟨S3, .f32⟩ : BufTy).Contents (Elt F)) (W V main_c_1) :=
  eq1 V 64 main_c_1 main_v39 (sitofp .f32 : (⟨S3, .i32⟩ : BufTy).Contents (Elt F) → (⟨S3, .f32⟩ : BufTy).Contents (Elt F)) _ _ rfl (by decide) (by decide)

set_option maxRecDepth 32000 in
theorem w_main_v40 : W V main_v40 = extractStridedSlice S1x2x3 ![0, 0, 1] (W V main_v38) slices_S1x2x4_S1x2x3_0_0_1 := by
  have hop : (ops : List (HloOp τ sig (Elt F)))[65]? = some (unary main_v38 main_v40 ((extractStridedSlice S1x2x3 ![0, 0, 1] · slices_S1x2x4_S1x2x3_0_0_1) : (⟨S1x2x4, .f32⟩ : BufTy).Contents (Elt F) → (⟨S1x2x3, .f32⟩ : BufTy).Contents (Elt F))) := rfl
  have key : ∀ f, f = ((extractStridedSlice S1x2x3 ![0, 0, 1] · slices_S1x2x4_S1x2x3_0_0_1) : (⟨S1x2x4, .f32⟩ : BufTy).Contents (Elt F) → (⟨S1x2x3, .f32⟩ : BufTy).Contents (Elt F)) → W V main_v40 = f (W V main_v38) := by
    rintro _ rfl; exact eq1 V 65 main_v38 main_v40 _ _ _ hop (by decide) (by decide)
  exact key _ rfl

set_option maxRecDepth 32000 in
theorem w_main_v41 : W V main_v41 = extractStridedSlice S1x2x3 ![0, 0, 0] (W V main_v38) slices_S1x2x4_S1x2x3_0_0_0 := by
  have hop : (ops : List (HloOp τ sig (Elt F)))[66]? = some (unary main_v38 main_v41 ((extractStridedSlice S1x2x3 ![0, 0, 0] · slices_S1x2x4_S1x2x3_0_0_0) : (⟨S1x2x4, .f32⟩ : BufTy).Contents (Elt F) → (⟨S1x2x3, .f32⟩ : BufTy).Contents (Elt F))) := rfl
  have key : ∀ f, f = ((extractStridedSlice S1x2x3 ![0, 0, 0] · slices_S1x2x4_S1x2x3_0_0_0) : (⟨S1x2x4, .f32⟩ : BufTy).Contents (Elt F) → (⟨S1x2x3, .f32⟩ : BufTy).Contents (Elt F)) → W V main_v41 = f (W V main_v38) := by
    rintro _ rfl; exact eq1 V 66 main_v38 main_v41 _ _ _ hop (by decide) (by decide)
  exact key _ rfl

set_option maxRecDepth 32000 in
theorem w_main_v42 : W V main_v42 = (subf : (⟨S1x2x3, .f32⟩ : BufTy).Contents (Elt F) → (⟨S1x2x3, .f32⟩ : BufTy).Contents (Elt F) → (⟨S1x2x3, .f32⟩ : BufTy).Contents (Elt F)) (W V main_v40) (W V main_v41) :=
  eq2 V 67 main_v40 main_v41 main_v42 (subf : (⟨S1x2x3, .f32⟩ : BufTy).Contents (Elt F) → (⟨S1x2x3, .f32⟩ : BufTy).Contents (Elt F) → (⟨S1x2x3, .f32⟩ : BufTy).Contents (Elt F)) _ _ _ rfl (by decide) (by decide) (by decide)

set_option maxRecDepth 32000 in
theorem w_main_v43 : W V main_v43 = (broadcastInDim S1x1x3 ![2] bcast_S3_S1x1x3_2 : (⟨S3, .f32⟩ : BufTy).Contents (Elt F) → (⟨S1x1x3, .f32⟩ : BufTy).Contents (Elt F)) (W V main_v39) :=
  eq1 V 68 main_v39 main_v43 (broadcastInDim S1x1x3 ![2] bcast_S3_S1x1x3_2 : (⟨S3, .f32⟩ : BufTy).Contents (Elt F) → (⟨S1x1x3, .f32⟩ : BufTy).Contents (Elt F)) _ _ rfl (by decide) (by decide)

set_option maxRecDepth 32000 in
theorem w_main_v44 : W V main_v44 = (broadcastInDim S1x2x3 ![0, 1, 2] bcast_S1x1x3_S1x2x3_0_1_2 : (⟨S1x1x3, .f32⟩ : BufTy).Contents (Elt F) → (⟨S1x2x3, .f32⟩ : BufTy).Contents (Elt F)) (W V main_v43) :=
  eq1 V 69 main_v43 main_v44 (broadcastInDim S1x2x3 ![0, 1, 2] bcast_S1x1x3_S1x2x3_0_1_2 : (⟨S1x1x3, .f32⟩ : BufTy).Contents (Elt F) → (⟨S1x2x3, .f32⟩ : BufTy).Contents (Elt F)) _ _ rfl (by decide) (by decide)

set_option maxRecDepth 32000 in
theorem w_main_v45 : W V main_v45 = (Host.divf : (⟨S1x2x3, .f32⟩ : BufTy).Contents (Elt F) → (⟨S1x2x3, .f32⟩ : BufTy).Contents (Elt F) → (⟨S1x2x3, .f32⟩ : BufTy).Contents (Elt F)) (W V main_v42) (W V main_v44) :=
  eq2 V 70 main_v42 main_v44 main_v45 (Host.divf : (⟨S1x2x3, .f32⟩ : BufTy).Contents (Elt F) → (⟨S1x2x3, .f32⟩ : BufTy).Contents (Elt F) → (⟨S1x2x3, .f32⟩ : BufTy).Contents (Elt F)) _ _ _ rfl (by decide) (by decide) (by decide)

set_option maxRecDepth 32000 in
theorem w_main_v46 : W V main_v46 = extractStridedSlice S1x2x2 ![0, 0, 1] (W V main_v45) slices_S1x2x3_S1x2x2_0_0_1 := by
  have hop : (ops : List (HloOp τ sig (Elt F)))[71]? = some (unary main_v45 main_v46 ((extractStridedSlice S1x2x2 ![0, 0, 1] · slices_S1x2x3_S1x2x2_0_0_1) : (⟨S1x2x3, .f32⟩ : BufTy).Contents (Elt F) → (⟨S1x2x2, .f32⟩ : BufTy).Contents (Elt F))) := rfl
  have key : ∀ f, f = ((extractStridedSlice S1x2x2 ![0, 0, 1] · slices_S1x2x3_S1x2x2_0_0_1) : (⟨S1x2x3, .f32⟩ : BufTy).Contents (Elt F) → (⟨S1x2x2, .f32⟩ : BufTy).Contents (Elt F)) → W V main_v46 = f (W V main_v45) := by
    rintro _ rfl; exact eq1 V 71 main_v45 main_v46 _ _ _ hop (by decide) (by decide)
  exact key _ rfl

set_option maxRecDepth 32000 in
theorem w_main_v47 : W V main_v47 = extractStridedSlice S1x2x2 ![0, 0, 0] (W V main_v45) slices_S1x2x3_S1x2x2_0_0_0 := by
  have hop : (ops : List (HloOp τ sig (Elt F)))[72]? = some (unary main_v45 main_v47 ((extractStridedSlice S1x2x2 ![0, 0, 0] · slices_S1x2x3_S1x2x2_0_0_0) : (⟨S1x2x3, .f32⟩ : BufTy).Contents (Elt F) → (⟨S1x2x2, .f32⟩ : BufTy).Contents (Elt F))) := rfl
  have key : ∀ f, f = ((extractStridedSlice S1x2x2 ![0, 0, 0] · slices_S1x2x3_S1x2x2_0_0_0) : (⟨S1x2x3, .f32⟩ : BufTy).Contents (Elt F) → (⟨S1x2x2, .f32⟩ : BufTy).Contents (Elt F)) → W V main_v47 = f (W V main_v45) := by
    rintro _ rfl; exact eq1 V 72 main_v45 main_v47 _ _ _ hop (by decide) (by decide)
  exact key _ rfl

set_option maxRecDepth 32000 in
theorem w_main_v48 : W V main_v48 = (subf : (⟨S1x2x2, .f32⟩ : BufTy).Contents (Elt F) → (⟨S1x2x2, .f32⟩ : BufTy).Contents (Elt F) → (⟨S1x2x2, .f32⟩ : BufTy).Contents (Elt F)) (W V main_v46) (W V main_v47) :=
  eq2 V 73 main_v46 main_v47 main_v48 (subf : (⟨S1x2x2, .f32⟩ : BufTy).Contents (Elt F) → (⟨S1x2x2, .f32⟩ : BufTy).Contents (Elt F) → (⟨S1x2x2, .f32⟩ : BufTy).Contents (Elt F)) _ _ _ rfl (by decide) (by decide) (by decide)

set_option maxRecDepth 32000 in
theorem w_main_cst_23 : W V main_cst_23 = (constant S_ .f32 0x40C00000#32) :=
  eq0 V 74 main_cst_23 (constant S_ .f32 0x40C00000#32) _ rfl (by decide)

set_option maxRecDepth 32000 in
theorem w_main_v49 : W V main_v49 = (broadcastInDim S1x2x2 ![] bcast_S_S1x2x2 : (⟨S_, .f32⟩ : BufTy).Contents (Elt F) → (⟨S1x2x2, .f32⟩ : BufTy).Contents (Elt F)) (W V main_cst_23) :=
  eq1 V 75 main_cst_23 main_v49 (broadcastInDim S1x2x2 ![] bcast_S_S1x2x2 : (⟨S_, .f32⟩ : BufTy).Contents (Elt F) → (⟨S1x2x2, .f32⟩ : BufTy).Contents (Elt F)) _ _ rfl (by decide) (by decide)

set_option maxRecDepth 32000 in
theorem w_main_v50 : W V main_v50 = (mulf : (⟨S1x2x2, .f32⟩ : BufTy).Contents (Elt F) → (⟨S1x2x2, .f32⟩ : BufTy).Contents (Elt F) → (⟨S1x2x2, .f32⟩ : BufTy).Contents (Elt F)) (W V main_v49) (W V main_v48) :=
  eq2 V 76 main_v49 main_v48 main_v50 (mulf : (⟨S1x2x2, .f32⟩ : BufTy).Contents (Elt F) → (⟨S1x2x2, .f32⟩ : BufTy).Contents (Elt F) → (⟨S1x2x2, .f32⟩ : BufTy).Contents (Elt F)) _ _ _ rfl (by decide) (by decide) (by decide)

set_option maxRecDepth 32000 in
theorem w_main_v51 : W V main_v51 = (sitofp .f32 : (⟨S2x2, .i32⟩ : BufTy).Contents (Elt F) → (⟨S2x2, .f32⟩ : BufTy).Contents (Elt F)) (W V main_c_2) :=
  eq1 V 77 main_c_2 main_v51 (sitofp .f32 : (⟨S2x2, .i32⟩ : BufTy).Contents (Elt F) → (⟨S2x2, .f32⟩ : BufTy).Contents (Elt F)) _ _ rfl (by decide) (by decide)

set_option maxRecDepth 32000 in
theorem w_main_cst_24 : W V main_cst_24 = (constant S_ .f32 0x44C58000#32) :=
  eq0 V 78 main_cst_24 (constant S_ .f32 0x44C58000#32) _ rfl (by decide)

set_option maxRecDepth 32000 in
theorem w_main_v52 : W V main_v52 = (broadcastInDim S2x2 ![] bcast_S_S2x2 : (⟨S_, .f32⟩ : BufTy).Contents (Elt F) → (⟨S2x2, .f32⟩ : BufTy).Contents (Elt F)) (W V main_cst_24) :=
  eq1 V 79 main_cst_24 main_v52 (broadcastInDim S2x2 ![] bcast_S_S2x2 : (⟨S_, .f32⟩ : BufTy).Contents (Elt F) → (⟨S2x2, .f32⟩ : BufTy).Contents (Elt F)) _ _ rfl (by decide) (by decide)

set_option maxRecDepth 32000 in
theorem w_main_v53 : W V main_v53 = (Host.divf : (⟨S2x2, .f32⟩ : BufTy).Contents (Elt F) → (⟨S2x2, .f32⟩ : BufTy).Contents (Elt F) → (⟨S2x2, .f32⟩ : BufTy).Contents (Elt F)) (W V main_v51) (W V main_v52) :=
  eq2 V 80 main_v51 main_v52 main_v53 (Host.divf : (⟨S2x2, .f32⟩ : BufTy).Contents (Elt F) → (⟨S2x2, .f32⟩ : BufTy).Contents (Elt F) → (⟨S2x2, .f32⟩ : BufTy).Contents (Elt F)) _ _ _ rfl (by decide) (by decide) (by decide)

set_option maxRecDepth 32000 in
theorem w_main_v54 : W V main_v54 = ((transpose S2x2 [1, 0] · transposes_S2x2_S2x2_1_0) : (⟨S2x2, .f32⟩ : BufTy).Contents (Elt F) → (⟨S2x2, .f32⟩ : BufTy).Contents (Elt F)) (W V main_v53) :=
  eq1 V 81 main_v53 main_v54 ((transpose S2x2 [1, 0] · transposes_S2x2_S2x2_1_0) : (⟨S2x2, .f32⟩ : BufTy).Contents (Elt F) → (⟨S2x2, .f32⟩ : BufTy).Contents (Elt F)) _ _ rfl (by decide) (by decide)

set_option maxRecDepth 32000 in
theorem w_main_v55 : W V main_v55 = ((fun l r => Host.dotGeneral dot_S1x2x2_S2x2_S1x2x2_2_0_01_1_n_n none l r) : (⟨S1x2x2, .f32⟩ : BufTy).Contents (Elt F) → (⟨S2x2, .f32⟩ : BufTy).Contents (Elt F) → (⟨S1x2x2, .f32⟩ : BufTy).Contents (Elt F)) (W V main_v50) (W V main_v54) :=
  eq2 V 82 main_v50 main_v54 main_v55 ((fun l r => Host.dotGeneral dot_S1x2x2_S2x2_S1x2x2_2_0_01_1_n_n none l r) : (⟨S1x2x2, .f32⟩ : BufTy).Contents (Elt F) → (⟨S2x2, .f32⟩ : BufTy).Contents (Elt F) → (⟨S1x2x2, .f32⟩ : BufTy).Contents (Elt F)) _ _ _ rfl (by decide) (by decide) (by decide)

set_option maxRecDepth 32000 in
theorem w_main_cst_25 : W V main_cst_25 = (constant S_ .f32 0x00000000#32) :=
  eq0 V 83 main_cst_25 (constant S_ .f32 0x00000000#32) _ rfl (by decide)

set_option maxRecDepth 32000 in
theorem w_main_v56 : W V main_v56 = (broadcastInDim S1x2x1 ![] bcast_S_S1x2x1 : (⟨S_, .f32⟩ : BufTy).Contents (Elt F) → (⟨S1x2x1, .f32⟩ : BufTy).Contents (Elt F)) (W V main_cst_25) :=
  eq1 V 84 main_cst_25 main_v56 (broadcastInDim S1x2x1 ![] bcast_S_S1x2x1 : (⟨S_, .f32⟩ : BufTy).Contents (Elt F) → (⟨S1x2x1, .f32⟩ : BufTy).Contents (Elt F)) _ _ rfl (by decide) (by decide)

set_option maxRecDepth 32000 in
theorem w_main_v57 : W V main_v57 = fn_main_v57 (F := F) (W V main_v56) (W V main_v55) (W V main_v56) :=
  eqN V 85 ![main_v56, main_v55, main_v56] main_v57 (fun u => fn_main_v57 (F := F) (u 0) (u 1) (u 2)) _ _ rfl (by decide) (by decide)

set_option maxRecDepth 32000 in
theorem w_main_v58 : W V main_v58 = (sitofp .f32 : (⟨S32, .i32⟩ : BufTy).Contents (Elt F) → (⟨S32, .f32⟩ : BufTy).Contents (Elt F)) (W V main_c_3) :=
  eq1 V 86 main_c_3 main_v58 (sitofp .f32 : (⟨S32, .i32⟩ : BufTy).Contents (Elt F) → (⟨S32, .f32⟩ : BufTy).Contents (Elt F)) _ _ rfl (by decide) (by decide)

set_option maxRecDepth 32000 in
theorem w_main_v59 : W V main_v59 = (sitofp .f32 : (⟨S32, .i32⟩ : BufTy).Contents (Elt F) → (⟨S32, .f32⟩ : BufTy).Contents (Elt F)) (W V main_c_4) :=
  eq1 V 87 main_c_4 main_v59 (sitofp .f32 : (⟨S32, .i32⟩ : BufTy).Contents (Elt F) → (⟨S32, .f32⟩ : BufTy).Contents (Elt F)) _ _ rfl (by decide) (by decide)

set_option maxRecDepth 32000 in
theorem w_main_c_26 : W V main_c_26 = (constantI S_ 32 4#32) :=
  eq0 V 88 main_c_26 (constantI S_ 32 4#32) _ rfl (by decide)

set_option maxRecDepth 32000 in
theorem w_main_v60 : W V main_v60 = (broadcastInDim S32 ![] bcast_S_S32 : (⟨S_, .i32⟩ : BufTy).Contents (Elt F) → (⟨S32, .i32⟩ : BufTy).Contents (Elt F)) (W V main_c_26) :=
  eq1 V 89 main_c_26 main_v60 (broadcastInDim S32 ![] bcast_S_S32 : (⟨S_, .i32⟩ : BufTy).Contents (Elt F) → (⟨S32, .i32⟩ : BufTy).Contents (Elt F)) _ _ rfl (by decide) (by decide)

set_option maxRecDepth 32000 in
theorem w_main_v61 : W V main_v61 = (addi : (⟨S32, .i32⟩ : BufTy).Contents (Elt F) → (⟨S32, .i32⟩ : BufTy).Contents (Elt F) → (⟨S32, .i32⟩ : BufTy).Contents (Elt F)) (W V main_c_5) (W V main_v60) :=
  eq2 V 90 main_c_5 main_v60 main_v61 (addi : (⟨S32, .i32⟩ : BufTy).Contents (Elt F) → (⟨S32, .i32⟩ : BufTy).Contents (Elt F) → (⟨S32, .i32⟩ : BufTy).Contents (Elt F)) _ _ _ rfl (by decide) (by decide) (by decide)

set_option maxRecDepth 32000 in
theorem w_main_v62 : W V main_v62 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (W V main_c_6) (W V main_v61) (W V main_c_5) :=
  eq3 V 91 main_c_6 main_v61 main_c_5 main_v62 (select : (⟨S32, .i1⟩ : BufTy).Contents (Elt F) → (⟨S32, .i32⟩ : BufTy).Contents (Elt F) → (⟨S32, .i32⟩ : BufTy).Contents (Elt F) → (⟨S32, .i32⟩ : BufTy).Contents (Elt F)) _ _ _ _ rfl (by decide) (by decide) (by decide) (by decide)

set_option maxRecDepth 32000 in
theorem w_main_v63 : W V main_v63 = (broadcastInDim S32x1 ![0] bcast_S32_S32x1_0 : (⟨S32, .i32⟩ : BufTy).Contents (Elt F) → (⟨S32x1, .i32⟩ : BufTy).Contents (Elt F)) (W V main_v62) :=
  eq1 V 92 main_v62 main_v63 (broadcastInDim S32x1 ![0] bcast_S32_S32x1_0 : (⟨S32, .i32⟩ : BufTy).Contents (Elt F) → (⟨S32x1, .i32⟩ : BufTy).Contents (Elt F)) _ _ rfl (by decide) (by decide)

set_option maxRecDepth 32000 in
theorem w_main_v64 : W V main_v64 = ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) (W V main_v38) (W V main_v63) :=
  eq2 V 93 main_v38 main_v63 main_v64 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) _ _ _ rfl (by decide) (by decide) (by decide)

set_option maxRecDepth 32000 in
theorem w_main_c_27 : W V main_c_27 = (constantI S_ 32 3#32) :=
  eq0 V 94 main_c_27 (constantI S_ 32 3#32) _ rfl (by decide)

set_option maxRecDepth 32000 in
theorem w_main_v65 : W V main_v65 = (broadcastInDim S32 ![] bcast_S_S32 : (⟨S_, .i32⟩ : BufTy).Contents (Elt F) → (⟨S32, .i32⟩ : BufTy).Contents (Elt F)) (W V main_c_27) :=
  eq1 V 95 main_c_27 main_v65 (broadcastInDim S32 ![] bcast_S_S32 : (⟨S_, .i32⟩ : BufTy).Contents (Elt F) → (⟨S32, .i32⟩ : BufTy).Contents (Elt F)) _ _ rfl (by decide) (by decide)

set_option maxRecDepth 32000 in
theorem w_main_v66 : W V main_v66 = (addi : (⟨S32, .i32⟩ : BufTy).Contents (Elt F) → (⟨S32, .i32⟩ : BufTy).Contents (Elt F) → (⟨S32, .i32⟩ : BufTy).Contents (Elt F)) (W V main_c_5) (W V main_v65) :=
  eq2 V 96 main_c_5 main_v65 main_v66 (addi : (⟨S32, .i32⟩ : BufTy).Contents (Elt F) → (⟨S32, .i32⟩ : BufTy).Contents (Elt F) → (⟨S32, .i32⟩ : BufTy).Contents (Elt F)) _ _ _ rfl (by decide) (by decide) (by decide)

set_option maxRecDepth 32000 in
theorem w_main_v67 : W V main_v67 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (W V main_c_7) (W V main_v66) (W V main_c_5) :=
  eq3 V 97 main_c_7 main_v66 main_c_5 main_v67 (select : (⟨S32, .i1⟩ : BufTy).Contents (Elt F) → (⟨S32, .i32⟩ : BufTy).Contents (Elt F) → (⟨S32, .i32⟩ : BufTy).Contents (Elt F) → (⟨S32, .i32⟩ : BufTy).Contents (Elt F)) _ _ _ _ rfl (by decide) (by decide) (by decide) (by decide)

set_option maxRecDepth 32000 in
theorem w_main_v68 : W V main_v68 = (broadcastInDim S32x1 ![0] bcast_S32_S32x1_0 : (⟨S32, .i32⟩ : BufTy).Contents (Elt F) → (⟨S32x1, .i32⟩ : BufTy).Contents (Elt F)) (W V main_v67) :=
  eq1 V 98 main_v67 main_v68 (broadcastInDim S32x1 ![0] bcast_S32_S32x1_0 : (⟨S32, .i32⟩ : BufTy).Contents (Elt F) → (⟨S32x1, .i32⟩ : BufTy).Contents (Elt F)) _ _ rfl (by decide) (by decide)

set_option maxRecDepth 32000 in
theorem w_main_v69 : W V main_v69 = ((fun x i => Host.gather gather_S1x2x3_S32x1_S1x2x32_01_2_n_n_2_1_121 x i) : (⟨S1x2x3, .f32⟩ : BufTy).Contents (Elt F) → (⟨S32x1, .i32⟩ : BufTy).Contents (Elt F) → (⟨S1x2x32, .f32⟩ : BufTy).Contents (Elt F)) (W V main_v45) (W V main_v68) :=
  eq2 V 99 main_v45 main_v68 main_v69 ((fun x i => Host.gather gather_S1x2x3_S32x1_S1x2x32_01_2_n_n_2_1_121 x i) : (⟨S1x2x3, .f32⟩ : BufTy).Contents (Elt F) → (⟨S32x1, .i32⟩ : BufTy).Contents (Elt F) → (⟨S1x2x32, .f32⟩ : BufTy).Contents (Elt F)) _ _ _ rfl (by decide) (by decide) (by decide)

set_option maxRecDepth 32000 in
theorem w_main_c_28 : W V main_c_28 = (constantI S_ 32 4#32) :=
  eq0 V 100 main_c_28 (constantI S_ 32 4#32) _ rfl (by decide)

set_option maxRecDepth 32000 in
theorem w_main_v70 : W V main_v70 = (broadcastInDim S32 ![] bcast_S_S32 : (⟨S_, .i32⟩ : BufTy).Contents (Elt F) → (⟨S32, .i32⟩ : BufTy).Contents (Elt F)) (W V main_c_28) :=
  eq1 V 101 main_c_28 main_v70 (broadcastInDim S32 ![] bcast_S_S32 : (⟨S_, .i32⟩ : BufTy).Contents (Elt F) → (⟨S32, .i32⟩ : BufTy).Contents (Elt F)) _ _ rfl (by decide) (by decide)

set_option maxRecDepth 32000 in
theorem w_main_v71 : W V main_v71 = (addi : (⟨S32, .i32⟩ : BufTy).Contents (Elt F) → (⟨S32, .i32⟩ : BufTy).Contents (Elt F) → (⟨S32, .i32⟩ : BufTy).Contents (Elt F)) (W V main_c_5) (W V main_v70) :=
  eq2 V 102 main_c_5 main_v70 main_v71 (addi : (⟨S32, .i32⟩ : BufTy).Contents (Elt F) → (⟨S32, .i32⟩ : BufTy).Contents (Elt F) → (⟨S32, .i32⟩ : BufTy).Contents (Elt F)) _ _ _ rfl (by decide) (by decide) (by decide)

set_option maxRecDepth 32000 in
theorem w_main_v72 : W V main_v72 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (W V main_c_8) (W V main_v71) (W V main_c_5) :=
  eq3 V 103 main_c_8 main_v71 main_c_5 main_v72 (select : (⟨S32, .i1⟩ : BufTy).Contents (Elt F) → (⟨S32, .i32⟩ : BufTy).Contents (Elt F) → (⟨S32, .i32⟩ : BufTy).Contents (Elt F) → (⟨S32, .i32⟩ : BufTy).Contents (Elt F)) _ _ _ _ rfl (by decide) (by decide) (by decide) (by decide)

set_option maxRecDepth 32000 in
theorem w_main_v73 : W V main_v73 = (broadcastInDim S32x1 ![0] bcast_S32_S32x1_0 : (⟨S32, .i32⟩ : BufTy).Contents (Elt F) → (⟨S32x1, .i32⟩ : BufTy).Contents (Elt F)) (W V main_v72) :=
  eq1 V 104 main_v72 main_v73 (broadcastInDim S32x1 ![0] bcast_S32_S32x1_0 : (⟨S32, .i32⟩ : BufTy).Contents (Elt F) → (⟨S32x1, .i32⟩ : BufTy).Contents (Elt F)) _ _ rfl (by decide) (by decide)

set_option maxRecDepth 32000 in
theorem w_main_v74 : W V main_v74 = ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) (W V main_v57) (W V main_v73) :=
  eq2 V 105 main_v57 main_v73 main_v74 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) _ _ _ rfl (by decide) (by decide) (by decide)

end Cert.ReferenceIdeal.Hand

end
-- ==== Proof.RI.EqsC.lean ====
/- The equations of a quarter of the reference's operations. -/
module

public import proofs.«01_k».proof.Proof.RI.Eqs

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 32000 in
theorem w_main_cst_29 : W V main_cst_29 = (constant S_ .f32 0x40000000#32) :=
  eq0 V 106 main_cst_29 (constant S_ .f32 0x40000000#32) _ rfl (by decide)

set_option maxRecDepth 32000 in
theorem w_main_v75 : W V main_v75 = (broadcastInDim S1x2x32 ![] bcast_S_S1x2x32 : (⟨S_, .f32⟩ : BufTy).Contents (Elt F) → (⟨S1x2x32, .f32⟩ : BufTy).Contents (Elt F)) (W V main_cst_29) :=
  eq1 V 107 main_cst_29 main_v75 (broadcastInDim S1x2x32 ![] bcast_S_S1x2x32 : (⟨S_, .f32⟩ : BufTy).Contents (Elt F) → (⟨S1x2x32, .f32⟩ : BufTy).Contents (Elt F)) _ _ rfl (by decide) (by decide)

set_option maxRecDepth 32000 in
theorem w_main_v76 : W V main_v76 = (mulf : (⟨S1x2x32, .f32⟩ : BufTy).Contents (Elt F) → (⟨S1x2x32, .f32⟩ : BufTy).Contents (Elt F) → (⟨S1x2x32, .f32⟩ : BufTy).Contents (Elt F)) (W V main_v75) (W V main_v74) :=
  eq2 V 108 main_v75 main_v74 main_v76 (mulf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_c_30 : W V main_c_30 = (constantI S_ 32 4#32) :=
  eq0 V 109 main_c_30 (constantI S_ 32 4#32) _ rfl (by decide)

set_option maxRecDepth 32000 in
theorem w_main_v77 : W V main_v77 = (broadcastInDim S32 ![] bcast_S_S32 : (⟨S_, .i32⟩ : BufTy).Contents (Elt F) → (⟨S32, .i32⟩ : BufTy).Contents (Elt F)) (W V main_c_30) :=
  eq1 V 110 main_c_30 main_v77 (broadcastInDim S32 ![] bcast_S_S32 : (⟨S_, .i32⟩ : BufTy).Contents (Elt F) → (⟨S32, .i32⟩ : BufTy).Contents (Elt F)) _ _ rfl (by decide) (by decide)

set_option maxRecDepth 32000 in
theorem w_main_v78 : W V main_v78 = (addi : (⟨S32, .i32⟩ : BufTy).Contents (Elt F) → (⟨S32, .i32⟩ : BufTy).Contents (Elt F) → (⟨S32, .i32⟩ : BufTy).Contents (Elt F)) (W V main_c_9) (W V main_v77) :=
  eq2 V 111 main_c_9 main_v77 main_v78 (addi : (⟨S32, .i32⟩ : BufTy).Contents (Elt F) → (⟨S32, .i32⟩ : BufTy).Contents (Elt F) → (⟨S32, .i32⟩ : BufTy).Contents (Elt F)) _ _ _ rfl (by decide) (by decide) (by decide)

set_option maxRecDepth 32000 in
theorem w_main_v79 : W V main_v79 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (W V main_c_10) (W V main_v78) (W V main_c_9) :=
  eq3 V 112 main_c_10 main_v78 main_c_9 main_v79 (select : (⟨S32, .i1⟩ : BufTy).Contents (Elt F) → (⟨S32, .i32⟩ : BufTy).Contents (Elt F) → (⟨S32, .i32⟩ : BufTy).Contents (Elt F) → (⟨S32, .i32⟩ : BufTy).Contents (Elt F)) _ _ _ _ rfl (by decide) (by decide) (by decide) (by decide)

set_option maxRecDepth 32000 in
theorem w_main_v80 : W V main_v80 = (broadcastInDim S32x1 ![0] bcast_S32_S32x1_0 : (⟨S32, .i32⟩ : BufTy).Contents (Elt F) → (⟨S32x1, .i32⟩ : BufTy).Contents (Elt F)) (W V main_v79) :=
  eq1 V 113 main_v79 main_v80 (broadcastInDim S32x1 ![0] bcast_S32_S32x1_0 : (⟨S32, .i32⟩ : BufTy).Contents (Elt F) → (⟨S32x1, .i32⟩ : BufTy).Contents (Elt F)) _ _ rfl (by decide) (by decide)

set_option maxRecDepth 32000 in
theorem w_main_v81 : W V main_v81 = ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) (W V main_v57) (W V main_v80) :=
  eq2 V 114 main_v57 main_v80 main_v81 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) _ _ _ rfl (by decide) (by decide) (by decide)

set_option maxRecDepth 32000 in
theorem w_main_v82 : W V main_v82 = (addf : (⟨S1x2x32, .f32⟩ : BufTy).Contents (Elt F) → (⟨S1x2x32, .f32⟩ : BufTy).Contents (Elt F) → (⟨S1x2x32, .f32⟩ : BufTy).Contents (Elt F)) (W V main_v76) (W V main_v81) :=
  eq2 V 115 main_v76 main_v81 main_v82 (addf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_v83 : W V main_v83 = (broadcastInDim S1x1x32 ![2] bcast_S32_S1x1x32_2 : (⟨S32, .f32⟩ : BufTy).Contents (Elt F) → (⟨S1x1x32, .f32⟩ : BufTy).Contents (Elt F)) (W V main_v59) :=
  eq1 V 116 main_v59 main_v83 (broadcastInDim S1x1x32 ![2] bcast_S32_S1x1x32_2 : (⟨S32, .f32⟩ : BufTy).Contents (Elt F) → (⟨S1x1x32, .f32⟩ : BufTy).Contents (Elt F)) _ _ rfl (by decide) (by decide)

set_option maxRecDepth 32000 in
theorem w_main_v84 : W V main_v84 = (broadcastInDim S1x2x32 ![0, 1, 2] bcast_S1x1x32_S1x2x32_0_1_2 : (⟨S1x1x32, .f32⟩ : BufTy).Contents (Elt F) → (⟨S1x2x32, .f32⟩ : BufTy).Contents (Elt F)) (W V main_v83) :=
  eq1 V 117 main_v83 main_v84 (broadcastInDim S1x2x32 ![0, 1, 2] bcast_S1x1x32_S1x2x32_0_1_2 : (⟨S1x1x32, .f32⟩ : BufTy).Contents (Elt F) → (⟨S1x2x32, .f32⟩ : BufTy).Contents (Elt F)) _ _ rfl (by decide) (by decide)

set_option maxRecDepth 32000 in
theorem w_main_v85 : W V main_v85 = (mulf : (⟨S1x2x32, .f32⟩ : BufTy).Contents (Elt F) → (⟨S1x2x32, .f32⟩ : BufTy).Contents (Elt F) → (⟨S1x2x32, .f32⟩ : BufTy).Contents (Elt F)) (W V main_v84) (W V main_v82) :=
  eq2 V 118 main_v84 main_v82 main_v85 (mulf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_cst_31 : W V main_cst_31 = (constant S_ .f32 0x40C00000#32) :=
  eq0 V 119 main_cst_31 (constant S_ .f32 0x40C00000#32) _ rfl (by decide)

set_option maxRecDepth 32000 in
theorem w_main_v86 : W V main_v86 = (broadcastInDim S1x2x32 ![] bcast_S_S1x2x32 : (⟨S_, .f32⟩ : BufTy).Contents (Elt F) → (⟨S1x2x32, .f32⟩ : BufTy).Contents (Elt F)) (W V main_cst_31) :=
  eq1 V 120 main_cst_31 main_v86 (broadcastInDim S1x2x32 ![] bcast_S_S1x2x32 : (⟨S_, .f32⟩ : BufTy).Contents (Elt F) → (⟨S1x2x32, .f32⟩ : BufTy).Contents (Elt F)) _ _ rfl (by decide) (by decide)

set_option maxRecDepth 32000 in
theorem w_main_v87 : W V main_v87 = (Host.divf : (⟨S1x2x32, .f32⟩ : BufTy).Contents (Elt F) → (⟨S1x2x32, .f32⟩ : BufTy).Contents (Elt F) → (⟨S1x2x32, .f32⟩ : BufTy).Contents (Elt F)) (W V main_v85) (W V main_v86) :=
  eq2 V 121 main_v85 main_v86 main_v87 (Host.divf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_v88 : W V main_v88 = (subf : (⟨S1x2x32, .f32⟩ : BufTy).Contents (Elt F) → (⟨S1x2x32, .f32⟩ : BufTy).Contents (Elt F) → (⟨S1x2x32, .f32⟩ : BufTy).Contents (Elt F)) (W V main_v69) (W V main_v87) :=
  eq2 V 122 main_v69 main_v87 main_v88 (subf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_c_32 : W V main_c_32 = (constantI S_ 32 4#32) :=
  eq0 V 123 main_c_32 (constantI S_ 32 4#32) _ rfl (by decide)

set_option maxRecDepth 32000 in
theorem w_main_v89 : W V main_v89 = (broadcastInDim S32 ![] bcast_S_S32 : (⟨S_, .i32⟩ : BufTy).Contents (Elt F) → (⟨S32, .i32⟩ : BufTy).Contents (Elt F)) (W V main_c_32) :=
  eq1 V 124 main_c_32 main_v89 (broadcastInDim S32 ![] bcast_S_S32 : (⟨S_, .i32⟩ : BufTy).Contents (Elt F) → (⟨S32, .i32⟩ : BufTy).Contents (Elt F)) _ _ rfl (by decide) (by decide)

set_option maxRecDepth 32000 in
theorem w_main_v90 : W V main_v90 = (addi : (⟨S32, .i32⟩ : BufTy).Contents (Elt F) → (⟨S32, .i32⟩ : BufTy).Contents (Elt F) → (⟨S32, .i32⟩ : BufTy).Contents (Elt F)) (W V main_c_5) (W V main_v89) :=
  eq2 V 125 main_c_5 main_v89 main_v90 (addi : (⟨S32, .i32⟩ : BufTy).Contents (Elt F) → (⟨S32, .i32⟩ : BufTy).Contents (Elt F) → (⟨S32, .i32⟩ : BufTy).Contents (Elt F)) _ _ _ rfl (by decide) (by decide) (by decide)

set_option maxRecDepth 32000 in
theorem w_main_v91 : W V main_v91 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (W V main_c_11) (W V main_v90) (W V main_c_5) :=
  eq3 V 126 main_c_11 main_v90 main_c_5 main_v91 (select : (⟨S32, .i1⟩ : BufTy).Contents (Elt F) → (⟨S32, .i32⟩ : BufTy).Contents (Elt F) → (⟨S32, .i32⟩ : BufTy).Contents (Elt F) → (⟨S32, .i32⟩ : BufTy).Contents (Elt F)) _ _ _ _ rfl (by decide) (by decide) (by decide) (by decide)

set_option maxRecDepth 32000 in
theorem w_main_v92 : W V main_v92 = (broadcastInDim S32x1 ![0] bcast_S32_S32x1_0 : (⟨S32, .i32⟩ : BufTy).Contents (Elt F) → (⟨S32x1, .i32⟩ : BufTy).Contents (Elt F)) (W V main_v91) :=
  eq1 V 127 main_v91 main_v92 (broadcastInDim S32x1 ![0] bcast_S32_S32x1_0 : (⟨S32, .i32⟩ : BufTy).Contents (Elt F) → (⟨S32x1, .i32⟩ : BufTy).Contents (Elt F)) _ _ rfl (by decide) (by decide)

set_option maxRecDepth 32000 in
theorem w_main_v93 : W V main_v93 = ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) (W V main_v57) (W V main_v92) :=
  eq2 V 128 main_v57 main_v92 main_v93 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) _ _ _ rfl (by decide) (by decide) (by decide)

set_option maxRecDepth 32000 in
theorem w_main_cst_33 : W V main_cst_33 = (constant S_ .f32 0x40000000#32) :=
  eq0 V 129 main_cst_33 (constant S_ .f32 0x40000000#32) _ rfl (by decide)

set_option maxRecDepth 32000 in
theorem w_main_v94 : W V main_v94 = (broadcastInDim S1x2x32 ![] bcast_S_S1x2x32 : (⟨S_, .f32⟩ : BufTy).Contents (Elt F) → (⟨S1x2x32, .f32⟩ : BufTy).Contents (Elt F)) (W V main_cst_33) :=
  eq1 V 130 main_cst_33 main_v94 (broadcastInDim S1x2x32 ![] bcast_S_S1x2x32 : (⟨S_, .f32⟩ : BufTy).Contents (Elt F) → (⟨S1x2x32, .f32⟩ : BufTy).Contents (Elt F)) _ _ rfl (by decide) (by decide)

set_option maxRecDepth 32000 in
theorem w_main_v95 : W V main_v95 = (Host.divf : (⟨S1x2x32, .f32⟩ : BufTy).Contents (Elt F) → (⟨S1x2x32, .f32⟩ : BufTy).Contents (Elt F) → (⟨S1x2x32, .f32⟩ : BufTy).Contents (Elt F)) (W V main_v93) (W V main_v94) :=
  eq2 V 131 main_v93 main_v94 main_v95 (Host.divf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_c_34 : W V main_c_34 = (constantI S_ 32 4#32) :=
  eq0 V 132 main_c_34 (constantI S_ 32 4#32) _ rfl (by decide)

set_option maxRecDepth 32000 in
theorem w_main_v96 : W V main_v96 = (broadcastInDim S32 ![] bcast_S_S32 : (⟨S_, .i32⟩ : BufTy).Contents (Elt F) → (⟨S32, .i32⟩ : BufTy).Contents (Elt F)) (W V main_c_34) :=
  eq1 V 133 main_c_34 main_v96 (broadcastInDim S32 ![] bcast_S_S32 : (⟨S_, .i32⟩ : BufTy).Contents (Elt F) → (⟨S32, .i32⟩ : BufTy).Contents (Elt F)) _ _ rfl (by decide) (by decide)

set_option maxRecDepth 32000 in
theorem w_main_v97 : W V main_v97 = (addi : (⟨S32, .i32⟩ : BufTy).Contents (Elt F) → (⟨S32, .i32⟩ : BufTy).Contents (Elt F) → (⟨S32, .i32⟩ : BufTy).Contents (Elt F)) (W V main_c_12) (W V main_v96) :=
  eq2 V 134 main_c_12 main_v96 main_v97 (addi : (⟨S32, .i32⟩ : BufTy).Contents (Elt F) → (⟨S32, .i32⟩ : BufTy).Contents (Elt F) → (⟨S32, .i32⟩ : BufTy).Contents (Elt F)) _ _ _ rfl (by decide) (by decide) (by decide)

set_option maxRecDepth 32000 in
theorem w_main_v98 : W V main_v98 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (W V main_c_13) (W V main_v97) (W V main_c_12) :=
  eq3 V 135 main_c_13 main_v97 main_c_12 main_v98 (select : (⟨S32, .i1⟩ : BufTy).Contents (Elt F) → (⟨S32, .i32⟩ : BufTy).Contents (Elt F) → (⟨S32, .i32⟩ : BufTy).Contents (Elt F) → (⟨S32, .i32⟩ : BufTy).Contents (Elt F)) _ _ _ _ rfl (by decide) (by decide) (by decide) (by decide)

set_option maxRecDepth 32000 in
theorem w_main_v99 : W V main_v99 = (broadcastInDim S32x1 ![0] bcast_S32_S32x1_0 : (⟨S32, .i32⟩ : BufTy).Contents (Elt F) → (⟨S32x1, .i32⟩ : BufTy).Contents (Elt F)) (W V main_v98) :=
  eq1 V 136 main_v98 main_v99 (broadcastInDim S32x1 ![0] bcast_S32_S32x1_0 : (⟨S32, .i32⟩ : BufTy).Contents (Elt F) → (⟨S32x1, .i32⟩ : BufTy).Contents (Elt F)) _ _ rfl (by decide) (by decide)

set_option maxRecDepth 32000 in
theorem w_main_v100 : W V main_v100 = ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) (W V main_v57) (W V main_v99) :=
  eq2 V 137 main_v57 main_v99 main_v100 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) _ _ _ rfl (by decide) (by decide) (by decide)

set_option maxRecDepth 32000 in
theorem w_main_c_35 : W V main_c_35 = (constantI S_ 32 4#32) :=
  eq0 V 138 main_c_35 (constantI S_ 32 4#32) _ rfl (by decide)

set_option maxRecDepth 32000 in
theorem w_main_v101 : W V main_v101 = (broadcastInDim S32 ![] bcast_S_S32 : (⟨S_, .i32⟩ : BufTy).Contents (Elt F) → (⟨S32, .i32⟩ : BufTy).Contents (Elt F)) (W V main_c_35) :=
  eq1 V 139 main_c_35 main_v101 (broadcastInDim S32 ![] bcast_S_S32 : (⟨S_, .i32⟩ : BufTy).Contents (Elt F) → (⟨S32, .i32⟩ : BufTy).Contents (Elt F)) _ _ rfl (by decide) (by decide)

set_option maxRecDepth 32000 in
theorem w_main_v102 : W V main_v102 = (addi : (⟨S32, .i32⟩ : BufTy).Contents (Elt F) → (⟨S32, .i32⟩ : BufTy).Contents (Elt F) → (⟨S32, .i32⟩ : BufTy).Contents (Elt F)) (W V main_c_5) (W V main_v101) :=
  eq2 V 140 main_c_5 main_v101 main_v102 (addi : (⟨S32, .i32⟩ : BufTy).Contents (Elt F) → (⟨S32, .i32⟩ : BufTy).Contents (Elt F) → (⟨S32, .i32⟩ : BufTy).Contents (Elt F)) _ _ _ rfl (by decide) (by decide) (by decide)

set_option maxRecDepth 32000 in
theorem w_main_v103 : W V main_v103 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (W V main_c_14) (W V main_v102) (W V main_c_5) :=
  eq3 V 141 main_c_14 main_v102 main_c_5 main_v103 (select : (⟨S32, .i1⟩ : BufTy).Contents (Elt F) → (⟨S32, .i32⟩ : BufTy).Contents (Elt F) → (⟨S32, .i32⟩ : BufTy).Contents (Elt F) → (⟨S32, .i32⟩ : BufTy).Contents (Elt F)) _ _ _ _ rfl (by decide) (by decide) (by decide) (by decide)

set_option maxRecDepth 32000 in
theorem w_main_v104 : W V main_v104 = (broadcastInDim S32x1 ![0] bcast_S32_S32x1_0 : (⟨S32, .i32⟩ : BufTy).Contents (Elt F) → (⟨S32x1, .i32⟩ : BufTy).Contents (Elt F)) (W V main_v103) :=
  eq1 V 142 main_v103 main_v104 (broadcastInDim S32x1 ![0] bcast_S32_S32x1_0 : (⟨S32, .i32⟩ : BufTy).Contents (Elt F) → (⟨S32x1, .i32⟩ : BufTy).Contents (Elt F)) _ _ rfl (by decide) (by decide)

set_option maxRecDepth 32000 in
theorem w_main_v105 : W V main_v105 = ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) (W V main_v57) (W V main_v104) :=
  eq2 V 143 main_v57 main_v104 main_v105 ((fun x i => Host.gather gather_S1x2x4_S32x1_S1x2x32_01_2_n_n_2_1_121 x i) : (⟨S1x2x4, .f32⟩ : BufTy).Contents (Elt F) → (⟨S32x1, .i32⟩ : BufTy).Contents (Elt F) → (⟨S1x2x32, .f32⟩ : BufTy).Contents (Elt F)) _ _ _ rfl (by decide) (by decide) (by decide)

set_option maxRecDepth 32000 in
theorem w_main_v106 : W V main_v106 = (subf : (⟨S1x2x32, .f32⟩ : BufTy).Contents (Elt F) → (⟨S1x2x32, .f32⟩ : BufTy).Contents (Elt F) → (⟨S1x2x32, .f32⟩ : BufTy).Contents (Elt F)) (W V main_v100) (W V main_v105) :=
  eq2 V 144 main_v100 main_v105 main_v106 (subf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_cst_36 : W V main_cst_36 = (constant S_ .f32 0x40C00000#32) :=
  eq0 V 145 main_cst_36 (constant S_ .f32 0x40C00000#32) _ rfl (by decide)

set_option maxRecDepth 32000 in
theorem w_main_v107 : W V main_v107 = (broadcastInDim S32 ![] bcast_S_S32 : (⟨S_, .f32⟩ : BufTy).Contents (Elt F) → (⟨S32, .f32⟩ : BufTy).Contents (Elt F)) (W V main_cst_36) :=
  eq1 V 146 main_cst_36 main_v107 (broadcastInDim S32 ![] bcast_S_S32 : (⟨S_, .f32⟩ : BufTy).Contents (Elt F) → (⟨S32, .f32⟩ : BufTy).Contents (Elt F)) _ _ rfl (by decide) (by decide)

set_option maxRecDepth 32000 in
theorem w_main_v108 : W V main_v108 = (mulf : (⟨S32, .f32⟩ : BufTy).Contents (Elt F) → (⟨S32, .f32⟩ : BufTy).Contents (Elt F) → (⟨S32, .f32⟩ : BufTy).Contents (Elt F)) (W V main_v107) (W V main_v59) :=
  eq2 V 147 main_v107 main_v59 main_v108 (mulf : (⟨S32, .f32⟩ : BufTy).Contents (Elt F) → (⟨S32, .f32⟩ : BufTy).Contents (Elt F) → (⟨S32, .f32⟩ : BufTy).Contents (Elt F)) _ _ _ rfl (by decide) (by decide) (by decide)

set_option maxRecDepth 32000 in
theorem w_main_v109 : W V main_v109 = (broadcastInDim S1x1x32 ![2] bcast_S32_S1x1x32_2 : (⟨S32, .f32⟩ : BufTy).Contents (Elt F) → (⟨S1x1x32, .f32⟩ : BufTy).Contents (Elt F)) (W V main_v108) :=
  eq1 V 148 main_v108 main_v109 (broadcastInDim S1x1x32 ![2] bcast_S32_S1x1x32_2 : (⟨S32, .f32⟩ : BufTy).Contents (Elt F) → (⟨S1x1x32, .f32⟩ : BufTy).Contents (Elt F)) _ _ rfl (by decide) (by decide)

set_option maxRecDepth 32000 in
theorem w_main_v110 : W V main_v110 = (broadcastInDim S1x2x32 ![0, 1, 2] bcast_S1x1x32_S1x2x32_0_1_2 : (⟨S1x1x32, .f32⟩ : BufTy).Contents (Elt F) → (⟨S1x2x32, .f32⟩ : BufTy).Contents (Elt F)) (W V main_v109) :=
  eq1 V 149 main_v109 main_v110 (broadcastInDim S1x2x32 ![0, 1, 2] bcast_S1x1x32_S1x2x32_0_1_2 : (⟨S1x1x32, .f32⟩ : BufTy).Contents (Elt F) → (⟨S1x2x32, .f32⟩ : BufTy).Contents (Elt F)) _ _ rfl (by decide) (by decide)

set_option maxRecDepth 32000 in
theorem w_main_v111 : W V main_v111 = (Host.divf : (⟨S1x2x32, .f32⟩ : BufTy).Contents (Elt F) → (⟨S1x2x32, .f32⟩ : BufTy).Contents (Elt F) → (⟨S1x2x32, .f32⟩ : BufTy).Contents (Elt F)) (W V main_v106) (W V main_v110) :=
  eq2 V 150 main_v106 main_v110 main_v111 (Host.divf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_v112 : W V main_v112 = (broadcastInDim S1x1x32 ![2] bcast_S32_S1x1x32_2 : (⟨S32, .f32⟩ : BufTy).Contents (Elt F) → (⟨S1x1x32, .f32⟩ : BufTy).Contents (Elt F)) (W V main_v58) :=
  eq1 V 151 main_v58 main_v112 (broadcastInDim S1x1x32 ![2] bcast_S32_S1x1x32_2 : (⟨S32, .f32⟩ : BufTy).Contents (Elt F) → (⟨S1x1x32, .f32⟩ : BufTy).Contents (Elt F)) _ _ rfl (by decide) (by decide)

set_option maxRecDepth 32000 in
theorem w_main_v113 : W V main_v113 = (broadcastInDim S1x2x32 ![0, 1, 2] bcast_S1x1x32_S1x2x32_0_1_2 : (⟨S1x1x32, .f32⟩ : BufTy).Contents (Elt F) → (⟨S1x2x32, .f32⟩ : BufTy).Contents (Elt F)) (W V main_v112) :=
  eq1 V 152 main_v112 main_v113 (broadcastInDim S1x2x32 ![0, 1, 2] bcast_S1x1x32_S1x2x32_0_1_2 : (⟨S1x1x32, .f32⟩ : BufTy).Contents (Elt F) → (⟨S1x2x32, .f32⟩ : BufTy).Contents (Elt F)) _ _ rfl (by decide) (by decide)

set_option maxRecDepth 32000 in
theorem w_main_v114 : W V main_v114 = (mulf : (⟨S1x2x32, .f32⟩ : BufTy).Contents (Elt F) → (⟨S1x2x32, .f32⟩ : BufTy).Contents (Elt F) → (⟨S1x2x32, .f32⟩ : BufTy).Contents (Elt F)) (W V main_v88) (W V main_v113) :=
  eq2 V 153 main_v88 main_v113 main_v114 (mulf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_v115 : W V main_v115 = (addf : (⟨S1x2x32, .f32⟩ : BufTy).Contents (Elt F) → (⟨S1x2x32, .f32⟩ : BufTy).Contents (Elt F) → (⟨S1x2x32, .f32⟩ : BufTy).Contents (Elt F)) (W V main_v64) (W V main_v114) :=
  eq2 V 154 main_v64 main_v114 main_v115 (addf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_v116 : W V main_v116 = (mulf : (⟨S32, .f32⟩ : BufTy).Contents (Elt F) → (⟨S32, .f32⟩ : BufTy).Contents (Elt F) → (⟨S32, .f32⟩ : BufTy).Contents (Elt F)) (W V main_v58) (W V main_v58) :=
  eq2 V 155 main_v58 main_v58 main_v116 (mulf : (⟨S32, .f32⟩ : BufTy).Contents (Elt F) → (⟨S32, .f32⟩ : BufTy).Contents (Elt F) → (⟨S32, .f32⟩ : BufTy).Contents (Elt F)) _ _ _ rfl (by decide) (by decide) (by decide)

set_option maxRecDepth 32000 in
theorem w_main_v117 : W V main_v117 = (broadcastInDim S1x1x32 ![2] bcast_S32_S1x1x32_2 : (⟨S32, .f32⟩ : BufTy).Contents (Elt F) → (⟨S1x1x32, .f32⟩ : BufTy).Contents (Elt F)) (W V main_v116) :=
  eq1 V 156 main_v116 main_v117 (broadcastInDim S1x1x32 ![2] bcast_S32_S1x1x32_2 : (⟨S32, .f32⟩ : BufTy).Contents (Elt F) → (⟨S1x1x32, .f32⟩ : BufTy).Contents (Elt F)) _ _ rfl (by decide) (by decide)

set_option maxRecDepth 32000 in
theorem w_main_v118 : W V main_v118 = (broadcastInDim S1x2x32 ![0, 1, 2] bcast_S1x1x32_S1x2x32_0_1_2 : (⟨S1x1x32, .f32⟩ : BufTy).Contents (Elt F) → (⟨S1x2x32, .f32⟩ : BufTy).Contents (Elt F)) (W V main_v117) :=
  eq1 V 157 main_v117 main_v118 (broadcastInDim S1x2x32 ![0, 1, 2] bcast_S1x1x32_S1x2x32_0_1_2 : (⟨S1x1x32, .f32⟩ : BufTy).Contents (Elt F) → (⟨S1x2x32, .f32⟩ : BufTy).Contents (Elt F)) _ _ rfl (by decide) (by decide)

set_option maxRecDepth 32000 in
theorem w_main_v119 : W V main_v119 = (mulf : (⟨S1x2x32, .f32⟩ : BufTy).Contents (Elt F) → (⟨S1x2x32, .f32⟩ : BufTy).Contents (Elt F) → (⟨S1x2x32, .f32⟩ : BufTy).Contents (Elt F)) (W V main_v95) (W V main_v118) :=
  eq2 V 158 main_v95 main_v118 main_v119 (mulf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_v120 : W V main_v120 = (addf : (⟨S1x2x32, .f32⟩ : BufTy).Contents (Elt F) → (⟨S1x2x32, .f32⟩ : BufTy).Contents (Elt F) → (⟨S1x2x32, .f32⟩ : BufTy).Contents (Elt F)) (W V main_v115) (W V main_v119) :=
  eq2 V 159 main_v115 main_v119 main_v120 (addf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_v121 : W V main_v121 = (mulf : (⟨S32, .f32⟩ : BufTy).Contents (Elt F) → (⟨S32, .f32⟩ : BufTy).Contents (Elt F) → (⟨S32, .f32⟩ : BufTy).Contents (Elt F)) (W V main_v58) (W V main_v58) :=
  eq2 V 160 main_v58 main_v58 main_v121 (mulf : (⟨S32, .f32⟩ : BufTy).Contents (Elt F) → (⟨S32, .f32⟩ : BufTy).Contents (Elt F) → (⟨S32, .f32⟩ : BufTy).Contents (Elt F)) _ _ _ rfl (by decide) (by decide) (by decide)

set_option maxRecDepth 32000 in
theorem w_main_v122 : W V main_v122 = (mulf : (⟨S32, .f32⟩ : BufTy).Contents (Elt F) → (⟨S32, .f32⟩ : BufTy).Contents (Elt F) → (⟨S32, .f32⟩ : BufTy).Contents (Elt F)) (W V main_v121) (W V main_v58) :=
  eq2 V 161 main_v121 main_v58 main_v122 (mulf : (⟨S32, .f32⟩ : BufTy).Contents (Elt F) → (⟨S32, .f32⟩ : BufTy).Contents (Elt F) → (⟨S32, .f32⟩ : BufTy).Contents (Elt F)) _ _ _ rfl (by decide) (by decide) (by decide)

set_option maxRecDepth 32000 in
theorem w_main_v123 : W V main_v123 = (broadcastInDim S1x1x32 ![2] bcast_S32_S1x1x32_2 : (⟨S32, .f32⟩ : BufTy).Contents (Elt F) → (⟨S1x1x32, .f32⟩ : BufTy).Contents (Elt F)) (W V main_v122) :=
  eq1 V 162 main_v122 main_v123 (broadcastInDim S1x1x32 ![2] bcast_S32_S1x1x32_2 : (⟨S32, .f32⟩ : BufTy).Contents (Elt F) → (⟨S1x1x32, .f32⟩ : BufTy).Contents (Elt F)) _ _ rfl (by decide) (by decide)

end Cert.ReferenceIdeal.Hand

end
-- ==== Proof.RI.EqsD.lean ====
/- The equations of a quarter of the reference's operations. -/
module

public import proofs.«01_k».proof.Proof.RI.Eqs

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 32000 in
theorem w_main_v124 : W V main_v124 = (broadcastInDim S1x2x32 ![0, 1, 2] bcast_S1x1x32_S1x2x32_0_1_2 : (⟨S1x1x32, .f32⟩ : BufTy).Contents (Elt F) → (⟨S1x2x32, .f32⟩ : BufTy).Contents (Elt F)) (W V main_v123) :=
  eq1 V 163 main_v123 main_v124 (broadcastInDim S1x2x32 ![0, 1, 2] bcast_S1x1x32_S1x2x32_0_1_2 : (⟨S1x1x32, .f32⟩ : BufTy).Contents (Elt F) → (⟨S1x2x32, .f32⟩ : BufTy).Contents (Elt F)) _ _ rfl (by decide) (by decide)

set_option maxRecDepth 32000 in
theorem w_main_v125 : W V main_v125 = (mulf : (⟨S1x2x32, .f32⟩ : BufTy).Contents (Elt F) → (⟨S1x2x32, .f32⟩ : BufTy).Contents (Elt F) → (⟨S1x2x32, .f32⟩ : BufTy).Contents (Elt F)) (W V main_v111) (W V main_v124) :=
  eq2 V 164 main_v111 main_v124 main_v125 (mulf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_v126 : W V main_v126 = (addf : (⟨S1x2x32, .f32⟩ : BufTy).Contents (Elt F) → (⟨S1x2x32, .f32⟩ : BufTy).Contents (Elt F) → (⟨S1x2x32, .f32⟩ : BufTy).Contents (Elt F)) (W V main_v120) (W V main_v125) :=
  eq2 V 165 main_v120 main_v125 main_v126 (addf : (⟨S1x2x32, .f32⟩ : BufTy).Contents (Elt F) → (⟨S1x2x32, .f32⟩ : BufTy).Contents (Elt F) → (⟨S1x2x32, .f32⟩ : BufTy).Contents (Elt F)) _ _ _ rfl (by decide) (by decide) (by decide)

set_option maxRecDepth 32000 in
theorem w_main_v127 : W V main_v127 = shapeCast _ (W V main_v126 : (main_v126 : Ref sig .tc).ty.Contents (Elt F)) shapeCasts_S1x2x32_S2x32 := eqR V 166 main_v126 main_v127 rfl shapeCasts_S1x2x32_S2x32 _ _ rfl (by decide) (by decide)

set_option maxRecDepth 32000 in
theorem w_main_values : W V main_values = ((fun x => (Host.topK S2x8 1 (FloatOps.cmpfTotal .gt) x sliceFits_S2x32_S2x8).1) : (⟨S2x32, .f32⟩ : BufTy).Contents (Elt F) → (⟨S2x8, .f32⟩ : BufTy).Contents (Elt F)) (W V main_v127) :=
  eq1 V 167 main_v127 main_values ((fun x => (Host.topK S2x8 1 (FloatOps.cmpfTotal .gt) x sliceFits_S2x32_S2x8).1) : (⟨S2x32, .f32⟩ : BufTy).Contents (Elt F) → (⟨S2x8, .f32⟩ : BufTy).Contents (Elt F)) _ _ rfl (by decide) (by decide)

set_option maxRecDepth 32000 in
theorem w_main_indices : W V main_indices = ((fun x => (Host.topK S2x8 1 (FloatOps.cmpfTotal .gt) x sliceFits_S2x32_S2x8).2) : (⟨S2x32, .f32⟩ : BufTy).Contents (Elt F) → (⟨S2x8, .i32⟩ : BufTy).Contents (Elt F)) (W V main_v127) :=
  eq1 V 168 main_v127 main_indices ((fun x => (Host.topK S2x8 1 (FloatOps.cmpfTotal .gt) x sliceFits_S2x32_S2x8).2) : (⟨S2x32, .f32⟩ : BufTy).Contents (Elt F) → (⟨S2x8, .i32⟩ : BufTy).Contents (Elt F)) _ _ rfl (by decide) (by decide)

set_option maxRecDepth 32000 in
theorem w_main_call0_v0 : W V main_call0_v0 = ((broadcastInDim S2x8x1 ![0, 1] bcast_S2x8_S2x8x1_0_1) : (⟨S2x8, .i32⟩ : BufTy).Contents (Elt F) → (⟨S2x8x1, .i32⟩ : BufTy).Contents (Elt F)) (W V main_indices) :=
  eq1 V 169 main_indices main_call0_v0 ((broadcastInDim S2x8x1 ![0, 1] bcast_S2x8_S2x8x1_0_1) : (⟨S2x8, .i32⟩ : BufTy).Contents (Elt F) → (⟨S2x8x1, .i32⟩ : BufTy).Contents (Elt F)) _ _ rfl (by decide) (by decide)

set_option maxRecDepth 32000 in
theorem w_main_call0_v1 : W V main_call0_v1 = ((iotaInDim S1x1x32 32 2) : (⟨S1x1x32, .i32⟩ : BufTy).Contents (Elt F)) :=
  eq0 V 170 main_call0_v1 ((iotaInDim S1x1x32 32 2) : (⟨S1x1x32, .i32⟩ : BufTy).Contents (Elt F)) _ rfl (by decide)

set_option maxRecDepth 32000 in
theorem w_main_call0_v2 : W V main_call0_v2 = ((broadcastInDim S2x8x32 ![0, 1, 2] bcast_S2x8x1_S2x8x32_0_1_2) : (⟨S2x8x1, .i32⟩ : BufTy).Contents (Elt F) → (⟨S2x8x32, .i32⟩ : BufTy).Contents (Elt F)) (W V main_call0_v0) :=
  eq1 V 171 main_call0_v0 main_call0_v2 ((broadcastInDim S2x8x32 ![0, 1, 2] bcast_S2x8x1_S2x8x32_0_1_2) : (⟨S2x8x1, .i32⟩ : BufTy).Contents (Elt F) → (⟨S2x8x32, .i32⟩ : BufTy).Contents (Elt F)) _ _ rfl (by decide) (by decide)

set_option maxRecDepth 32000 in
theorem w_main_call0_v3 : W V main_call0_v3 = ((broadcastInDim S2x8x32 ![0, 1, 2] bcast_S1x1x32_S2x8x32_0_1_2) : (⟨S1x1x32, .i32⟩ : BufTy).Contents (Elt F) → (⟨S2x8x32, .i32⟩ : BufTy).Contents (Elt F)) (W V main_call0_v1) :=
  eq1 V 172 main_call0_v1 main_call0_v3 ((broadcastInDim S2x8x32 ![0, 1, 2] bcast_S1x1x32_S2x8x32_0_1_2) : (⟨S1x1x32, .i32⟩ : BufTy).Contents (Elt F) → (⟨S2x8x32, .i32⟩ : BufTy).Contents (Elt F)) _ _ rfl (by decide) (by decide)

set_option maxRecDepth 32000 in
theorem w_main_call0_v4 : W V main_call0_v4 = ((cmpi .eq) : (⟨S2x8x32, .i32⟩ : BufTy).Contents (Elt F) → (⟨S2x8x32, .i32⟩ : BufTy).Contents (Elt F) → (⟨S2x8x32, .i1⟩ : BufTy).Contents (Elt F)) (W V main_call0_v2) (W V main_call0_v3) :=
  eq2 V 173 main_call0_v2 main_call0_v3 main_call0_v4 ((cmpi .eq) : (⟨S2x8x32, .i32⟩ : BufTy).Contents (Elt F) → (⟨S2x8x32, .i32⟩ : BufTy).Contents (Elt F) → (⟨S2x8x32, .i1⟩ : BufTy).Contents (Elt F)) _ _ _ rfl (by decide) (by decide) (by decide)

set_option maxRecDepth 32000 in
theorem w_main_v128 : W V main_v128 = ((uitofp .f32) : (⟨S2x8x32, .i1⟩ : BufTy).Contents (Elt F) → (⟨S2x8x32, .f32⟩ : BufTy).Contents (Elt F)) (W V main_call0_v4) :=
  eq1 V 174 main_call0_v4 main_v128 ((uitofp .f32) : (⟨S2x8x32, .i1⟩ : BufTy).Contents (Elt F) → (⟨S2x8x32, .f32⟩ : BufTy).Contents (Elt F)) _ _ rfl (by decide) (by decide)

set_option maxRecDepth 32000 in
theorem w_main_v129 : W V main_v129 = ((transpose S2x32x8 [0, 2, 1] · transposes_S2x8x32_S2x32x8_0_2_1) : (⟨S2x8x32, .f32⟩ : BufTy).Contents (Elt F) → (⟨S2x32x8, .f32⟩ : BufTy).Contents (Elt F)) (W V main_v128) :=
  eq1 V 175 main_v128 main_v129 ((transpose S2x32x8 [0, 2, 1] · transposes_S2x8x32_S2x32x8_0_2_1) : (⟨S2x8x32, .f32⟩ : BufTy).Contents (Elt F) → (⟨S2x32x8, .f32⟩ : BufTy).Contents (Elt F)) _ _ rfl (by decide) (by decide)

set_option maxRecDepth 32000 in
theorem w_main_v130 : W V main_v130 = shapeCast _ (W V main_v129 : (main_v129 : Ref sig .tc).ty.Contents (Elt F)) shapeCasts_S2x32x8_S1x2x32x8 := eqR V 176 main_v129 main_v130 rfl shapeCasts_S2x32x8_S1x2x32x8 _ _ rfl (by decide) (by decide)

set_option maxRecDepth 32000 in
theorem w_main_v131 : W V main_v131 = (Host.absf : (⟨S1x2x32x8, .f32⟩ : BufTy).Contents (Elt F) → (⟨S1x2x32x8, .f32⟩ : BufTy).Contents (Elt F)) (W V main_v130) :=
  eq1 V 177 main_v130 main_v131 (Host.absf : (⟨S1x2x32x8, .f32⟩ : BufTy).Contents (Elt F) → (⟨S1x2x32x8, .f32⟩ : BufTy).Contents (Elt F)) _ _ rfl (by decide) (by decide)

set_option maxRecDepth 32000 in
theorem w_main_cst_37 : W V main_cst_37 = (constant S_ .f32 0x00000000#32) :=
  eq0 V 178 main_cst_37 (constant S_ .f32 0x00000000#32) _ rfl (by decide)

set_option maxRecDepth 32000 in
theorem w_main_v132 : W V main_v132 = ((fun x v => Host.reduceAdd x v reducesTo_S1x2x32x8_S1x2x32_d3 h_S_) : (⟨S1x2x32x8, .f32⟩ : BufTy).Contents (Elt F) → (⟨S_, .f32⟩ : BufTy).Contents (Elt F) → (⟨S1x2x32, .f32⟩ : BufTy).Contents (Elt F)) (W V main_v131) (W V main_cst_37) :=
  eq2 V 179 main_v131 main_cst_37 main_v132 ((fun x v => Host.reduceAdd x v reducesTo_S1x2x32x8_S1x2x32_d3 h_S_) : (⟨S1x2x32x8, .f32⟩ : BufTy).Contents (Elt F) → (⟨S_, .f32⟩ : BufTy).Contents (Elt F) → (⟨S1x2x32, .f32⟩ : BufTy).Contents (Elt F)) _ _ _ rfl (by decide) (by decide) (by decide)

set_option maxRecDepth 32000 in
theorem w_main_v133 : W V main_v133 = (broadcastInDim S1x2x32x1 ![0, 1, 2] bcast_S1x2x32_S1x2x32x1_0_1_2 : (⟨S1x2x32, .f32⟩ : BufTy).Contents (Elt F) → (⟨S1x2x32x1, .f32⟩ : BufTy).Contents (Elt F)) (W V main_v132) :=
  eq1 V 180 main_v132 main_v133 (broadcastInDim S1x2x32x1 ![0, 1, 2] bcast_S1x2x32_S1x2x32x1_0_1_2 : (⟨S1x2x32, .f32⟩ : BufTy).Contents (Elt F) → (⟨S1x2x32x1, .f32⟩ : BufTy).Contents (Elt F)) _ _ rfl (by decide) (by decide)

set_option maxRecDepth 32000 in
theorem w_main_cst_38 : W V main_cst_38 = (constant S_ .f32 0x2B8CBCCC#32) :=
  eq0 V 181 main_cst_38 (constant S_ .f32 0x2B8CBCCC#32) _ rfl (by decide)

set_option maxRecDepth 32000 in
theorem w_main_v134 : W V main_v134 = (broadcastInDim S1x2x32x1 ![] bcast_S_S1x2x32x1 : (⟨S_, .f32⟩ : BufTy).Contents (Elt F) → (⟨S1x2x32x1, .f32⟩ : BufTy).Contents (Elt F)) (W V main_cst_38) :=
  eq1 V 182 main_cst_38 main_v134 (broadcastInDim S1x2x32x1 ![] bcast_S_S1x2x32x1 : (⟨S_, .f32⟩ : BufTy).Contents (Elt F) → (⟨S1x2x32x1, .f32⟩ : BufTy).Contents (Elt F)) _ _ rfl (by decide) (by decide)

set_option maxRecDepth 32000 in
theorem w_main_v135 : W V main_v135 = (maximumf : (⟨S1x2x32x1, .f32⟩ : BufTy).Contents (Elt F) → (⟨S1x2x32x1, .f32⟩ : BufTy).Contents (Elt F) → (⟨S1x2x32x1, .f32⟩ : BufTy).Contents (Elt F)) (W V main_v133) (W V main_v134) :=
  eq2 V 183 main_v133 main_v134 main_v135 (maximumf : (⟨S1x2x32x1, .f32⟩ : BufTy).Contents (Elt F) → (⟨S1x2x32x1, .f32⟩ : BufTy).Contents (Elt F) → (⟨S1x2x32x1, .f32⟩ : BufTy).Contents (Elt F)) _ _ _ rfl (by decide) (by decide) (by decide)

set_option maxRecDepth 32000 in
theorem w_main_v136 : W V main_v136 = (broadcastInDim S1x2x32x8 ![0, 1, 2, 3] bcast_S1x2x32x1_S1x2x32x8_0_1_2_3 : (⟨S1x2x32x1, .f32⟩ : BufTy).Contents (Elt F) → (⟨S1x2x32x8, .f32⟩ : BufTy).Contents (Elt F)) (W V main_v135) :=
  eq1 V 184 main_v135 main_v136 (broadcastInDim S1x2x32x8 ![0, 1, 2, 3] bcast_S1x2x32x1_S1x2x32x8_0_1_2_3 : (⟨S1x2x32x1, .f32⟩ : BufTy).Contents (Elt F) → (⟨S1x2x32x8, .f32⟩ : BufTy).Contents (Elt F)) _ _ rfl (by decide) (by decide)

set_option maxRecDepth 32000 in
theorem w_main_v137 : W V main_v137 = (Host.divf : (⟨S1x2x32x8, .f32⟩ : BufTy).Contents (Elt F) → (⟨S1x2x32x8, .f32⟩ : BufTy).Contents (Elt F) → (⟨S1x2x32x8, .f32⟩ : BufTy).Contents (Elt F)) (W V main_v130) (W V main_v136) :=
  eq2 V 185 main_v130 main_v136 main_v137 (Host.divf : (⟨S1x2x32x8, .f32⟩ : BufTy).Contents (Elt F) → (⟨S1x2x32x8, .f32⟩ : BufTy).Contents (Elt F) → (⟨S1x2x32x8, .f32⟩ : BufTy).Contents (Elt F)) _ _ _ rfl (by decide) (by decide) (by decide)

set_option maxRecDepth 32000 in
theorem w_main_v138 : W V main_v138 = ((transpose S1x2x8x32 [0, 1, 3, 2] · transposes_S1x2x32x8_S1x2x8x32_0_1_3_2) : (⟨S1x2x32x8, .f32⟩ : BufTy).Contents (Elt F) → (⟨S1x2x8x32, .f32⟩ : BufTy).Contents (Elt F)) (W V main_v137) :=
  eq1 V 186 main_v137 main_v138 ((transpose S1x2x8x32 [0, 1, 3, 2] · transposes_S1x2x32x8_S1x2x8x32_0_1_3_2) : (⟨S1x2x32x8, .f32⟩ : BufTy).Contents (Elt F) → (⟨S1x2x8x32, .f32⟩ : BufTy).Contents (Elt F)) _ _ rfl (by decide) (by decide)

set_option maxRecDepth 32000 in
theorem w_main_v139 : W V main_v139 = ((fun l r => Host.dotGeneral dot_S1x2x8x32_S1x2x32x3x224x224_S1x2x8x3x224x224_3_2_2_345_01_01 none l r) : (⟨S1x2x8x32, .f32⟩ : BufTy).Contents (Elt F) → (⟨S1x2x32x3x224x224, .f32⟩ : BufTy).Contents (Elt F) → (⟨S1x2x8x3x224x224, .f32⟩ : BufTy).Contents (Elt F)) (W V main_v138) (W V main_arg0) :=
  eq2 V 187 main_v138 main_arg0 main_v139 ((fun l r => Host.dotGeneral dot_S1x2x8x32_S1x2x32x3x224x224_S1x2x8x3x224x224_3_2_2_345_01_01 none l r) : (⟨S1x2x8x32, .f32⟩ : BufTy).Contents (Elt F) → (⟨S1x2x32x3x224x224, .f32⟩ : BufTy).Contents (Elt F) → (⟨S1x2x8x3x224x224, .f32⟩ : BufTy).Contents (Elt F)) _ _ _ rfl (by decide) (by decide) (by decide)

set_option maxRecDepth 32000 in
theorem w_main_call1_v0 : W V main_call1_v0 = ((iotaInDim S1x2x8x32 32 3) : (⟨S1x2x8x32, .i32⟩ : BufTy).Contents (Elt F)) :=
  eq0 V 188 main_call1_v0 ((iotaInDim S1x2x8x32 32 3) : (⟨S1x2x8x32, .i32⟩ : BufTy).Contents (Elt F)) _ rfl (by decide)

set_option maxRecDepth 32000 in
theorem w_main_call1_cst : W V main_call1_cst = ((constant S_ .f32 0xFF800000#32) : (⟨S_, .f32⟩ : BufTy).Contents (Elt F)) :=
  eq0 V 189 main_call1_cst ((constant S_ .f32 0xFF800000#32) : (⟨S_, .f32⟩ : BufTy).Contents (Elt F)) _ rfl (by decide)

set_option maxRecDepth 32000 in
theorem w_main_call1_c : W V main_call1_c = ((constantI S_ 32 0#32) : (⟨S_, .i32⟩ : BufTy).Contents (Elt F)) :=
  eq0 V 190 main_call1_c ((constantI S_ 32 0#32) : (⟨S_, .i32⟩ : BufTy).Contents (Elt F)) _ rfl (by decide)

set_option maxRecDepth 32000 in
theorem w_main_v140 : W V main_v140 = ((fun x y u v j => (Host.argReduce reducer_argmax_f32_i32 x y u v reducesTo_S1x2x8x32_S1x2x8_d3 h_S_ j).2) : (⟨S1x2x8x32, .f32⟩ : BufTy).Contents (Elt F) → (⟨S1x2x8x32, .i32⟩ : BufTy).Contents (Elt F) → (⟨S_, .f32⟩ : BufTy).Contents (Elt F) → (⟨S_, .i32⟩ : BufTy).Contents (Elt F) → (⟨S1x2x8, .i32⟩ : BufTy).Contents (Elt F)) (W V main_v138) (W V main_call1_v0) (W V main_call1_cst) (W V main_call1_c) :=
  eq4 V 192 main_v138 main_call1_v0 main_call1_cst main_call1_c main_v140 ((fun x y u v j => (Host.argReduce reducer_argmax_f32_i32 x y u v reducesTo_S1x2x8x32_S1x2x8_d3 h_S_ j).2) : (⟨S1x2x8x32, .f32⟩ : BufTy).Contents (Elt F) → (⟨S1x2x8x32, .i32⟩ : BufTy).Contents (Elt F) → (⟨S_, .f32⟩ : BufTy).Contents (Elt F) → (⟨S_, .i32⟩ : BufTy).Contents (Elt F) → (⟨S1x2x8, .i32⟩ : BufTy).Contents (Elt F)) _ _ _ _ _ rfl (by decide) (by decide) (by decide) (by decide) (by decide)

set_option maxRecDepth 32000 in
theorem w_main_v141 : W V main_v141 = (broadcastInDim S1x2x8x1x1x1 ![0, 1, 2] bcast_S1x2x8_S1x2x8x1x1x1_0_1_2 : (⟨S1x2x8, .i32⟩ : BufTy).Contents (Elt F) → (⟨S1x2x8x1x1x1, .i32⟩ : BufTy).Contents (Elt F)) (W V main_v140) :=
  eq1 V 193 main_v140 main_v141 (broadcastInDim S1x2x8x1x1x1 ![0, 1, 2] bcast_S1x2x8_S1x2x8x1x1x1_0_1_2 : (⟨S1x2x8, .i32⟩ : BufTy).Contents (Elt F) → (⟨S1x2x8x1x1x1, .i32⟩ : BufTy).Contents (Elt F)) _ _ rfl (by decide) (by decide)

set_option maxRecDepth 32000 in
theorem w_main_v142 : W V main_v142 = (broadcastInDim S1x2x8x3x224x224 ![0, 1, 2, 3, 4, 5] bcast_S1x2x8x1x1x1_S1x2x8x3x224x224_0_1_2_3_4_5 : (⟨S1x2x8x1x1x1, .i32⟩ : BufTy).Contents (Elt F) → (⟨S1x2x8x3x224x224, .i32⟩ : BufTy).Contents (Elt F)) (W V main_v141) :=
  eq1 V 194 main_v141 main_v142 (broadcastInDim S1x2x8x3x224x224 ![0, 1, 2, 3, 4, 5] bcast_S1x2x8x1x1x1_S1x2x8x3x224x224_0_1_2_3_4_5 : (⟨S1x2x8x1x1x1, .i32⟩ : BufTy).Contents (Elt F) → (⟨S1x2x8x3x224x224, .i32⟩ : BufTy).Contents (Elt F)) _ _ rfl (by decide) (by decide)

set_option maxRecDepth 32000 in
theorem w_main_call2_c : W V main_call2_c = ((constantI S_ 32 0#32) : (⟨S_, .i32⟩ : BufTy).Contents (Elt F)) :=
  eq0 V 195 main_call2_c ((constantI S_ 32 0#32) : (⟨S_, .i32⟩ : BufTy).Contents (Elt F)) _ rfl (by decide)

set_option maxRecDepth 32000 in
theorem w_main_call2_v0 : W V main_call2_v0 = ((broadcastInDim S1x2x8x3x224x224 ![] bcast_S_S1x2x8x3x224x224) : (⟨S_, .i32⟩ : BufTy).Contents (Elt F) → (⟨S1x2x8x3x224x224, .i32⟩ : BufTy).Contents (Elt F)) (W V main_call2_c) :=
  eq1 V 196 main_call2_c main_call2_v0 ((broadcastInDim S1x2x8x3x224x224 ![] bcast_S_S1x2x8x3x224x224) : (⟨S_, .i32⟩ : BufTy).Contents (Elt F) → (⟨S1x2x8x3x224x224, .i32⟩ : BufTy).Contents (Elt F)) _ _ rfl (by decide) (by decide)

set_option maxRecDepth 32000 in
theorem w_main_call2_v1 : W V main_call2_v1 = ((cmpi .slt) : (⟨S1x2x8x3x224x224, .i32⟩ : BufTy).Contents (Elt F) → (⟨S1x2x8x3x224x224, .i32⟩ : BufTy).Contents (Elt F) → (⟨S1x2x8x3x224x224, .i1⟩ : BufTy).Contents (Elt F)) (W V main_v142) (W V main_call2_v0) :=
  eq2 V 197 main_v142 main_call2_v0 main_call2_v1 ((cmpi .slt) : (⟨S1x2x8x3x224x224, .i32⟩ : BufTy).Contents (Elt F) → (⟨S1x2x8x3x224x224, .i32⟩ : BufTy).Contents (Elt F) → (⟨S1x2x8x3x224x224, .i1⟩ : BufTy).Contents (Elt F)) _ _ _ rfl (by decide) (by decide) (by decide)

set_option maxRecDepth 32000 in
theorem w_main_call2_c_0 : W V main_call2_c_0 = ((constantI S_ 32 32#32) : (⟨S_, .i32⟩ : BufTy).Contents (Elt F)) :=
  eq0 V 198 main_call2_c_0 ((constantI S_ 32 32#32) : (⟨S_, .i32⟩ : BufTy).Contents (Elt F)) _ rfl (by decide)

set_option maxRecDepth 32000 in
theorem w_main_call2_v2 : W V main_call2_v2 = ((broadcastInDim S1x2x8x3x224x224 ![] bcast_S_S1x2x8x3x224x224) : (⟨S_, .i32⟩ : BufTy).Contents (Elt F) → (⟨S1x2x8x3x224x224, .i32⟩ : BufTy).Contents (Elt F)) (W V main_call2_c_0) :=
  eq1 V 199 main_call2_c_0 main_call2_v2 ((broadcastInDim S1x2x8x3x224x224 ![] bcast_S_S1x2x8x3x224x224) : (⟨S_, .i32⟩ : BufTy).Contents (Elt F) → (⟨S1x2x8x3x224x224, .i32⟩ : BufTy).Contents (Elt F)) _ _ rfl (by decide) (by decide)

set_option maxRecDepth 32000 in
theorem w_main_call2_v3 : W V main_call2_v3 = (addi : (⟨S1x2x8x3x224x224, .i32⟩ : BufTy).Contents (Elt F) → (⟨S1x2x8x3x224x224, .i32⟩ : BufTy).Contents (Elt F) → (⟨S1x2x8x3x224x224, .i32⟩ : BufTy).Contents (Elt F)) (W V main_v142) (W V main_call2_v2) :=
  eq2 V 200 main_v142 main_call2_v2 main_call2_v3 (addi : (⟨S1x2x8x3x224x224, .i32⟩ : BufTy).Contents (Elt F) → (⟨S1x2x8x3x224x224, .i32⟩ : BufTy).Contents (Elt F) → (⟨S1x2x8x3x224x224, .i32⟩ : BufTy).Contents (Elt F)) _ _ _ rfl (by decide) (by decide) (by decide)

set_option maxRecDepth 32000 in
theorem w_main_call2_v4 : W V main_call2_v4 = (select : (⟨S1x2x8x3x224x224, .i1⟩ : BufTy).Contents (Elt F) → (⟨S1x2x8x3x224x224, .i32⟩ : BufTy).Contents (Elt F) → (⟨S1x2x8x3x224x224, .i32⟩ : BufTy).Contents (Elt F) → (⟨S1x2x8x3x224x224, .i32⟩ : BufTy).Contents (Elt F)) (W V main_call2_v1) (W V main_call2_v3) (W V main_v142) :=
  eq3 V 201 main_call2_v1 main_call2_v3 main_v142 main_call2_v4 (select : (⟨S1x2x8x3x224x224, .i1⟩ : BufTy).Contents (Elt F) → (⟨S1x2x8x3x224x224, .i32⟩ : BufTy).Contents (Elt F) → (⟨S1x2x8x3x224x224, .i32⟩ : BufTy).Contents (Elt F) → (⟨S1x2x8x3x224x224, .i32⟩ : BufTy).Contents (Elt F)) _ _ _ _ rfl (by decide) (by decide) (by decide) (by decide)

set_option maxRecDepth 32000 in
theorem w_main_call2_v5 : W V main_call2_v5 = shapeCast _ (W V main_call2_v4 : (main_call2_v4 : Ref sig .tc).ty.Contents (Elt F)) shapeCasts_S1x2x8x3x224x224_S2x8x3x224x224x1 := eqR V 202 main_call2_v4 main_call2_v5 rfl shapeCasts_S1x2x8x3x224x224_S2x8x3x224x224x1 _ _ rfl (by decide) (by decide)

set_option maxRecDepth 32000 in
theorem w_main_call2_c_1 : W V main_call2_c_1 = ((constantI S1 32 31#32) : (⟨S1, .i32⟩ : BufTy).Contents (Elt F)) :=
  eq0 V 203 main_call2_c_1 ((constantI S1 32 31#32) : (⟨S1, .i32⟩ : BufTy).Contents (Elt F)) _ rfl (by decide)

set_option maxRecDepth 32000 in
theorem w_main_call2_c_2 : W V main_call2_c_2 = ((constantI S_ 32 0#32) : (⟨S_, .i32⟩ : BufTy).Contents (Elt F)) :=
  eq0 V 204 main_call2_c_2 ((constantI S_ 32 0#32) : (⟨S_, .i32⟩ : BufTy).Contents (Elt F)) _ rfl (by decide)

set_option maxRecDepth 32000 in
theorem w_main_call2_v6 : W V main_call2_v6 = ((broadcastInDim S2x8x3x224x224x1 ![] bcast_S_S2x8x3x224x224x1) : (⟨S_, .i32⟩ : BufTy).Contents (Elt F) → (⟨S2x8x3x224x224x1, .i32⟩ : BufTy).Contents (Elt F)) (W V main_call2_c_2) :=
  eq1 V 205 main_call2_c_2 main_call2_v6 ((broadcastInDim S2x8x3x224x224x1 ![] bcast_S_S2x8x3x224x224x1) : (⟨S_, .i32⟩ : BufTy).Contents (Elt F) → (⟨S2x8x3x224x224x1, .i32⟩ : BufTy).Contents (Elt F)) _ _ rfl (by decide) (by decide)

set_option maxRecDepth 32000 in
theorem w_main_call2_v7 : W V main_call2_v7 = ((cmpi .sge) : (⟨S2x8x3x224x224x1, .i32⟩ : BufTy).Contents (Elt F) → (⟨S2x8x3x224x224x1, .i32⟩ : BufTy).Contents (Elt F) → (⟨S2x8x3x224x224x1, .i1⟩ : BufTy).Contents (Elt F)) (W V main_call2_v5) (W V main_call2_v6) :=
  eq2 V 206 main_call2_v5 main_call2_v6 main_call2_v7 ((cmpi .sge) : (⟨S2x8x3x224x224x1, .i32⟩ : BufTy).Contents (Elt F) → (⟨S2x8x3x224x224x1, .i32⟩ : BufTy).Contents (Elt F) → (⟨S2x8x3x224x224x1, .i1⟩ : BufTy).Contents (Elt F)) _ _ _ rfl (by decide) (by decide) (by decide)

set_option maxRecDepth 32000 in
theorem w_main_call2_v8 : W V main_call2_v8 = ((broadcastInDim S1x1x1x1x1x1 ![5] bcast_S1_S1x1x1x1x1x1_5) : (⟨S1, .i32⟩ : BufTy).Contents (Elt F) → (⟨S1x1x1x1x1x1, .i32⟩ : BufTy).Contents (Elt F)) (W V main_call2_c_1) :=
  eq1 V 207 main_call2_c_1 main_call2_v8 ((broadcastInDim S1x1x1x1x1x1 ![5] bcast_S1_S1x1x1x1x1x1_5) : (⟨S1, .i32⟩ : BufTy).Contents (Elt F) → (⟨S1x1x1x1x1x1, .i32⟩ : BufTy).Contents (Elt F)) _ _ rfl (by decide) (by decide)

set_option maxRecDepth 32000 in
theorem w_main_call2_v9 : W V main_call2_v9 = ((broadcastInDim S2x8x3x224x224x1 ![0, 1, 2, 3, 4, 5] bcast_S1x1x1x1x1x1_S2x8x3x224x224x1_0_1_2_3_4_5) : (⟨S1x1x1x1x1x1, .i32⟩ : BufTy).Contents (Elt F) → (⟨S2x8x3x224x224x1, .i32⟩ : BufTy).Contents (Elt F)) (W V main_call2_v8) :=
  eq1 V 208 main_call2_v8 main_call2_v9 ((broadcastInDim S2x8x3x224x224x1 ![0, 1, 2, 3, 4, 5] bcast_S1x1x1x1x1x1_S2x8x3x224x224x1_0_1_2_3_4_5) : (⟨S1x1x1x1x1x1, .i32⟩ : BufTy).Contents (Elt F) → (⟨S2x8x3x224x224x1, .i32⟩ : BufTy).Contents (Elt F)) _ _ rfl (by decide) (by decide)

set_option maxRecDepth 32000 in
theorem w_main_call2_v10 : W V main_call2_v10 = ((cmpi .sle) : (⟨S2x8x3x224x224x1, .i32⟩ : BufTy).Contents (Elt F) → (⟨S2x8x3x224x224x1, .i32⟩ : BufTy).Contents (Elt F) → (⟨S2x8x3x224x224x1, .i1⟩ : BufTy).Contents (Elt F)) (W V main_call2_v5) (W V main_call2_v9) :=
  eq2 V 209 main_call2_v5 main_call2_v9 main_call2_v10 ((cmpi .sle) : (⟨S2x8x3x224x224x1, .i32⟩ : BufTy).Contents (Elt F) → (⟨S2x8x3x224x224x1, .i32⟩ : BufTy).Contents (Elt F) → (⟨S2x8x3x224x224x1, .i1⟩ : BufTy).Contents (Elt F)) _ _ _ rfl (by decide) (by decide) (by decide)

set_option maxRecDepth 32000 in
theorem w_main_call2_v11 : W V main_call2_v11 = (andi : (⟨S2x8x3x224x224x1, .i1⟩ : BufTy).Contents (Elt F) → (⟨S2x8x3x224x224x1, .i1⟩ : BufTy).Contents (Elt F) → (⟨S2x8x3x224x224x1, .i1⟩ : BufTy).Contents (Elt F)) (W V main_call2_v7) (W V main_call2_v10) :=
  eq2 V 210 main_call2_v7 main_call2_v10 main_call2_v11 (andi : (⟨S2x8x3x224x224x1, .i1⟩ : BufTy).Contents (Elt F) → (⟨S2x8x3x224x224x1, .i1⟩ : BufTy).Contents (Elt F) → (⟨S2x8x3x224x224x1, .i1⟩ : BufTy).Contents (Elt F)) _ _ _ rfl (by decide) (by decide) (by decide)

set_option maxRecDepth 32000 in
theorem w_main_call2_c_3 : W V main_call2_c_3 = ((constantI S_ 1 1#1) : (⟨S_, .i1⟩ : BufTy).Contents (Elt F)) :=
  eq0 V 211 main_call2_c_3 ((constantI S_ 1 1#1) : (⟨S_, .i1⟩ : BufTy).Contents (Elt F)) _ rfl (by decide)

set_option maxRecDepth 32000 in
theorem w_main_call2_v12 : W V main_call2_v12 = Host.reduce IntOp.andi (W V main_call2_v11) (W V main_call2_c_3) reducesTo_S2x8x3x224x224x1_S2x8x3x224x224_d5 h_S_ := by
  have hop : ∀ f, f = ((fun x v => Host.reduce IntOp.andi x v reducesTo_S2x8x3x224x224x1_S2x8x3x224x224_d5 h_S_) : (⟨S2x8x3x224x224x1, .i1⟩ : BufTy).Contents (Elt F) → (⟨S_, .i1⟩ : BufTy).Contents (Elt F) → (⟨S2x8x3x224x224, .i1⟩ : BufTy).Contents (Elt F)) → (ops : List (HloOp τ sig (Elt F)))[212]? = some (TRef.binary (TRef.of (T := ⟨S2x8x3x224x224x1, .i1⟩) main_call2_v11) (TRef.of (T := ⟨S_, .i1⟩) main_call2_c_3) (TRef.of (T := ⟨S2x8x3x224x224, .i1⟩) main_call2_v12) f) := by
    intro f hf; subst hf; rfl
  have key : ∀ f, f = ((fun x v => Host.reduce IntOp.andi x v reducesTo_S2x8x3x224x224x1_S2x8x3x224x224_d5 h_S_) : (⟨S2x8x3x224x224x1, .i1⟩ : BufTy).Contents (Elt F) → (⟨S_, .i1⟩ : BufTy).Contents (Elt F) → (⟨S2x8x3x224x224, .i1⟩ : BufTy).Contents (Elt F)) → W V main_call2_v12 = f (W V main_call2_v11) (W V main_call2_c_3) := by
    intro f hf; exact eq2 V 212 main_call2_v11 main_call2_c_3 main_call2_v12 f _ _ _ (hop f hf) (by decide) (by decide) (by decide)
  exact key _ rfl

set_option maxRecDepth 32000 in
theorem w_main_call2_v13 : W V main_call2_v13 = ((fun x i => Host.gather gather_S1x2x32x3x224x224_S2x8x3x224x224x1_S1x2x8x3x224x224_0_2_1345_0234_2_5_111111 x i) : (⟨S1x2x32x3x224x224, .f32⟩ : BufTy).Contents (Elt F) → (⟨S2x8x3x224x224x1, .i32⟩ : BufTy).Contents (Elt F) → (⟨S1x2x8x3x224x224, .f32⟩ : BufTy).Contents (Elt F)) (W V main_arg0) (W V main_call2_v5) :=
  eq2 V 213 main_arg0 main_call2_v5 main_call2_v13 ((fun x i => Host.gather gather_S1x2x32x3x224x224_S2x8x3x224x224x1_S1x2x8x3x224x224_0_2_1345_0234_2_5_111111 x i) : (⟨S1x2x32x3x224x224, .f32⟩ : BufTy).Contents (Elt F) → (⟨S2x8x3x224x224x1, .i32⟩ : BufTy).Contents (Elt F) → (⟨S1x2x8x3x224x224, .f32⟩ : BufTy).Contents (Elt F)) _ _ _ rfl (by decide) (by decide) (by decide)

set_option maxRecDepth 32000 in
theorem w_main_call2_v14 : W V main_call2_v14 = ((broadcastInDim S1x2x8x3x224x224 ![1, 2, 3, 4, 5] bcast_S2x8x3x224x224_S1x2x8x3x224x224_1_2_3_4_5) : (⟨S2x8x3x224x224, .i1⟩ : BufTy).Contents (Elt F) → (⟨S1x2x8x3x224x224, .i1⟩ : BufTy).Contents (Elt F)) (W V main_call2_v12) :=
  eq1 V 214 main_call2_v12 main_call2_v14 ((broadcastInDim S1x2x8x3x224x224 ![1, 2, 3, 4, 5] bcast_S2x8x3x224x224_S1x2x8x3x224x224_1_2_3_4_5) : (⟨S2x8x3x224x224, .i1⟩ : BufTy).Contents (Elt F) → (⟨S1x2x8x3x224x224, .i1⟩ : BufTy).Contents (Elt F)) _ _ rfl (by decide) (by decide)

set_option maxRecDepth 32000 in
theorem w_main_call2_cst : W V main_call2_cst = ((constant S_ .f32 0x7FC00000#32) : (⟨S_, .f32⟩ : BufTy).Contents (Elt F)) :=
  eq0 V 215 main_call2_cst ((constant S_ .f32 0x7FC00000#32) : (⟨S_, .f32⟩ : BufTy).Contents (Elt F)) _ rfl (by decide)

set_option maxRecDepth 32000 in
theorem w_main_call2_v15 : W V main_call2_v15 = ((broadcastInDim S1x2x8x3x224x224 ![] bcast_S_S1x2x8x3x224x224) : (⟨S_, .f32⟩ : BufTy).Contents (Elt F) → (⟨S1x2x8x3x224x224, .f32⟩ : BufTy).Contents (Elt F)) (W V main_call2_cst) :=
  eq1 V 216 main_call2_cst main_call2_v15 ((broadcastInDim S1x2x8x3x224x224 ![] bcast_S_S1x2x8x3x224x224) : (⟨S_, .f32⟩ : BufTy).Contents (Elt F) → (⟨S1x2x8x3x224x224, .f32⟩ : BufTy).Contents (Elt F)) _ _ rfl (by decide) (by decide)

set_option maxRecDepth 32000 in
theorem w_main_v143 : W V main_v143 = (select : (⟨S1x2x8x3x224x224, .i1⟩ : BufTy).Contents (Elt F) → (⟨S1x2x8x3x224x224, .f32⟩ : BufTy).Contents (Elt F) → (⟨S1x2x8x3x224x224, .f32⟩ : BufTy).Contents (Elt F) → (⟨S1x2x8x3x224x224, .f32⟩ : BufTy).Contents (Elt F)) (W V main_call2_v14) (W V main_call2_v13) (W V main_call2_v15) :=
  eq3 V 217 main_call2_v14 main_call2_v13 main_call2_v15 main_v143 (select : (⟨S1x2x8x3x224x224, .i1⟩ : BufTy).Contents (Elt F) → (⟨S1x2x8x3x224x224, .f32⟩ : BufTy).Contents (Elt F) → (⟨S1x2x8x3x224x224, .f32⟩ : BufTy).Contents (Elt F) → (⟨S1x2x8x3x224x224, .f32⟩ : BufTy).Contents (Elt F)) _ _ _ _ rfl (by decide) (by decide) (by decide) (by decide)

set_option maxRecDepth 32000 in
theorem w_main_v144 : W V main_v144 = (subf : (⟨S1x2x8x3x224x224, .f32⟩ : BufTy).Contents (Elt F) → (⟨S1x2x8x3x224x224, .f32⟩ : BufTy).Contents (Elt F) → (⟨S1x2x8x3x224x224, .f32⟩ : BufTy).Contents (Elt F)) (W V main_v139) (W V main_v139) :=
  eq2 V 218 main_v139 main_v139 main_v144 (subf : (⟨S1x2x8x3x224x224, .f32⟩ : BufTy).Contents (Elt F) → (⟨S1x2x8x3x224x224, .f32⟩ : BufTy).Contents (Elt F) → (⟨S1x2x8x3x224x224, .f32⟩ : BufTy).Contents (Elt F)) _ _ _ rfl (by decide) (by decide) (by decide)

set_option maxRecDepth 32000 in
theorem w_main_v145 : W V main_v145 = (addf : (⟨S1x2x8x3x224x224, .f32⟩ : BufTy).Contents (Elt F) → (⟨S1x2x8x3x224x224, .f32⟩ : BufTy).Contents (Elt F) → (⟨S1x2x8x3x224x224, .f32⟩ : BufTy).Contents (Elt F)) (W V main_v143) (W V main_v144) :=
  eq2 V 219 main_v143 main_v144 main_v145 (addf : (⟨S1x2x8x3x224x224, .f32⟩ : BufTy).Contents (Elt F) → (⟨S1x2x8x3x224x224, .f32⟩ : BufTy).Contents (Elt F) → (⟨S1x2x8x3x224x224, .f32⟩ : BufTy).Contents (Elt F)) _ _ _ rfl (by decide) (by decide) (by decide)

end Cert.ReferenceIdeal.Hand

end
-- ==== Proof.RI.Scores.lean ====
module

public import proofs.«01_k».proof.Proof.RI.EqsA
public import proofs.«01_k».proof.Proof.RI.EqsB
public import proofs.«01_k».proof.Proof.RI.EqsC
public import proofs.«01_k».proof.Proof.RI.EqsD
public import proofs.«01_k».proof.Proof.Spec
public import Idealize.ShloMosaic.Lib.Pointwise

@[expose] public section

set_option Elab.async false
noncomputable section

namespace Cert.ReferenceIdeal.Hand

open Cert.ReferenceIdeal Cert.ReferenceIdeal.Gen Cert.Scores
open Idealize.ShloMosaic Idealize.ShloMosaic.TcCoe Idealize.SL.Sem Idealize.ShloMosaic.StableHlo
variable (V : Valuation τ sig (Elt Ideal))

/-- The frames probed. -/
def probe (p : Fin 4) : Fin 32 := knot p

theorem probe_val : ∀ p : Fin 4, (lit0 p).toInt.toNat ⊓ 31 = (probe p).val := by decide

theorem v3_at (p : Fin 4) : W V main_v3 (ix2 p 0) = lit0 p := by
  rw [w_main_v3, w_main_v2, w_main_v1, w_main_v0, w_main_c_0, w_main_c]
  pointwise
  fin_cases p <;> rfl

theorem v4_at (v : Fin 2) (p : Fin 4) (ch : Fin 3) (x y : Fin 224) :
    W V main_v4 (ix6 0 v p ch x y) = W V main_arg0 (ix6 0 v (probe p) ch x y) := by
  rw [w_main_v4]
  show Host.gather _ _ _ _ = _
  unfold Host.gather
  refine congrArg (W V main_arg0) ?_
  funext a
  apply Fin.ext
  show GatherDims.start _ _ _ a + GatherDims.batchCoord _ _ a + GatherDims.offCoord _ _ a = _
  fin_cases a
  · rfl
  · show 0 + 0 + v.val = v.val
    omega
  · show min (W V main_v3 (GatherDims.siIdx _ _ ⟨0, _⟩)).toInt.toNat (32 - 1) + 0 + 0 = (probe p).val
    have hsi : GatherDims.siIdx gather_S1x2x32x3x224x224_S4x1_S1x2x4x3x224x224_01345_2_n_n_2_1_1213224224 (ix6 0 v p ch x y) ⟨0, by decide⟩ = ix2 p 0 := by
      funext b
      apply Fin.ext
      fin_cases b <;> rfl
    rw [hsi, v3_at]
    exact probe_val p
  · show 0 + 0 + ch.val = ch.val
    omega
  · show 0 + 0 + x.val = x.val
    omega
  · show 0 + 0 + y.val = y.val
    omega

/-- The videos. -/
def vid (i : S1x2x32x3x224x224.Idx) : EReal := W V main_arg0 i

/-- The pooled frames. -/
def pooledR (r : Fin 8) (c : Fin 3) : EReal := W V main_v8 (ix2 r c)

theorem v8_at (r : Fin 8) (ch : Fin 3) :
    pooledR V r ch = (∑ x : Fin 224, ∑ y : Fin 224, vid V (ix6 0 ⟨r.val / 4, by omega⟩ (probe ⟨r.val % 4, by omega⟩) ch x y)) * ((1 / 50176 : ℝ) : EReal) := by
  unfold pooledR
  rw [w_main_v8, w_main_v6, w_main_v5, w_main_cst, w_main_v7, w_main_cst_16]
  pointwise
  rw [lit50176, Ideal.div_coe (by norm_num)]
  simp only [v4_at]
  rfl

def logitR (v : Fin 2) (p : Fin 4) : EReal := W V main_v25 (ix3 v 0 p)

theorem v25_at (v : Fin 2) (p : Fin 4) :
    logitR V v p = logit (key (pooledR V) (fun c x => W V main_arg6 (ix2 c x)) (fun x => W V main_arg7 (ix1 x)) (fun x e => W V main_arg4 (ix2 x e)) (fun e => W V main_arg5 (ix1 e)))
    (qry (fun x => W V main_arg1 (ix3 0 0 x)) (fun x e => W V main_arg2 (ix2 x e)) (fun e => W V main_arg3 (ix1 e))) v p := by
  have h20 : ∀ e, W V main_v20 (ix3 v p e) = key (pooledR V) (fun c x => W V main_arg6 (ix2 c x)) (fun x => W V main_arg7 (ix1 x)) (fun x e => W V main_arg4 (ix2 x e)) (fun e => W V main_arg5 (ix1 e)) ⟨v.val * 4 + p.val, by omega⟩ e := by
    intro e
    rw [w_main_v20, w_main_v19, w_main_v18, w_main_v17, w_main_v13, w_main_v12, w_main_v11, w_main_v10, w_main_v9]
    pointwise
    rfl
  unfold logitR
  rw [w_main_v25, w_main_v24, w_main_cst_18, w_main_v23, w_main_v22, w_main_v21, w_main_cst_17, w_main_v16, w_main_v15, w_main_v14]
  pointwise
  simp only [h20, Fin.sum_univ_one]
  rfl

def softR (v : Fin 2) (p : Fin 4) : EReal := W V main_v38 (ix3 0 v p)

theorem v38_at (v : Fin 2) (p : Fin 4) : softR V v p = soft (logitR V v) p := by
  unfold softR
  rw [w_main_v38, w_main_v37, w_main_v36, w_main_cst_22, w_main_v35, w_main_v34, w_main_v33, w_main_v32, w_main_cst_21, w_main_v31, w_main_v30, w_main_v29, w_main_v28, w_main_v27, w_main_cst_20, w_main_v26, w_main_cst_19]
  pointwise
  rw [litBot, max_eq_right bot_le]
  simp only [Fin.sum_univ_one]
  rw [← litBot]
  rfl

theorem lit1_val : ∀ k : Fin 3, (lit1 (S3.rowMajor (ix1 k))).toInt = if k.val < 2 then 10 else 11 := by decide
theorem lit2_val : ∀ k x : Fin 2, (lit2 (S2x2.rowMajor (ix2 k x))).toInt = if k.val = 0 then (if x.val = 0 then 42 else -10) else (if x.val = 0 then -10 else 40) := by decide

theorem v45_at (v : Fin 2) (k : Fin 3) : W V main_v45 (ix3 0 v k) = dy (softR V v) k := by
  rw [w_main_v45, w_main_v44, w_main_v43, w_main_v42, w_main_v41, w_main_v40, w_main_v39, w_main_c_1]
  pointwise
  unfold dy
  refine congrArg₂ Ideal.div ?_ ?_
  · refine congrArg₂ (fun a b : EReal => a - b) (congrArg (fun i => (W V main_v38 (ix3 0 v i) : EReal)) (Fin.ext ?_)) rfl
    show 1 + k.val = k.val + 1
    omega
  · show (((lit1 (S3.rowMajor (ix1 k))).toInt : ℝ) : EReal) = _
    rw [lit1_val]
    unfold wd
    split <;> simp

def d45 (v : Fin 2) (k : Fin 3) : EReal := W V main_v45 (ix3 0 v k)

theorem v55_at (v : Fin 2) (k : Fin 2) : W V main_v55 (ix3 0 v k) = mom (softR V v) k.succ.castSucc := by
  have hr : ∀ x : Fin 2, Ideal.ofBits FTy.f32 1086324736#32 * (d45 V v ⟨1 + x.val, by omega⟩ - d45 V v ⟨x.val, by omega⟩) = rhs (softR V v) x := by
    intro x
    rw [Cert.Scores.lit6, show d45 V v = dy (softR V v) from funext (v45_at V v)]
    unfold rhs
    refine congrArg (fun a : EReal => ((6 : ℝ) : EReal) * a) (congrArg₂ (fun a b : EReal => a - b) (congrArg (dy (softR V v)) (Fin.ext ?_)) rfl)
    show 1 + x.val = x.val + 1
    omega
  have hc : ∀ (n : ℤ) (b : BitVec 32), b.toInt = n → Ideal.div (FloatOps.sitofp (F := Ideal) FTy.f32 b) ((1580 : ℝ) : EReal) = ((n / 1580 : ℝ) : EReal) := by
    intro n b hb
    rw [Ideal.div_coe (by norm_num)]
    show ((b.toInt : ℝ) : EReal) * _ = _
    rw [hb, ← EReal.coe_mul]
    congr 1
    ring
  rw [w_main_v55, w_main_v54, w_main_v53, w_main_v52, w_main_cst_24, w_main_v51, w_main_c_2, w_main_v50, w_main_v49, w_main_cst_23, w_main_v48, w_main_v47, w_main_v46]
  pointwise
  refine (Finset.sum_congr rfl fun x _ => congrArg₂ (fun a b : EReal => a * b) (hr x) rfl).trans ?_
  rw [Fin.sum_univ_two, lit1580, hc _ _ (lit2_val k 0), hc _ _ (lit2_val k 1)]
  fin_cases k
  · show rhs (softR V v) 0 * (((42 : ℤ) / 1580 : ℝ) : EReal) + rhs (softR V v) 1 * (((-10 : ℤ) / 1580 : ℝ) : EReal) = rhs (softR V v) 0 * ((21 / 790 : ℝ) : EReal) + rhs (softR V v) 1 * ((-1 / 158 : ℝ) : EReal)
    rw [show (((42 : ℤ) : ℝ) / 1580 : ℝ) = 21 / 790 by norm_num, show (((-10 : ℤ) : ℝ) / 1580 : ℝ) = -1 / 158 by norm_num]
  · show rhs (softR V v) 0 * (((-10 : ℤ) / 1580 : ℝ) : EReal) + rhs (softR V v) 1 * (((40 : ℤ) / 1580 : ℝ) : EReal) = rhs (softR V v) 0 * ((-1 / 158 : ℝ) : EReal) + rhs (softR V v) 1 * ((2 / 79 : ℝ) : EReal)
    rw [show (((40 : ℤ) : ℝ) / 1580 : ℝ) = 2 / 79 by norm_num, show (((-10 : ℤ) : ℝ) / 1580 : ℝ) = -1 / 158 by norm_num]

theorem v57_at (v : Fin 2) (k : Fin 4) : W V main_v57 (ix3 0 v k) = mom (softR V v) k := by
  rw [w_main_v57, w_main_v56, w_main_cst_25]
  pointwise [fn_main_v57]
  fin_cases k
  · rfl
  · exact v55_at V v 0
  · exact v55_at V v 1
  · rfl

/-- A gather of knots reads the knot its index names. -/
theorem gather4 (x : S1x2x4.Idx → EReal) (i : IVec S32x1 32) (v : Fin 2) (t : Fin 32) (k : Fin 4) (h : min (i (ix2 t 0)).toInt.toNat 3 = k.val) :
    Host.gather gather_S1x2x4_S32x1_S1x2x32_01_2_n_n_2_1_121 x i (ix3 0 v t) = x (ix3 0 v k) := by
  unfold Host.gather
  refine congrArg x ?_
  funext a
  apply Fin.ext
  show GatherDims.start _ _ _ a + GatherDims.batchCoord _ _ a + GatherDims.offCoord _ _ a = _
  fin_cases a
  · rfl
  · show 0 + 0 + v.val = v.val
    omega
  · show min (i (GatherDims.siIdx _ _ ⟨0, _⟩)).toInt.toNat (4 - 1) + 0 + 0 = k.val
    have hsi : GatherDims.siIdx gather_S1x2x4_S32x1_S1x2x32_01_2_n_n_2_1_121 (ix3 0 v t) ⟨0, by decide⟩ = ix2 t 0 := by
      funext b
      apply Fin.ext
      fin_cases b <;> rfl
    rw [hsi]
    exact h

/-- The same of the intervals. -/
theorem gather3 (x : S1x2x3.Idx → EReal) (i : IVec S32x1 32) (v : Fin 2) (t : Fin 32) (k : Fin 3) (h : min (i (ix2 t 0)).toInt.toNat 2 = k.val) :
    Host.gather gather_S1x2x3_S32x1_S1x2x32_01_2_n_n_2_1_121 x i (ix3 0 v t) = x (ix3 0 v k) := by
  unfold Host.gather
  refine congrArg x ?_
  funext a
  apply Fin.ext
  show GatherDims.start _ _ _ a + GatherDims.batchCoord _ _ a + GatherDims.offCoord _ _ a = _
  fin_cases a
  · rfl
  · show 0 + 0 + v.val = v.val
    omega
  · show min (i (GatherDims.siIdx _ _ ⟨0, _⟩)).toInt.toNat (3 - 1) + 0 + 0 = k.val
    have hsi : GatherDims.siIdx gather_S1x2x3_S32x1_S1x2x32_01_2_n_n_2_1_121 (ix3 0 v t) ⟨0, by decide⟩ = ix2 t 0 := by
      funext b
      apply Fin.ext
      fin_cases b <;> rfl
    rw [hsi]
    exact h

theorem lit5_4 : ∀ t : Fin 32, min (lit5 (S32.rowMajor (ix1 t))).toInt.toNat 3 = (kn t).castSucc.val := by decide
theorem lit5_3 : ∀ t : Fin 32, min (lit5 (S32.rowMajor (ix1 t))).toInt.toNat 2 = (kn t).val := by decide
theorem lit6_4 : ∀ t : Fin 32, min (lit6 (S32.rowMajor (ix1 t))).toInt.toNat 3 = (kn t).succ.val := by decide
theorem lit7_4 : ∀ t : Fin 32, min (lit7 (S32.rowMajor (ix1 t))).toInt.toNat 3 = (kn t).succ.val := by decide
theorem lit3_val : ∀ t : Fin 32, (lit3 (S32.rowMajor (ix1 t))).toInt = (t.val : ℤ) - 10 * ((kn t).val : ℤ) := by decide
theorem lit4_val : ∀ t : Fin 32, (lit4 (S32.rowMajor (ix1 t))).toInt = if (kn t).val < 2 then 10 else 11 := by decide

theorem idx63 (t : Fin 32) : W V main_v63 (ix2 t 0) = lit5 (S32.rowMajor (ix1 t)) := by
  rw [w_main_v63, w_main_v62, w_main_c_6, w_main_c_5]; pointwise
theorem idx68 (t : Fin 32) : W V main_v68 (ix2 t 0) = lit5 (S32.rowMajor (ix1 t)) := by
  rw [w_main_v68, w_main_v67, w_main_c_7, w_main_c_5]; pointwise
theorem idx73 (t : Fin 32) : W V main_v73 (ix2 t 0) = lit5 (S32.rowMajor (ix1 t)) := by
  rw [w_main_v73, w_main_v72, w_main_c_8, w_main_c_5]; pointwise
theorem idx80 (t : Fin 32) : W V main_v80 (ix2 t 0) = lit6 (S32.rowMajor (ix1 t)) := by
  rw [w_main_v80, w_main_v79, w_main_c_10, w_main_c_9]; pointwise
theorem idx92 (t : Fin 32) : W V main_v92 (ix2 t 0) = lit5 (S32.rowMajor (ix1 t)) := by
  rw [w_main_v92, w_main_v91, w_main_c_11, w_main_c_5]; pointwise
theorem idx99 (t : Fin 32) : W V main_v99 (ix2 t 0) = lit7 (S32.rowMajor (ix1 t)) := by
  rw [w_main_v99, w_main_v98, w_main_c_13, w_main_c_12]; pointwise
theorem idx104 (t : Fin 32) : W V main_v104 (ix2 t 0) = lit5 (S32.rowMajor (ix1 t)) := by
  rw [w_main_v104, w_main_v103, w_main_c_14, w_main_c_5]; pointwise

theorem v64_at (v : Fin 2) (t : Fin 32) : W V main_v64 (ix3 0 v t) = softR V v (kn t).castSucc := by
  rw [w_main_v64]
  exact gather4 (W V main_v38) _ v t _ (by rw [idx63]; exact lit5_4 t)
theorem v69_at (v : Fin 2) (t : Fin 32) : W V main_v69 (ix3 0 v t) = dy (softR V v) (kn t) := by
  rw [w_main_v69]
  exact (gather3 (W V main_v45) _ v t _ (by rw [idx68]; exact lit5_3 t)).trans (v45_at V v _)
theorem v74_at (v : Fin 2) (t : Fin 32) : W V main_v74 (ix3 0 v t) = mom (softR V v) (kn t).castSucc := by
  rw [w_main_v74]
  exact (gather4 (W V main_v57) _ v t _ (by rw [idx73]; exact lit5_4 t)).trans (v57_at V v _)
theorem v81_at (v : Fin 2) (t : Fin 32) : W V main_v81 (ix3 0 v t) = mom (softR V v) (kn t).succ := by
  rw [w_main_v81]
  exact (gather4 (W V main_v57) _ v t _ (by rw [idx80]; exact lit6_4 t)).trans (v57_at V v _)
theorem v93_at (v : Fin 2) (t : Fin 32) : W V main_v93 (ix3 0 v t) = mom (softR V v) (kn t).castSucc := by
  rw [w_main_v93]
  exact (gather4 (W V main_v57) _ v t _ (by rw [idx92]; exact lit5_4 t)).trans (v57_at V v _)
theorem v100_at (v : Fin 2) (t : Fin 32) : W V main_v100 (ix3 0 v t) = mom (softR V v) (kn t).succ := by
  rw [w_main_v100]
  exact (gather4 (W V main_v57) _ v t _ (by rw [idx99]; exact lit7_4 t)).trans (v57_at V v _)
theorem v105_at (v : Fin 2) (t : Fin 32) : W V main_v105 (ix3 0 v t) = mom (softR V v) (kn t).castSucc := by
  rw [w_main_v105]
  exact (gather4 (W V main_v57) _ v t _ (by rw [idx104]; exact lit5_4 t)).trans (v57_at V v _)

theorem v58_at (t : Fin 32) : W V main_v58 (ix1 t) = (dx t : EReal) := by
  rw [w_main_v58, w_main_c_3]
  show (((lit3 (S32.rowMajor (ix1 t))).toInt : ℝ) : EReal) = _
  rw [lit3_val]
  unfold dx
  push_cast
  rfl
theorem v59_at (t : Fin 32) : W V main_v59 (ix1 t) = (wd (kn t) : EReal) := by
  rw [w_main_v59, w_main_c_4]
  show (((lit4 (S32.rowMajor (ix1 t))).toInt : ℝ) : EReal) = _
  rw [lit4_val]
  unfold wd
  split <;> simp

/-- The reference's interpolated scores. -/
theorem v126_at (v : Fin 2) (t : Fin 32) : W V main_v126 (ix3 0 v t) = spline (softR V v) t := by
  rw [w_main_v126, w_main_v125, w_main_v124, w_main_v123, w_main_v122, w_main_v121, w_main_v120, w_main_v119, w_main_v118, w_main_v117, w_main_v116,
    w_main_v115, w_main_v114, w_main_v113, w_main_v112, w_main_v111, w_main_v110, w_main_v109, w_main_v108, w_main_v107, w_main_cst_36, w_main_v106,
    w_main_v95, w_main_v94, w_main_cst_33, w_main_v88, w_main_v87, w_main_v86, w_main_cst_31, w_main_v85, w_main_v84, w_main_v83, w_main_v82,
    w_main_v76, w_main_v75, w_main_cst_29]
  pointwise [v64_at, v69_at, v74_at, v81_at, v93_at, v100_at, v105_at, v58_at, v59_at, Cert.Scores.lit2, Cert.Scores.lit6]
  unfold spline
  rw [EReal.coe_mul 6, mul_assoc]

/-- The softmax, off the arguments. -/
theorem softR_eq (v : Fin 2) : softR V v = soft (scores (fun v t ch i j => vid V (ix6 0 v t ch i j)) (fun x => W V main_arg1 (ix3 0 0 x)) (fun x e => W V main_arg2 (ix2 x e))
    (fun e => W V main_arg3 (ix1 e)) (fun x e => W V main_arg4 (ix2 x e)) (fun e => W V main_arg5 (ix1 e)) (fun c x => W V main_arg6 (ix2 c x)) (fun x => W V main_arg7 (ix1 x)) v) := by
  funext p
  rw [v38_at]
  congr 1
  funext p
  rw [v25_at]
  unfold scores
  congr 2
  funext r ch
  exact v8_at V r ch

end Cert.ReferenceIdeal.Hand
end
end
-- ==== Proof.Finite.lean ====
/- Finite arguments give finite scores. -/
module

public import Idealize.ShloMosaic.Lib.Pointwise
public import proofs.«01_k».proof.Proof.Spec

@[expose] public section

set_option Elab.async false
noncomputable section

namespace Cert.Scores

open Idealize.ShloMosaic

/-- A real number among the extended reals. -/
def Fin' (x : EReal) : Prop := ∃ r : ℝ, x = (r : EReal)

theorem Fin'.coe (r : ℝ) : Fin' (r : EReal) := ⟨r, rfl⟩
theorem Fin'.add {x y : EReal} : Fin' x → Fin' y → Fin' (x + y) := by
  rintro ⟨a, rfl⟩ ⟨b, rfl⟩; exact ⟨a + b, (EReal.coe_add a b).symm⟩
theorem Fin'.sub {x y : EReal} : Fin' x → Fin' y → Fin' (x - y) := by
  rintro ⟨a, rfl⟩ ⟨b, rfl⟩; exact ⟨a - b, (EReal.coe_sub a b).symm⟩
theorem Fin'.mul {x y : EReal} : Fin' x → Fin' y → Fin' (x * y) := by
  rintro ⟨a, rfl⟩ ⟨b, rfl⟩; exact ⟨a * b, (EReal.coe_mul a b).symm⟩
theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih
theorem Fin'.div {x : EReal} {n : ℝ} (hn : n ≠ 0) (hx : Fin' x) : Fin' (Ideal.div x (n : EReal)) := by
  rw [Ideal.div_coe hn]; exact hx.mul (.coe _)
theorem Fin'.ne_bot {x : EReal} : Fin' x → x ≠ ⊥ := by rintro ⟨a, rfl⟩; exact EReal.coe_ne_bot a
theorem Fin'.sub_self {x : EReal} : Fin' x → x - x = 0 := by
  rintro ⟨a, rfl⟩; rw [← EReal.coe_sub]; simp

theorem fin_scale : Fin' (Ideal.ofBits .f32 0x3D13CD3A#32) :=
  ⟨9686330 / 268435456, by simp [Ideal.ofBits, Ideal.ieee, -EReal.coe_mul]; norm_num⟩

theorem fin_pooled (x : Fin 2 → Fin 32 → Fin 3 → Fin 224 → Fin 224 → EReal) (hx : ∀ v t c i j, Fin' (x v t c i j)) (r c) : Fin' (pooled x r c) :=
  (Fin'.sum _ _ fun i => .sum _ _ fun j => hx _ _ _ i j).mul (.coe _)

section
variable (x : Fin 2 → Fin 32 → Fin 3 → Fin 224 → Fin 224 → EReal) (q : Fin 768 → EReal) (Wq : Fin 768 → Fin 768 → EReal) (bq : Fin 768 → EReal)
    (Wk : Fin 768 → Fin 768 → EReal) (bk : Fin 768 → EReal) (We : Fin 3 → Fin 768 → EReal) (be : Fin 768 → EReal)

theorem fin_scores (hx : ∀ v t c i j, Fin' (x v t c i j)) (hq : ∀ i, Fin' (q i)) (hWq : ∀ i j, Fin' (Wq i j)) (hbq : ∀ i, Fin' (bq i))
    (hWk : ∀ i j, Fin' (Wk i j)) (hbk : ∀ i, Fin' (bk i)) (hWe : ∀ i j, Fin' (We i j)) (hbe : ∀ i, Fin' (be i)) (v p) :
    Fin' (scores x q Wq bq Wk bk We be v p) := by
  refine Fin'.mul (.sum _ _ fun e => Fin'.mul ?_ ?_) fin_scale
  · exact (Fin'.sum _ _ fun a => ((Fin'.sum _ _ fun c => (fin_pooled x hx _ c).mul (hWe c a)).add (hbe a)).mul (hWk a e)).add (hbk e)
  · exact (Fin'.sum _ _ fun a => (hq a).mul (hWq a e)).add (hbq e)
end

theorem fin_max {l : Fin 4 → EReal} (hl : ∀ p, Fin' (l p)) : Fin' (Finset.univ.fold max (Ideal.ofBits .f32 0xFF800000#32) l) := by
  rw [litBot]
  obtain ⟨i, -, hi⟩ := Finset.exists_max_image (Finset.univ : Finset (Fin 4)) l ⟨0, Finset.mem_univ _⟩
  have : Finset.univ.fold max ⊥ l = l i := le_antisymm ((Finset.fold_max_le _).mpr ⟨bot_le, hi⟩) ((Finset.le_fold_max _).mpr (.inr ⟨i, Finset.mem_univ _, le_rfl⟩))
  rw [this]; exact hl i

theorem pos_expo {l : Fin 4 → EReal} (hl : ∀ p, Fin' (l p)) (p) : ∃ r : ℝ, 0 < r ∧ expo l p = (r : EReal) := by
  obtain ⟨a, ha⟩ := (hl p).sub (fin_max hl)
  refine ⟨Real.exp a, Real.exp_pos a, ?_⟩
  unfold expo
  rw [ha]
  rfl

theorem fin_soft {l : Fin 4 → EReal} (hl : ∀ p, Fin' (l p)) (p) : Fin' (soft l p) := by
  choose f h0 h using pos_expo hl
  unfold soft
  have : ∑ x, expo l x = ((∑ x, f x : ℝ) : EReal) := by
    simp only [Fin.sum_univ_four, h, EReal.coe_add]
  rw [this, h p]
  exact (Fin'.coe _).div (Finset.sum_pos (fun i _ => h0 i) ⟨0, Finset.mem_univ _⟩).ne'

theorem wd_ne (k) : wd k ≠ 0 := by unfold wd; split_ifs <;> norm_num

theorem fin_spline {y : Fin 4 → EReal} (hy : ∀ p, Fin' (y p)) (t) : Fin' (spline y t) := by
  have hd : ∀ k, Fin' (dy y k) := fun k => ((hy _).sub (hy _)).div (wd_ne k)
  have hr : ∀ k, Fin' (rhs y k) := fun k => (Fin'.coe _).mul ((hd _).sub (hd _))
  have hm : ∀ i, Fin' (mom y i) := by
    intro i; unfold mom
    split_ifs
    · exact ((hr _).mul (.coe _)).add ((hr _).mul (.coe _))
    · exact ((hr _).mul (.coe _)).add ((hr _).mul (.coe _))
    · exact ⟨0, rfl⟩
  have h6 : (6 * wd (kn t) : ℝ) ≠ 0 := mul_ne_zero (by norm_num) (wd_ne _)
  unfold spline
  refine (((hy _).add (((hd _).sub (Fin'.div (by norm_num) ((Fin'.coe _).mul (((Fin'.coe _).mul (hm _)).add (hm _))))).mul (.coe _))).add
    ((Fin'.div (by norm_num) (hm _)).mul ((Fin'.coe _).mul (.coe _)))).add ((Fin'.div h6 ((hm _).sub (hm _))).mul ((Fin'.coe _).mul ((Fin'.coe _).mul (.coe _))))

end Cert.Scores
end
end
-- ==== Proof.RI.Tail.lean ====
/- The reference's last steps: the selected frames. -/
module

public import proofs.«01_k».proof.Proof.RI.Scores
public import proofs.«01_k».proof.Proof.TopK
public import proofs.«01_k».proof.Proof.Finite
public import Idealize.ShloMosaic.Lib.Pointwise

@[expose] public section

set_option Elab.async false
noncomputable section

namespace Cert.ReferenceIdeal.Hand

open Cert.ReferenceIdeal Cert.ReferenceIdeal.Gen Cert.Scores
open Idealize.ShloMosaic Idealize.ShloMosaic.TcCoe Idealize.SL.Sem Idealize.ShloMosaic.StableHlo
variable (V : Valuation τ sig (Elt Ideal))

/-- A video's scores. -/
def rowR (v : Fin 2) (k : Fin 32) : EReal := W V main_v126 (ix3 0 v k)

/-- The frame chosen at place `r`. -/
def best (v : Fin 2) (r : Fin 8) : Fin 32 := rank (rowR V v) ⟨r.val, by omega⟩

theorem along_at (v : Fin 2) (q k : Fin 32) : (Shape.Idx.along (s := S2x32) (ix2 v q) (1 : Fin 2) k) = ix2 v k := by
  funext a; fin_cases a
  · exact Function.update_of_ne (by decide) _ _
  · exact Function.update_self _ _ _

theorem slice_at (v : Fin 2) (r : Fin 8) (x : S2x32.Idx → BitVec 32) :
    extractStridedSlice S2x8 (fun _ => 0) x sliceFits_S2x32_S2x8 (ix2 v r) = x (ix2 v ⟨r.val, by omega⟩) := by
  unfold extractStridedSlice
  refine congrArg x ?_
  funext a; apply Fin.ext; fin_cases a
  · exact Nat.zero_add _
  · exact Nat.zero_add _

theorem topk_at (x : S2x32.Idx → EReal) (v : Fin 2) (r : Fin 8) :
    (Host.topK S2x8 1 (FloatOps.cmpfTotal (F := Ideal) (φ := .f32) .gt) x sliceFits_S2x32_S2x8).2 (ix2 v r)
      = BitVec.ofNat 32 (rank (fun k => x (ix2 v k)) ⟨r.val, by omega⟩).val := by
  unfold Host.topK Host.sort2
  dsimp only
  rw [dif_pos (by decide)]
  rw [slice_at]
  dsimp only
  rw [dif_pos (by decide)]
  unfold iotaInDim rank greater
  refine congrArg (fun k : Fin 32 => BitVec.ofNat 32 k.val) ?_
  refine (congrFun (along_at v _ _) 1).trans ?_
  show sortedFrom _ _ = sortedFrom _ _
  refine congrFun (congrArg sortedFrom ?_) _
  funext k k'
  exact congrArg₂ (fun a b => FloatOps.cmpfTotal (F := Ideal) (φ := .f32) .gt (x a) (x b) == 1#1) (along_at v _ k) (along_at v _ k')

theorem indices_at (v : Fin 2) (r : Fin 8) : W V main_indices (ix2 v r) = BitVec.ofNat 32 (best V v r).val := by
  have e : (fun k => W V main_v127 (ix2 v k)) = rowR V v := by
    funext k; rw [w_main_v127]; unfold rowR; pointwise
  rw [w_main_indices]
  refine (topk_at (W V main_v127) v r).trans ?_
  rw [e]
  rfl

def onehot (v : Fin 2) (r : Fin 8) (t : Fin 32) : EReal := W V main_v128 (ix3 v r t)

theorem uitofp_one : FloatOps.uitofp (F := Ideal) .f32 (1#1) = (1 : EReal) := by
  show (((1#1 : BitVec 1).toNat : ℝ) : EReal) = 1
  simp
theorem uitofp_zero : FloatOps.uitofp (F := Ideal) .f32 (0#1) = (0 : EReal) := by
  show (((0#1 : BitVec 1).toNat : ℝ) : EReal) = 0
  simp

theorem v128_at (v : Fin 2) (r : Fin 8) (t : Fin 32) : onehot V v r t = if t = best V v r then 1 else 0 := by
  unfold onehot
  rw [w_main_v128, w_main_call0_v4, w_main_call0_v3, w_main_call0_v2, w_main_call0_v1, w_main_call0_v0]
  pointwise [indices_at]
  generalize best V v r = b
  by_cases e : t = b
  · subst e; rw [if_pos rfl]
    have h : IntOp.cmpi .eq (BitVec.ofNat 32 t.val) (BitVec.ofNat 32 t.val) = 1#1 := by simp [IntOp.cmpi]
    rw [h]
    exact uitofp_one
  · rw [if_neg e]
    have h : BitVec.ofNat 32 (b).val ≠ BitVec.ofNat 32 t.val := fun g => e (Fin.ext (by
      have := congrArg BitVec.toNat g; rw [BitVec.toNat_ofNat, BitVec.toNat_ofNat] at this; omega))
    have h : IntOp.cmpi .eq (BitVec.ofNat 32 b.val) (BitVec.ofNat 32 t.val) = 0#1 := by simp [IntOp.cmpi, beq_eq_false_iff_ne.mpr h]
    rw [h]
    exact uitofp_zero

def weight (v : Fin 2) (r : Fin 8) (t : Fin 32) : EReal := W V main_v138 (ix4 0 v r t)

theorem v138_at (v : Fin 2) (r : Fin 8) (t : Fin 32) :
    weight V v r t = Ideal.div (onehot V v r t) (max (∑ k, max (onehot V v k t) (-onehot V v k t)) (Ideal.ofBits .f32 0x2B8CBCCC#32)) := by
  unfold weight
  rw [w_main_v138, w_main_v137, w_main_v136, w_main_v135, w_main_v134, w_main_cst_38, w_main_v133, w_main_v132, w_main_cst_37, w_main_v131, w_main_v130, w_main_v129]
  pointwise
  rfl

def mix (v : Fin 2) (r : Fin 8) (ch : Fin 3) (i j : Fin 224) : EReal := W V main_v139 (ix6 0 v r ch i j)

theorem v139_at (v : Fin 2) (r : Fin 8) (ch : Fin 3) (i j : Fin 224) :
    mix V v r ch i j = ∑ t, weight V v r t * vid V (ix6 0 v t ch i j) := by
  unfold mix
  rw [w_main_v139]
  pointwise
  rfl

theorem litEps : Ideal.ofBits .f32 0x2B8CBCCC#32 = ((9223372 / 9223372036854775808 : ℝ) : EReal) := by
  simp [Ideal.ofBits, Ideal.ieee, -EReal.coe_mul]; norm_num

/-- A weight is positive at the chosen frame and zero elsewhere. -/
theorem weight_at (v : Fin 2) (r : Fin 8) (t : Fin 32) : ∃ c : ℝ, 0 < c ∧ weight V v r t = if t = best V v r then (c : EReal) else 0 := by
  have h1 : ∀ k, max (onehot V v k t) (-onehot V v k t) = (((if t = best V v k then 1 else 0) : ℝ) : EReal) := by
    intro k; rw [v128_at]
    split_ifs
    · have h : (-1 : EReal) ≤ 1 := by rw [← EReal.coe_one, ← EReal.coe_neg]; exact EReal.coe_le_coe_iff.mpr (by norm_num)
      rw [max_eq_left h]; rfl
    · rw [neg_zero, max_self]; rfl
  have h2 : max (∑ k, max (onehot V v k t) (-onehot V v k t)) (Ideal.ofBits .f32 0x2B8CBCCC#32)
      = ((max (∑ k, (if t = best V v k then 1 else 0 : ℝ)) (9223372 / 9223372036854775808) : ℝ) : EReal) := by
    rw [litEps]
    simp only [h1, Fin.sum_univ_eight, ← EReal.coe_add]
    exact (Monotone.map_max (fun a b h => EReal.coe_le_coe_iff.mpr h)).symm
  have hp : 0 < max (∑ k, (if t = best V v k then 1 else 0 : ℝ)) (9223372 / 9223372036854775808) := lt_max_of_lt_right (by norm_num)
  refine ⟨1 / max (∑ k, (if t = best V v k then 1 else 0 : ℝ)) (9223372 / 9223372036854775808), by positivity, ?_⟩
  rw [v138_at, h2, Ideal.div_coe hp.ne', v128_at]
  split_ifs
  · rw [one_mul]
  · rw [zero_mul]

/-- The soft mixture of finite videos is finite. -/
theorem mix_fin (hv : ∀ i, Fin' (vid V i)) (v : Fin 2) (r : Fin 8) (ch : Fin 3) (i j : Fin 224) : Fin' (mix V v r ch i j) := by
  rw [v139_at]
  refine Fin'.sum _ _ fun t => Fin'.mul ?_ (hv _)
  obtain ⟨c, -, h⟩ := weight_at V v r t
  rw [h]
  split_ifs
  · exact .coe c
  · exact ⟨0, rfl⟩

end Cert.ReferenceIdeal.Hand
end
end
-- ==== Proof.RI.ArgMax.lean ====
/- The reference's selected frames. -/
module

public import proofs.«01_k».proof.Proof.RI.EqsD
public import proofs.«01_k».proof.Proof.TopK
public import proofs.«01_k».proof.Proof.Finite
public import Idealize.ShloMosaic.Lib.Pointwise

@[expose] public section

set_option Elab.async false
noncomputable section

namespace Cert.ReferenceIdeal.Hand

open Cert.ReferenceIdeal Cert.ReferenceIdeal.Gen Cert.Scores
open Idealize.ShloMosaic Idealize.ShloMosaic.TcCoe Idealize.SL.Sem Idealize.ShloMosaic.StableHlo

/-- One step of the arg-max. -/
theorem argmax_step (a b : EReal × BitVec 32) : (reducer_argmax_f32_i32 (F := Ideal) a b) = (if b.1 < a.1 then a.1 else b.1, if b.1 < a.1 ∨ (a.1 = b.1 ∧ a.2.slt b.2) then a.2 else b.2) := by
  unfold reducer_argmax_f32_i32
  dsimp only
  rw [Ideal.cmpf_def, Ideal.cmpf_def, Ideal.cmpf_def]
  by_cases h : b.1 < a.1 <;> by_cases h' : a.1 = b.1 <;> cases h'' : a.2.slt b.2 <;> simp [Ideal.cmp, IntOp.cmpi, IntOp.ori, IntOp.andi, Scalar.select, h, h', h'']

theorem foldl_argmax {ι : Type} (l : List ι) (g : ι → EReal × BitVec 32) (c : EReal) (w : BitVec 32) (hc : 0 < c)
    (h : ∀ n ∈ l, g n = (c, w) ∨ (g n).1 = 0) (acc : EReal × BitVec 32) (ha : acc = (c, w) ∨ (acc.1 < c ∧ ∃ n ∈ l, g n = (c, w))) :
    l.foldl (fun r n => reducer_argmax_f32_i32 (F := Ideal) r (g n)) acc = (c, w) := by
  induction l generalizing acc with
  | nil => rcases ha with h | ⟨-, n, hn, -⟩; exact h; cases hn
  | cons n l ih =>
    refine ih (fun m hm => h m (List.mem_cons_of_mem _ hm)) _ ?_
    beta_reduce
    rw [argmax_step]
    rcases ha with rfl | ⟨h1, m, hm, h2⟩
    · left
      rcases h n List.mem_cons_self with h | h
      · rw [h]; simp
      · rw [h]; simp [hc]
    · rcases h n List.mem_cons_self with h | h
      · left; rw [h]; simp [not_lt.mpr h1.le, h1.ne]
      · right
        refine ⟨?_, m, ?_, h2⟩
        · rw [h]; dsimp only; split_ifs; exact h1; exact hc
        · rcases List.mem_cons.mp hm with rfl | hm
          · rw [h2] at h; exact absurd h hc.ne'
          · exact hm

/-- The arg-max of a fiber that is positive at one place and zero elsewhere. -/
theorem argmax_at (x : S1x2x8x32.Idx → EReal) (v : Fin 2) (r : Fin 8) (b : Fin 32) (c : EReal) (hc : 0 < c) (hb : x (ix4 0 v r b) = c)
    (h0 : ∀ t, t ≠ b → x (ix4 0 v r t) = 0) :
    (Host.argReduce (F := Ideal) (φ := .f32) reducer_argmax_f32_i32 x (iotaInDim S1x2x8x32 32 3) (constant (F := Ideal) S_ .f32 0xFF800000#32) (constantI S_ 32 0#32)
      reducesTo_S1x2x8x32_S1x2x8_d3 h_S_ (ix3 0 v r)).2 = BitVec.ofNat 32 b.val := by
  rw [Ideal.argReduce_eq_reduce2]
  unfold Host.reduce2
  have hmem : ∀ n : Fin S1x2x8x32.numel, n ∈ ((List.finRange S1x2x8x32.numel).filter fun n => reducesTo_S1x2x8x32_S1x2x8_d3.drop (S1x2x8x32.rowMajor.symm n) = ix3 0 v r)
      ↔ reducesTo_S1x2x8x32_S1x2x8_d3.drop (S1x2x8x32.rowMajor.symm n) = ix3 0 v r := by
    intro n
    rw [List.mem_filter, decide_eq_true_eq]
    exact ⟨fun h => h.2, fun h => ⟨List.mem_finRange _, h⟩⟩
  generalize ((List.finRange S1x2x8x32.numel).filter fun n => reducesTo_S1x2x8x32_S1x2x8_d3.drop (S1x2x8x32.rowMajor.symm n) = ix3 0 v r) = l at hmem ⊢
  have key := foldl_argmax l (fun n => (x (S1x2x8x32.rowMajor.symm n), iotaInDim S1x2x8x32 32 3 (S1x2x8x32.rowMajor.symm n))) c (BitVec.ofNat 32 b.val) hc ?_
    (constant (F := Ideal) S_ .f32 0xFF800000#32 (Shape.Idx.first h_S_), constantI S_ 32 0#32 (Shape.Idx.first h_S_)) (.inr ⟨?_, S1x2x8x32.rowMajor (ix4 0 v r b), ?_, ?_⟩)
  · rw [key]
  · intro n hn
    have hd := (hmem n).mp hn
    beta_reduce
    generalize S1x2x8x32.rowMajor.symm n = i at hd ⊢
    obtain ⟨t, rfl⟩ : ∃ t : Fin 32, i = ix4 0 v r t := by
      refine ⟨i 3, ?_⟩
      funext a; fin_cases a
      · exact congrFun hd 0
      · exact congrFun hd 1
      · exact congrFun hd 2
      · rfl
    by_cases e : t = b
    · subst e; left; rw [hb]; rfl
    · right; exact h0 t e
  · show Ideal.ofBits .f32 0xFF800000#32 < c
    rw [litBot]; exact lt_of_le_of_lt bot_le hc
  · rw [hmem, Equiv.symm_apply_apply]
    funext a; fin_cases a <;> rfl
  · rw [Equiv.symm_apply_apply, hb]; rfl

end Cert.ReferenceIdeal.Hand
end
end
-- ==== Proof.RI.Take.lean ====
/- The reference's selected frames. -/
module

public import proofs.«01_k».proof.Proof.RI.EqsD
public import proofs.«01_k».proof.Proof.TopK
public import proofs.«01_k».proof.Proof.Finite
public import Idealize.ShloMosaic.Lib.Pointwise

@[expose] public section

set_option Elab.async false
noncomputable section

namespace Cert.ReferenceIdeal.Hand

open Cert.ReferenceIdeal Cert.ReferenceIdeal.Gen Cert.Scores
open Idealize.ShloMosaic Idealize.ShloMosaic.TcCoe Idealize.SL.Sem Idealize.ShloMosaic.StableHlo

theorem fold_andi_one {ι : Type} (s : Finset ι) (f : ι → BitVec 1) (h : ∀ i, f i = 1#1) : s.fold IntOp.andi 1#1 f = 1#1 := by
  classical
  induction s using Finset.induction_on with
  | empty => rfl
  | insert a s ha ih => rw [Finset.fold_insert ha, ih, h]; rfl

theorem cast_at (x : S1x2x8x3x224x224.Idx → BitVec 32) (v : Fin 2) (r : Fin 8) (ch : Fin 3) (i j : Fin 224) :
    shapeCast S2x8x3x224x224x1 x shapeCasts_S1x2x8x3x224x224_S2x8x3x224x224x1 (ix6 v r ch i j 0) = x (ix6 0 v r ch i j) := by
  pointwise

theorem wrap_at : ∀ b : Fin 32, IntOp.cmpi .slt (BitVec.ofNat 32 b.val) 0#32 = 0#1 := by decide

theorem inside_at : ∀ b : Fin 32, IntOp.andi (IntOp.cmpi .sge (BitVec.ofNat 32 b.val) 0#32) (IntOp.cmpi .sle (BitVec.ofNat 32 b.val) 31#32) = 1#1 := by decide

/-- The wrapped index of an index in range is itself. -/
theorem wrapped_at (x y : S1x2x8x3x224x224.Idx → BitVec 32) (n : S1x2x8x3x224x224.Idx) (b : Fin 32) (h : x n = BitVec.ofNat 32 b.val) :
    select (cmpi .slt x (broadcastInDim S1x2x8x3x224x224 ![] bcast_S_S1x2x8x3x224x224 (constantI S_ 32 0#32))) y x n = BitVec.ofNat 32 b.val := by
  show Scalar.select (IntOp.cmpi .slt (x n) 0#32) (y n) (x n) = _
  rw [h, wrap_at]
  rfl

/-- The range check of indices all in range. -/
theorem inRange_at (x : S2x8x3x224x224x1.Idx → BitVec 32) (h : ∀ v r ch i j, ∃ b : Fin 32, x (ix6 v r ch i j 0) = BitVec.ofNat 32 b.val) (n : S2x8x3x224x224.Idx) :
    Host.reduce IntOp.andi (andi (cmpi .sge x (broadcastInDim S2x8x3x224x224x1 ![] bcast_S_S2x8x3x224x224x1 (constantI S_ 32 0#32)))
      (cmpi .sle x (broadcastInDim S2x8x3x224x224x1 ![0, 1, 2, 3, 4, 5] bcast_S1x1x1x1x1x1_S2x8x3x224x224x1_0_1_2_3_4_5
        (broadcastInDim S1x1x1x1x1x1 ![5] bcast_S1_S1x1x1x1x1x1_5 (constantI S1 32 31#32))))) (constantI S_ 1 1#1)
      reducesTo_S2x8x3x224x224x1_S2x8x3x224x224_d5 h_S_ n = 1#1 := by
  rw [Host.reduce_eq_fold]
  refine fold_andi_one _ _ fun i => ?_
  show IntOp.andi (IntOp.cmpi .sge (x i) 0#32) (IntOp.cmpi .sle (x i) 31#32) = 1#1
  obtain ⟨v, r, ch, i₁, j₁, rfl⟩ : ∃ (v : Fin 2) (r : Fin 8) (ch : Fin 3) (i₁ j₁ : Fin 224), i = ix6 v r ch i₁ j₁ (0 : Fin 1) := by
    refine ⟨i 0, i 1, i 2, i 3, i 4, ?_⟩
    funext a; fin_cases a
    · rfl
    · rfl
    · rfl
    · rfl
    · rfl
    · exact Fin.ext (Nat.lt_one_iff.mp (i 5).isLt)
  obtain ⟨b, hb⟩ := h v r ch i₁ j₁
  rw [hb, inside_at]

theorem take_at (x : S1x2x32x3x224x224.Idx → EReal) (idx : S2x8x3x224x224x1.Idx → BitVec 32) (v : Fin 2) (r : Fin 8) (ch : Fin 3) (i j : Fin 224) (b : Fin 32)
    (hidx : idx (ix6 v r ch i j 0) = BitVec.ofNat 32 b.val) :
    Host.gather gather_S1x2x32x3x224x224_S2x8x3x224x224x1_S1x2x8x3x224x224_0_2_1345_0234_2_5_111111 x idx (ix6 0 v r ch i j) = x (ix6 0 v b ch i j) := by
  unfold Host.gather
  refine congrArg x ?_
  funext a
  apply Fin.ext
  show GatherDims.start _ _ _ a + GatherDims.batchCoord _ _ a + GatherDims.offCoord _ _ a = _
  have hsi : GatherDims.siIdx gather_S1x2x32x3x224x224_S2x8x3x224x224x1_S1x2x8x3x224x224_0_2_1345_0234_2_5_111111 (ix6 0 v r ch i j) ⟨0, by decide⟩ = ix6 v r ch i j 0 := by
    funext b; apply Fin.ext; fin_cases b <;> rfl
  fin_cases a
  · rfl
  · show 0 + v.val + 0 = v.val; omega
  · show min (idx (GatherDims.siIdx _ _ ⟨0, _⟩)).toInt.toNat (32 - 1) + 0 + 0 = b.val
    rw [hsi, hidx]
    have hb : ∀ b : Fin 32, min (BitVec.ofNat 32 b.val).toInt.toNat (32 - 1) + 0 + 0 = b.val := by decide
    exact hb b
  · show 0 + ch.val + 0 = ch.val; omega
  · show 0 + i.val + 0 = i.val; omega
  · show 0 + j.val + 0 = j.val; omega

end Cert.ReferenceIdeal.Hand
end
end
-- ==== Proof.RI.Pick.lean ====
/- The reference's selected frames. -/
module

public import proofs.«01_k».proof.Proof.RI.Tail
public import proofs.«01_k».proof.Proof.RI.ArgMax
public import proofs.«01_k».proof.Proof.RI.Take
public import proofs.«01_k».proof.Proof.TopK
public import proofs.«01_k».proof.Proof.Finite
public import Idealize.ShloMosaic.Lib.Pointwise

@[expose] public section

set_option Elab.async false
noncomputable section

namespace Cert.ReferenceIdeal.Hand

open Cert.ReferenceIdeal Cert.ReferenceIdeal.Gen Cert.Scores
open Idealize.ShloMosaic Idealize.ShloMosaic.TcCoe Idealize.SL.Sem Idealize.ShloMosaic.StableHlo
variable (V : Valuation τ sig (Elt Ideal))

/-- The arg-max of the weights is the chosen frame. -/
theorem v140_at (v : Fin 2) (r : Fin 8) : W V main_v140 (ix3 0 v r) = BitVec.ofNat 32 (best V v r).val := by
  have hw : ∀ t, ∃ c : ℝ, 0 < c ∧ weight V v r t = if t = best V v r then (c : EReal) else 0 := weight_at V v r
  obtain ⟨c, hc, hb⟩ := hw (best V v r)
  rw [if_pos rfl] at hb
  rw [w_main_v140, w_main_call1_cst, w_main_call1_c, w_main_call1_v0]
  refine argmax_at (W V main_v138) v r (best V v r) (c : EReal) (by exact_mod_cast hc) hb fun t ht => ?_
  obtain ⟨c', -, h'⟩ := hw t
  rw [if_neg ht] at h'; exact h'

theorem v142_at (v : Fin 2) (r : Fin 8) (ch : Fin 3) (i j : Fin 224) : W V main_v142 (ix6 0 v r ch i j) = BitVec.ofNat 32 (best V v r).val := by
  rw [w_main_v142, w_main_v141]
  pointwise [v140_at]

theorem c2v5_at (v : Fin 2) (r : Fin 8) (ch : Fin 3) (i j : Fin 224) : W V main_call2_v5 (ix6 v r ch i j 0) = BitVec.ofNat 32 (best V v r).val := by
  rw [w_main_call2_v5]
  refine (cast_at (W V main_call2_v4) v r ch i j).trans ?_
  rw [w_main_call2_v4, w_main_call2_v1, w_main_call2_v0, w_main_call2_c]
  exact wrapped_at (W V main_v142) (W V main_call2_v3) _ _ (v142_at V v r ch i j)

theorem c2v12_at (n : S2x8x3x224x224.Idx) : (W V main_call2_v12 : S2x8x3x224x224.Idx → BitVec 1) n = 1#1 := by
  rw [w_main_call2_v12, w_main_call2_v11, w_main_call2_v10, w_main_call2_v9, w_main_call2_v8, w_main_call2_c_1, w_main_call2_v7, w_main_call2_v6, w_main_call2_c_2, w_main_call2_c_3]
  exact inRange_at (W V main_call2_v5) (fun v r ch i j => ⟨_, c2v5_at V v r ch i j⟩) n

theorem c2v13_at (v : Fin 2) (r : Fin 8) (ch : Fin 3) (i j : Fin 224) : W V main_call2_v13 (ix6 0 v r ch i j) = vid V (ix6 0 v (best V v r) ch i j) := by
  rw [w_main_call2_v13]
  exact take_at (W V main_arg0) (W V main_call2_v5) v r ch i j _ (c2v5_at V v r ch i j)

def frameR (v : Fin 2) (r : Fin 8) (ch : Fin 3) (i j : Fin 224) : EReal := W V main_v145 (ix6 0 v r ch i j)

theorem tail_at (m : S2x8x3x224x224.Idx → BitVec 1) (x y z : S1x2x8x3x224x224.Idx → EReal) (n : S1x2x8x3x224x224.Idx) (hm : ∀ n, m n = 1#1) (hz : z n - z n = 0) :
    (addf (select (broadcastInDim S1x2x8x3x224x224 ![1, 2, 3, 4, 5] bcast_S2x8x3x224x224_S1x2x8x3x224x224_1_2_3_4_5 m) x y) (subf z z) : FVec Ideal S1x2x8x3x224x224 .f32) n = x n := by
  show Scalar.select (m _) (x n) (y n) + (z n - z n) = _
  rw [hm, hz, add_zero]
  rfl

/-- The reference's frames. -/
theorem v145_at (hv : ∀ i, Fin' (vid V i)) (v : Fin 2) (r : Fin 8) (ch : Fin 3) (i j : Fin 224) :
    frameR V v r ch i j = vid V (ix6 0 v (best V v r) ch i j) := by
  have h := (mix_fin V hv v r ch i j).sub_self
  unfold mix at h
  unfold frameR
  rw [w_main_v145, w_main_v144, w_main_v143, w_main_call2_v14]
  refine (tail_at (W V main_call2_v12) (W V main_call2_v13) (W V main_call2_v15) (W V main_v139) _ (c2v12_at V) h).trans ?_
  exact c2v13_at V v r ch i j

end Cert.ReferenceIdeal.Hand
end
end
-- ==== Proof.Pre.lean ====
/- What the precondition says: every element of every argument is a real number. -/
module

public import proofs.«01_k».proof.Pre_finite_inputs
public import proofs.«01_k».proof.Proof.Finite
public import Idealize.ShloMosaic.Lib.ReduceAll
public import Idealize.ShloMosaic.Lib.Pointwise

@[expose] public section

noncomputable section

namespace Cert.Pre_finite_inputs

open Idealize.ShloMosaic Cert.Scores

theorem litTop : Ideal.ofBits .f32 0x7F800000#32 = ⊤ := by simp [Ideal.ofBits, Ideal.ieee]

/-- An extended real whose magnitude compares below infinity is a real. -/
theorem fin_of_lt (x : EReal) (h : Ideal.cmp .olt (max x (-x)) ⊤ = 1#1) : Fin' x := by
  induction x using EReal.rec with
  | bot => simp [Ideal.cmp] at h
  | coe r => exact ⟨r, rfl⟩
  | top => simp [Ideal.cmp] at h

/-- The test of one argument. -/
theorem fin_of_all {s t : Shape} {axes : List (Fin s.rank)} [Subsingleton t.Idx] (x : FVec Ideal s .f32) (hb : S_.BroadcastsInDim s (![] : Fin 0 → Fin s.rank))
    (h : s.ReducesTo axes t) (hu : 0 < S_.numel) (j : t.Idx)
    (e : Host.reduce IntOp.andi (cmpf .olt (Host.absf x) (broadcastInDim s ![] hb (constant S_ .f32 0x7F800000#32))) (constantI S_ 1 1#1) h hu j = 1#1)
    (i : s.Idx) : Fin' (x i) := by
  have e' := Host.reduce_andi_all _ _ h hu j e i
  refine fin_of_lt (x i) ?_
  rw [← litTop]
  exact e'

theorem both (a b : BitVec 1) (h : IntOp.andi a b = 1#1) : a = 1#1 ∧ b = 1#1 := by
  revert a b; decide

instance : Subsingleton S_.Idx := ⟨fun a b => funext fun i => i.elim0⟩

variable [Facts]
theorem finite (a0 : FVec Ideal S1x2x32x3x224x224 .f32) (a1 : FVec Ideal S1x1x768 .f32) (a2 : FVec Ideal S768x768 .f32) (a3 : FVec Ideal S768 .f32)
    (a4 : FVec Ideal S768x768 .f32) (a5 : FVec Ideal S768 .f32) (a6 : FVec Ideal S3x768 .f32) (a7 : FVec Ideal S768 .f32)
    (h : fn (F := Ideal) a0 a1 a2 a3 a4 a5 a6 a7 = fun _ => 1#1) :
    (∀ i, Fin' (a0 i)) ∧ (∀ i, Fin' (a1 i)) ∧ (∀ i, Fin' (a2 i)) ∧ (∀ i, Fin' (a3 i)) ∧ (∀ i, Fin' (a4 i)) ∧ (∀ i, Fin' (a5 i)) ∧ (∀ i, Fin' (a6 i)) ∧ (∀ i, Fin' (a7 i)) := by
  have h0 := congrFun h (fun b => b.elim0)
  unfold fn fn_part1 fn_part2 at h0
  obtain ⟨h0, e7⟩ := both _ _ h0
  obtain ⟨h0, e6⟩ := both _ _ h0
  obtain ⟨h0, e5⟩ := both _ _ h0
  obtain ⟨h0, e4⟩ := both _ _ h0
  obtain ⟨h0, e3⟩ := both _ _ h0
  obtain ⟨h0, e2⟩ := both _ _ h0
  obtain ⟨e0, e1⟩ := both _ _ h0
  exact ⟨fin_of_all a0 _ _ _ _ e0, fin_of_all a1 _ _ _ _ e1, fin_of_all a2 _ _ _ _ e2, fin_of_all a3 _ _ _ _ e3,
    fin_of_all a4 _ _ _ _ e4, fin_of_all a5 _ _ _ _ e5, fin_of_all a6 _ _ _ _ e6, fin_of_all a7 _ _ _ _ e7⟩

end Cert.Pre_finite_inputs

end
-- ==== Proof.Value.lean ====
/-
  The two results of the kernel and of the reference are the same: on finite arguments both leave the spline of the
  softmax, and in slot r of a video the frame whose score comes r-th.
-/
module

public import proofs.«01_k».proof.Proof.KI.Values
public import proofs.«01_k».proof.Proof.RI.Pick
public import proofs.«01_k».proof.Proof.RI.Ends
public import proofs.«01_k».proof.Proof.Pre

@[expose] public section

set_option Elab.async false

noncomputable section

namespace Cert.Value

open Idealize.ShloMosaic Idealize.ShloMosaic.TcCoe Idealize.ShloMosaic.Tactic Idealize.SL.Sem Cert.Scores
open Cert.KernelIdeal (nD τ sig)
open Cert.KernelIdeal.Hand (vidK rowK outsB)
open Cert.KernelIdeal.Gen (V5)

theorem scores_congr {x x' : Fin 2 → Fin 32 → Fin 3 → Fin 224 → Fin 224 → EReal} {q q' : Fin 768 → EReal} {Wq Wq' : Fin 768 → Fin 768 → EReal} {bq bq' : Fin 768 → EReal}
    {Wk Wk' : Fin 768 → Fin 768 → EReal} {bk bk' : Fin 768 → EReal} {We We' : Fin 3 → Fin 768 → EReal} {be be' : Fin 768 → EReal}
    (hx : x = x') (hq : q = q') (hWq : Wq = Wq') (hbq : bq = bq') (hWk : Wk = Wk') (hbk : bk = bk') (hWe : We = We') (hbe : be = be') :
    scores x q Wq bq Wk bk We be = scores x' q' Wq' bq' Wk' bk' We' be' := by
  subst hx hq hWq hbq hWk hbk hWe hbe; rfl

section
variable (m : (ℓ : Loc nD τ sig) → Buf (Elt Ideal) ℓ) (c : Dev nD)
variable (V : Valuation Cert.ReferenceIdeal.τ Cert.ReferenceIdeal.sig (Elt Ideal))

/-- The reference starts from the kernel's arguments. -/
structure Same : Prop where
  a0 : V (Proc.devRef .tc Cert.ReferenceIdeal.main_arg0) = m ((c : Thread nD τ).loc Cert.KernelIdeal.main_arg0)
  a1 : V (Proc.devRef .tc Cert.ReferenceIdeal.main_arg1) = m ((c : Thread nD τ).loc Cert.KernelIdeal.main_arg1)
  a2 : V (Proc.devRef .tc Cert.ReferenceIdeal.main_arg2) = m ((c : Thread nD τ).loc Cert.KernelIdeal.main_arg2)
  a3 : V (Proc.devRef .tc Cert.ReferenceIdeal.main_arg3) = m ((c : Thread nD τ).loc Cert.KernelIdeal.main_arg3)
  a4 : V (Proc.devRef .tc Cert.ReferenceIdeal.main_arg4) = m ((c : Thread nD τ).loc Cert.KernelIdeal.main_arg4)
  a5 : V (Proc.devRef .tc Cert.ReferenceIdeal.main_arg5) = m ((c : Thread nD τ).loc Cert.KernelIdeal.main_arg5)
  a6 : V (Proc.devRef .tc Cert.ReferenceIdeal.main_arg6) = m ((c : Thread nD τ).loc Cert.KernelIdeal.main_arg6)
  a7 : V (Proc.devRef .tc Cert.ReferenceIdeal.main_arg7) = m ((c : Thread nD τ).loc Cert.KernelIdeal.main_arg7)

/-- Every element of every argument is real. -/
structure Finite : Prop where
  a0 : ∀ i, Fin' (vidK m c i)
  a1 : ∀ i : Cert.KernelIdeal.S1x1x768.Idx, Fin' (m ((c : Thread nD τ).loc Cert.KernelIdeal.main_arg1) i)
  a2 : ∀ i : Cert.KernelIdeal.S768x768.Idx, Fin' (m ((c : Thread nD τ).loc Cert.KernelIdeal.main_arg2) i)
  a3 : ∀ i : Cert.KernelIdeal.S768.Idx, Fin' (m ((c : Thread nD τ).loc Cert.KernelIdeal.main_arg3) i)
  a4 : ∀ i : Cert.KernelIdeal.S768x768.Idx, Fin' (m ((c : Thread nD τ).loc Cert.KernelIdeal.main_arg4) i)
  a5 : ∀ i : Cert.KernelIdeal.S768.Idx, Fin' (m ((c : Thread nD τ).loc Cert.KernelIdeal.main_arg5) i)
  a6 : ∀ i : Cert.KernelIdeal.S3x768.Idx, Fin' (m ((c : Thread nD τ).loc Cert.KernelIdeal.main_arg6) i)
  a7 : ∀ i : Cert.KernelIdeal.S768.Idx, Fin' (m ((c : Thread nD τ).loc Cert.KernelIdeal.main_arg7) i)

variable {m c V}

theorem vid_eq (h : Same m c V) (i : Cert.KernelIdeal.S1x2x32x3x224x224.Idx) : Cert.ReferenceIdeal.Hand.vid V i = vidK m c i :=
  congrFun ((Cert.ReferenceIdeal.Hand.w_main_arg0 V).trans h.a0) i

/-- The scores agree. -/
theorem row_eq (h : Same m c V) (v : Fin 2) (t : Fin 32) : Cert.ReferenceIdeal.Hand.rowR V v t = rowK m c v t := by
  refine (Cert.ReferenceIdeal.Hand.v126_at V v t).trans ?_
  rw [Cert.ReferenceIdeal.Hand.softR_eq]
  refine Eq.trans ?_ (Cert.KernelIdeal.Hand.scoresOut_at m c v t).symm
  refine congrArg (fun s => spline (soft s) t) (congrFun (scores_congr ?_ ?_ ?_ ?_ ?_ ?_ ?_ ?_) v)
  · funext v t ch i j; exact vid_eq h _
  · funext x; exact congrFun ((Cert.ReferenceIdeal.Hand.w_main_arg1 V).trans h.a1) _
  · funext x e; exact congrFun ((Cert.ReferenceIdeal.Hand.w_main_arg2 V).trans h.a2) _
  · funext x; exact congrFun ((Cert.ReferenceIdeal.Hand.w_main_arg3 V).trans h.a3) _
  · funext x e; exact congrFun ((Cert.ReferenceIdeal.Hand.w_main_arg4 V).trans h.a4) _
  · funext x; exact congrFun ((Cert.ReferenceIdeal.Hand.w_main_arg5 V).trans h.a5) _
  · funext x e; exact congrFun ((Cert.ReferenceIdeal.Hand.w_main_arg6 V).trans h.a6) _
  · funext x; exact congrFun ((Cert.ReferenceIdeal.Hand.w_main_arg7 V).trans h.a7) _

/-- The scores are real. -/
theorem row_fin (r : Finite m c) (v : Fin 2) (t : Fin 32) : Fin' (rowK m c v t) := by
  unfold rowK
  rw [Cert.KernelIdeal.Hand.scoresOut_at]
  exact fin_spline (fin_soft (fin_scores _ _ _ _ _ _ _ _ (fun _ _ _ _ _ => r.a0 _) (fun _ => r.a1 _) (fun _ _ => r.a2 _) (fun _ => r.a3 _)
    (fun _ _ => r.a4 _) (fun _ => r.a5 _) (fun _ _ => r.a6 _) (fun _ => r.a7 _) v)) t

theorem idx3 (i : Cert.KernelIdeal.S1x2x32.Idx) : i = ix3 0 (i 1) (i 2) := by
  funext a; fin_cases a
  · exact Fin.ext (Nat.lt_one_iff.mp (i 0).isLt)
  · rfl
  · rfl

theorem idx6 (i : Cert.KernelIdeal.S1x2x8x3x224x224.Idx) : i = ix6 0 (i 1) (i 2) (i 3) (i 4) (i 5) := by
  funext a; fin_cases a
  · exact Fin.ext (Nat.lt_one_iff.mp (i 0).isLt)
  · rfl
  · rfl
  · rfl
  · rfl
  · rfl

/-- The second results agree. -/
theorem second (h : Same m c V) (i : Cert.KernelIdeal.S1x2x32.Idx) :
    Cert.ReferenceIdeal.Hand.W V Cert.ReferenceIdeal.main_v126 i = V5 m (outsB m) c Cert.KernelIdeal.main_v10 i := by
  rw [idx3 i]
  exact (row_eq h (i 1) (i 2)).trans (Cert.KernelIdeal.Hand.v10_at m c (i 1) (i 2)).symm

/-- The first results agree. -/
theorem first (h : Same m c V) (r : Finite m c) (i : Cert.KernelIdeal.S1x2x8x3x224x224.Idx) :
    Cert.ReferenceIdeal.Hand.W V Cert.ReferenceIdeal.main_v145 i = V5 m (outsB m) c Cert.KernelIdeal.main_v9 i := by
  rw [idx6 i]
  refine (Cert.ReferenceIdeal.Hand.v145_at V (fun i => by rw [vid_eq h]; exact r.a0 i) (i 1) (i 2) (i 3) (i 4) (i 5)).trans ?_
  refine Eq.trans ?_ (Cert.KernelIdeal.Hand.v9_at m c (i 1) (i 2) (fun k => (row_fin r (i 1) k).ne_bot) (i 3) (i 4) (i 5)).symm
  rw [vid_eq h]
  unfold Cert.ReferenceIdeal.Hand.best
  rw [show Cert.ReferenceIdeal.Hand.rowR V (i 1) = rowK m c (i 1) from funext fun t => row_eq h (i 1) t]

/-- What a run leaves, by the name that the modules on the reference use. -/
theorem leaves (V : Valuation Cert.ReferenceIdeal.τ Cert.ReferenceIdeal.sig (Elt Ideal)) (r : Ref Cert.ReferenceIdeal.sig .tc) :
    StableHlo.after Cert.ReferenceIdeal.Hand.ops V (Proc.devRef .tc r) = Cert.ReferenceIdeal.Hand.W V r := rfl

theorem second_all (h : Same m c V) : StableHlo.after Cert.ReferenceIdeal.Hand.ops V (Proc.devRef .tc Cert.ReferenceIdeal.main_v126) = V5 m (outsB m) c Cert.KernelIdeal.main_v10 :=
  (leaves V Cert.ReferenceIdeal.main_v126).trans (funext fun i => second h i)

theorem first_all (h : Same m c V) (r : Finite m c) : StableHlo.after Cert.ReferenceIdeal.Hand.ops V (Proc.devRef .tc Cert.ReferenceIdeal.main_v145) = V5 m (outsB m) c Cert.KernelIdeal.main_v9 :=
  (leaves V Cert.ReferenceIdeal.main_v145).trans (funext fun i => first h r i)
end

end Cert.Value

end
-- ==== Proof.lean ====
module

public import proofs.«01_k».proof.Defs
public import proofs.«01_k».proof.Proof.K.Ends
public import proofs.«01_k».proof.Proof.KI.Ends
public import proofs.«01_k».proof.Proof.RI.Ends
public import proofs.«01_k».proof.Proof.Value
public import proofs.«01_k».proof.Proof.Gen.Pre_finite_inputs
public import Idealize.ShloMosaic.Adequacy
public import Idealize.ShloMosaic.Init

@[expose] public section

noncomputable section

namespace Cert.Proof

open Idealize.ShloMosaic Idealize.ShloMosaic.TcCoe Idealize.SL.Sem

/-- Each named constant is its table's value. -/
theorem constants : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

theorem frameK : Cert.quiescent_Kernel (hKernel := Cert.Kernel.Gen.facts) := fun m g _ =>
  (θ_run _ _ _).mono (fun _ h => ⟨fun c => (h.1 c).2.2, h.2⟩) (Cert.Kernel.Hand.ends m g)

theorem frameKI : Cert.quiescent_KernelIdeal (hKernelIdeal := Cert.KernelIdeal.Gen.facts) := fun m g _ =>
  (θ_run _ _ _).mono (fun _ h => ⟨fun c => (h.1 c).2.2, h.2⟩) (Cert.KernelIdeal.Hand.ends m g)

theorem frameRI : Cert.quiescent_ReferenceIdeal (hReferenceIdeal := Cert.ReferenceIdeal.Gen.facts) := fun m g _ =>
  (θ_run _ _ _).mono (fun _ h => ⟨fun c => (h.1 c).2.2, h.2⟩) (Cert.ReferenceIdeal.Hand.ends m g)

theorem frameKI_pre : Cert.quiescent_KernelIdeal_pre_finite_inputs (hKernelIdeal := Cert.KernelIdeal.Gen.facts) (hPre_finite_inputs := Cert.Pre_finite_inputs.Gen.facts) :=
  fun m g _ => (θ_run _ _ _).mono (fun _ h => ⟨fun c => (h.1 c).2.2, h.2⟩) (Cert.KernelIdeal.Hand.ends m g)

theorem frameRI_pre : Cert.quiescent_ReferenceIdeal_pre_finite_inputs (hReferenceIdeal := Cert.ReferenceIdeal.Gen.facts) (hPre_finite_inputs := Cert.Pre_finite_inputs.Gen.facts) :=
  fun m g _ => (θ_run _ _ _).mono (fun _ h => ⟨fun c => (h.1 c).2.2, h.2⟩) (Cert.ReferenceIdeal.Hand.ends m g)

/-- Both programs leave the same two results: the kernel's. -/
theorem value : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  refine ⟨fun c => Cert.KernelIdeal.Gen.V5 m (Cert.KernelIdeal.Hand.outsB m) c Cert.KernelIdeal.main_v9,
    fun c => Cert.KernelIdeal.Gen.V5 m (Cert.KernelIdeal.Hand.outsB m) c Cert.KernelIdeal.main_v10,
    (θ_run _ _ _).mono (fun _ h => h.1) (Cert.KernelIdeal.Hand.ends m g),
    (θ_run _ _ _).mono (fun _ h c => ?_) (Cert.ReferenceIdeal.Hand.ends m' g')⟩
  obtain ⟨h0, h1, h2, h3, h4, h5, h6, h7⟩ := hargs c
  obtain ⟨r0, r1, r2, r3, r4, r5, r6, r7⟩ := Cert.Pre_finite_inputs.finite _ _ _ _ _ _ _ _ (hpre c)
  have hs : Cert.Value.Same m c (StableHlo.launchContents m' c) := ⟨h0, h1, h2, h3, h4, h5, h6, h7⟩
  have hr : Cert.Value.Finite m c := ⟨r0, r1, r2, r3, r4, r5, r6, r7⟩
  have s0 := Cert.Value.first_all hs hr
  have s1 := Cert.Value.second_all hs
  obtain ⟨e0, e1, hk⟩ := h.1 c
  exact ⟨e0.trans s0, e1.trans s1, hk⟩

theorem claim : Cert.Claim :=
  ⟨Cert.Kernel.Gen.facts, Cert.KernelIdeal.Gen.facts, Cert.ReferenceIdeal.Gen.facts, Cert.Pre_finite_inputs.Gen.facts,
    frameK, frameKI, frameKI_pre, frameRI, frameRI_pre, constants, value⟩

end Cert.Proof

end
